-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_known_experts : Cert.Pre_known_experts.Facts] (m : (ℓ : Loc Cert.Kernel4.nD Cert.Kernel4.τ Cert.Kernel4.sig) → Buf (Elt Bits) ℓ) : Prop :=
  ∀ c : Dev Cert.Kernel4.nD,
    (Cert.Pre_known_experts.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_known_experts : Cert.Pre_known_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_known_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal [hPre_known_experts : Cert.Pre_known_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_known_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] [hPre_known_experts : Cert.Pre_known_experts.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_known_experts : Cert.Pre_known_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] [hPre_known_experts : Cert.Pre_known_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_on_routing_pre_finite_logits [hKernelIdeal : Cert.KernelIdeal.Facts] [hReferenceIdeal : Cert.ReferenceIdeal.Facts] [hPre_finite_logits : Cert.Pre_finite_logits.Facts] [hOn_routing : Cert.On_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 128]⟩ : Shape).Idx, (Cert.On_routing.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v0_0) i = v0 c i)
          ∧ (∀ i : (⟨2, ![1, 128]⟩ : Shape).Idx, (Cert.On_routing.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v0_1) i = v1 c i)
          ∧ (∀ i : (⟨2, ![8, 32768]⟩ : Shape).Idx, (Cert.On_routing.fn (F := Ideal) (m ((c.tc : Thread Cert.KernelIdeal.nD Cert.KernelIdeal.τ).loc Cert.KernelIdeal.main_arg0))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 128]⟩ : Shape).Idx, (Cert.On_routing.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v60) i = v0 c i)
          ∧ (∀ i : (⟨2, ![1, 128]⟩ : Shape).Idx, (Cert.On_routing.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v65) i = v1 c i)
          ∧ (∀ i : (⟨2, ![8, 32768]⟩ : Shape).Idx, (Cert.On_routing.fn (F := Ideal) (m ((c.tc : Thread Cert.KernelIdeal.nD Cert.KernelIdeal.τ).loc Cert.KernelIdeal.main_arg0))).2.2 i = 1#1 → r.2.mem ((c.tc : Thread Cert.ReferenceIdeal.nD Cert.ReferenceIdeal.τ).loc Cert.ReferenceIdeal.main_v67) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_on_hidden_rows [hKernel3Ideal : Cert.Kernel3Ideal.Facts] [hReference3Ideal : Cert.Reference3Ideal.Facts] [hOn_hidden_rows : Cert.On_hidden_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![32768, 1024]⟩ : Shape).Idx, (Cert.On_hidden_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).1 i = 1#1 → r.2.mem ((c.tc : Thread Cert.Kernel3Ideal.nD Cert.Kernel3Ideal.τ).loc Cert.Kernel3Ideal.main_v38_0) i = v0 c i)
          ∧ (∀ i : (⟨2, ![262144, 128]⟩ : Shape).Idx, (Cert.On_hidden_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.1 i = 1#1 → r.2.mem ((c.tc : Thread Cert.Kernel3Ideal.nD Cert.Kernel3Ideal.τ).loc Cert.Kernel3Ideal.main_v38_1) i = v1 c i)
          ∧ (∀ i : (⟨2, ![32768, 128]⟩ : Shape).Idx, (Cert.On_hidden_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.2 i = 1#1 → r.2.mem ((c.tc : Thread Cert.Kernel3Ideal.nD Cert.Kernel3Ideal.τ).loc Cert.Kernel3Ideal.main_v38_2) i = v2 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![32768, 1024]⟩ : Shape).Idx, (Cert.On_hidden_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).1 i = 1#1 → r.2.mem ((c.tc : Thread Cert.Reference3Ideal.nD Cert.Reference3Ideal.τ).loc Cert.Reference3Ideal.main_v110) i = v0 c i)
          ∧ (∀ i : (⟨2, ![262144, 128]⟩ : Shape).Idx, (Cert.On_hidden_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.1 i = 1#1 → r.2.mem ((c.tc : Thread Cert.Reference3Ideal.nD Cert.Reference3Ideal.τ).loc Cert.Reference3Ideal.main_v111) i = v1 c i)
          ∧ (∀ i : (⟨2, ![32768, 128]⟩ : Shape).Idx, (Cert.On_hidden_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.2 i = 1#1 → r.2.mem ((c.tc : Thread Cert.Reference3Ideal.nD Cert.Reference3Ideal.τ).loc Cert.Reference3Ideal.main_v109) i = v2 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_on_used_blocks [hKernel4Ideal : Cert.Kernel4Ideal.Facts] [hReference4Ideal : Cert.Reference4Ideal.Facts] [hPre_known_experts : Cert.Pre_known_experts.Facts] [hOn_used_blocks : Cert.On_used_blocks.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![655360, 128]⟩ : Shape).Idx, (Cert.On_used_blocks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) i = 1#1 → r.2.mem ((c.tc : Thread Cert.Kernel4Ideal.nD Cert.Kernel4Ideal.τ).loc Cert.Kernel4Ideal.main_v0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![655360, 128]⟩ : Shape).Idx, (Cert.On_used_blocks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) i = 1#1 → r.2.mem ((c.tc : Thread Cert.Reference4Ideal.nD Cert.Reference4Ideal.τ).loc Cert.Reference4Ideal.main_v27) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts) (hPre_known_experts : Cert.Pre_known_experts.Facts) (hOn_routing : Cert.On_routing.Facts) (hOn_hidden_rows : Cert.On_hidden_rows.Facts) (hOn_used_blocks : Cert.On_used_blocks.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_known_experts := hPre_known_experts)
    ∧ quiescent_Kernel4Ideal (hKernel4Ideal := hKernel4Ideal) (hPre_known_experts := hPre_known_experts)
    ∧ quiescent_Reference4Ideal (hReference4Ideal := hReference4Ideal) (hPre_known_experts := hPre_known_experts)
    ∧ preserves_Kernel_KernelIdeal
    ∧ algebraic_KernelIdeal_ReferenceIdeal_on_routing_pre_finite_logits (hKernelIdeal := hKernelIdeal) (hReferenceIdeal := hReferenceIdeal) (hPre_finite_logits := hPre_finite_logits) (hOn_routing := hOn_routing)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_hidden_rows (hKernel3Ideal := hKernel3Ideal) (hReference3Ideal := hReference3Ideal) (hOn_hidden_rows := hOn_hidden_rows)
    ∧ preserves_Kernel4_Kernel4Ideal
    ∧ algebraic_Kernel4Ideal_Reference4Ideal_on_used_blocks (hKernel4Ideal := hKernel4Ideal) (hReference4Ideal := hReference4Ideal) (hPre_known_experts := hPre_known_experts) (hOn_used_blocks := hOn_used_blocks)
-- ==== On_hidden_rows.lean ====
abbrev S32768x1024 : Shape := ⟨2, ![32768, 1024]⟩
abbrev S72x32768x128 : Shape := ⟨3, ![72, 32768, 128]⟩
abbrev S4x8192x1024 : Shape := ⟨3, ![4, 8192, 1024]⟩
abbrev S4x6x1024 : Shape := ⟨3, ![4, 6, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S262144x128 : Shape := ⟨2, ![262144, 128]⟩
abbrev S32768x128 : Shape := ⟨2, ![32768, 128]⟩

class Facts : Prop where
  bcast_S_S32768x1024 : S_.BroadcastsInDim S32768x1024 (![] : Fin 0 → Fin S32768x1024.rank)
  bcast_S_S262144x128 : S_.BroadcastsInDim S262144x128 (![] : Fin 0 → Fin S262144x128.rank)
  bcast_S_S32768x128 : S_.BroadcastsInDim S32768x128 (![] : Fin 0 → Fin S32768x128.rank)

variable [Facts]

def fn {F : FTy → Type} [FloatOps F] (main_arg0 : FVec F S32768x1024 .f32) (main_arg1 : FVec F S32768x1024 .f32) (main_arg2 : FVec F S72x32768x128 .f32) (main_arg3 : FVec F S4x8192x1024 .f32) (main_arg4 : FVec F S4x6x1024 .f32) (main_arg5 : FVec F S1x1024x1024 .f32) (main_arg6 : FVec F S1x1024x1024 .f32) (main_arg7 : FVec F S1x1024x1024 .f32) (main_arg8 : FVec F S1x1024 .f32) (main_arg9 : FVec F S1x1024 .f32) (main_arg10 : FVec F S1x1024x4 .f32) (main_arg11 : FVec F S1x4 .f32) (main_arg12 : FVec F S1x1024x32 .f32) (main_arg13 : FVec F S1x32 .f32) : IVec S32768x1024 1 × IVec S262144x128 1 × IVec S32768x128 1 :=
  let main_c : IVec S_ 1 := constantI S_ 1 1#1
  let main_v0 : IVec S32768x1024 1 := broadcastInDim S32768x1024 ![] bcast_S_S32768x1024 main_c
  let main_c_0 : IVec S_ 1 := constantI S_ 1 1#1
  let main_v1 : IVec S262144x128 1 := broadcastInDim S262144x128 ![] bcast_S_S262144x128 main_c_0
  let main_c_1 : IVec S_ 1 := constantI S_ 1 0#1
  let main_v2 : IVec S32768x128 1 := broadcastInDim S32768x128 ![] bcast_S_S32768x128 main_c_1
  (main_v0, main_v1, main_v2)
-- ==== On_routing.lean ====
abbrev S32768x128 : Shape := ⟨2, ![32768, 128]⟩
abbrev S8x32768 : Shape := ⟨2, ![8, 32768]⟩
abbrev S_ : Shape := ⟨0, ![]⟩
abbrev S1x128 : Shape := ⟨2, ![1, 128]⟩

class Facts : Prop where
  bcast_S_S32768x128 : S_.BroadcastsInDim S32768x128 (![] : Fin 0 → Fin S32768x128.rank)
  bcast_S_S1x128 : S_.BroadcastsInDim S1x128 (![] : Fin 0 → Fin S1x128.rank)
  bcast_S_S8x32768 : S_.BroadcastsInDim S8x32768 (![] : Fin 0 → Fin S8x32768.rank)

variable [Facts]

def fn {F : FTy → Type} [FloatOps F] (main_arg0 : FVec F S32768x128 .f32) : IVec S32768x128 1 × IVec S1x128 1 × IVec S8x32768 1 :=
  let main_v0 : IVec S32768x128 32 := iotaInDim S32768x128 32 1
  let main_v1 : IVec S8x32768 32 := iotaInDim S8x32768 32 0
  let main_c : IVec S_ 32 := constantI S_ 32 4#32
  let main_v2 : IVec S32768x128 32 := broadcastInDim S32768x128 ![] bcast_S_S32768x128 main_c
  let main_v3 : IVec S32768x128 1 := cmpi .slt main_v0 main_v2
  let main_c_0 : IVec S_ 32 := constantI S_ 32 5#32
  let main_v4 : IVec S32768x128 32 := broadcastInDim S32768x128 ![] bcast_S_S32768x128 main_c_0
  let main_v5 : IVec S32768x128 1 := cmpi .sgt main_v0 main_v4
  let main_v6 : IVec S32768x128 1 := ori main_v3 main_v5
  let main_c_1 : IVec S_ 1 := constantI S_ 1 1#1
  let main_v7 : IVec S1x128 1 := broadcastInDim S1x128 ![] bcast_S_S1x128 main_c_1
  let main_c_2 : IVec S_ 32 := constantI S_ 32 4#32
  let main_v8 : IVec S8x32768 32 := broadcastInDim S8x32768 ![] bcast_S_S8x32768 main_c_2
  let main_v9 : IVec S8x32768 1 := cmpi .slt main_v1 main_v8
  let main_c_3 : IVec S_ 32 := constantI S_ 32 5#32
  let main_v10 : IVec S8x32768 32 := broadcastInDim S8x32768 ![] bcast_S_S8x32768 main_c_3
  let main_v11 : IVec S8x32768 1 := cmpi .sgt main_v1 main_v10
  let main_v12 : IVec S8x32768 1 := ori main_v9 main_v11
  (main_v6, main_v7, main_v12)
-- ==== On_used_blocks.lean ====
abbrev S160 : Shape := ⟨1, ![160]⟩
abbrev S1 : Shape := ⟨1, ![1]⟩
abbrev S655360x128 : Shape := ⟨2, ![655360, 128]⟩
abbrev S32x1024x512 : Shape := ⟨3, ![32, 1024, 512]⟩
abbrev S32x512x1024 : Shape := ⟨3, ![32, 512, 1024]⟩
abbrev S160x4096x128 : Shape := ⟨3, ![160, 4096, 128]⟩
abbrev S_ : Shape := ⟨0, ![]⟩

class Facts : Prop where
  shapeCasts_S1_S_ : S1.ShapeCasts S_
  bcast_S_S160x4096x128 : S_.BroadcastsInDim S160x4096x128 (![] : Fin 0 → Fin S160x4096x128.rank)
  shapeCasts_S160x4096x128_S655360x128 : S160x4096x128.ShapeCasts S655360x128

variable [Facts]

def fn {F : FTy → Type} [FloatOps F] (main_arg0 : IVec S160 32) (main_arg1 : IVec S1 32) (main_arg2 : FVec F S655360x128 .f32) (main_arg3 : FVec F S32x1024x512 .f32) (main_arg4 : FVec F S32x1024x512 .f32) (main_arg5 : FVec F S32x512x1024 .f32) : IVec S655360x128 1 :=
  let main_v0 : IVec S160x4096x128 32 := iotaInDim S160x4096x128 32 0
  let main_v1 : IVec S_ 32 := shapeCast S_ main_arg1 shapeCasts_S1_S_
  let main_v2 : IVec S160x4096x128 32 := broadcastInDim S160x4096x128 ![] bcast_S_S160x4096x128 main_v1
  let main_v3 : IVec S160x4096x128 1 := cmpi .slt main_v0 main_v2
  let main_v4 : IVec S655360x128 1 := shapeCast S655360x128 main_v3 shapeCasts_S160x4096x128_S655360x128
  main_v4
-- ==== Pre_finite_logits.lean ====
abbrev S32768x128 : Shape := ⟨2, ![32768, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : FVec F S32768x128 .f32) : IVec S32768x128 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  main_v2
-- ==== Pre_known_experts.lean ====
abbrev S160 : Shape := ⟨1, ![160]⟩
abbrev S1 : Shape := ⟨1, ![1]⟩
abbrev S655360x128 : Shape := ⟨2, ![655360, 128]⟩
abbrev S32x1024x512 : Shape := ⟨3, ![32, 1024, 512]⟩
abbrev S32x512x1024 : Shape := ⟨3, ![32, 512, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S655360x128 .f32) (main_arg3 : FVec F S32x1024x512 .f32) (main_arg4 : FVec F S32x1024x512 .f32) (main_arg5 : FVec F S32x512x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Kernel.lean ====
abbrev S32768x128 : Shape := ⟨2, ![32768, 128]⟩
abbrev S1x128 : Shape := ⟨2, ![1, 128]⟩
abbrev S8x32768 : Shape := ⟨2, ![8, 32768]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S512x512 : Shape := ⟨2, ![512, 512]⟩
abbrev S128 : Shape := ⟨1, ![128]⟩
abbrev S128x128 : Shape := ⟨2, ![128, 128]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x128, .f32⟩
  | .hbm, ⟨3, _⟩ => ⟨S8x32768, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S8x512, .f32⟩
  | .local _ .vmem, ⟨6, _⟩ => ⟨S8x512, .f32⟩
  | .local _ .vmem, ⟨7, _⟩ => ⟨S1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x128 : Shape := ⟨2, ![32768, 128]⟩
abbrev S32768x4 : Shape := ⟨2, ![32768, 4]⟩
abbrev S_ : Shape := ⟨0, ![]⟩
abbrev S32768 : Shape := ⟨1, ![32768]⟩
abbrev S32768x1 : Shape := ⟨2, ![32768, 1]⟩
abbrev S32768x32 : Shape := ⟨2, ![32768, 32]⟩
abbrev S32768x4x8 : Shape := ⟨3, ![32768, 4, 8]⟩
abbrev S32768x2 : Shape := ⟨2, ![32768, 2]⟩
abbrev S32768x8 : Shape := ⟨2, ![32768, 8]⟩
abbrev S65536 : Shape := ⟨1, ![65536]⟩
abbrev S32 : Shape := ⟨1, ![32]⟩
abbrev S65536x1 : Shape := ⟨2, ![65536, 1]⟩
abbrev S32768x124 : Shape := ⟨2, ![32768, 124]⟩
abbrev S1x4 : Shape := ⟨2, ![1, 4]⟩
abbrev S1x32 : Shape := ⟨2, ![1, 32]⟩
abbrev S1x92 : Shape := ⟨2, ![1, 92]⟩
abbrev S1x128 : Shape := ⟨2, ![1, 128]⟩
abbrev S8x32768 : Shape := ⟨2, ![8, 32768]⟩

abbrev nBuf : Space → Nat
  | .hbm => 94
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x4, .f32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x4, .f32⟩
  | .hbm, ⟨9, _⟩ => ⟨S32768x4, .f32⟩
  | .hbm, ⟨10, _⟩ => ⟨S32768x4, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x4, .f32⟩
  | .hbm, ⟨15, _⟩ => ⟨S32768x4, .f32⟩
  | .hbm, ⟨16, _⟩ => ⟨S32768x1, .f32⟩
  | .hbm, ⟨17, _⟩ => ⟨S32768x1, .i32⟩
  | .hbm, ⟨18, _⟩ => ⟨S32768x32, .f32⟩
  | .hbm, ⟨19, _⟩ => ⟨S32768x4x8, .f32⟩
  | .hbm, ⟨20, _⟩ => ⟨S32768, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x1, .i32⟩
  | .hbm, ⟨38, _⟩ => ⟨S32768x2, .i32⟩
  | .hbm, ⟨39, _⟩ => ⟨S32768x8, .f32⟩
  | .hbm, ⟨40, _⟩ => ⟨S32768x2, .f32⟩
  | .hbm, ⟨41, _⟩ => ⟨S32768x2, .i32⟩
  | .hbm, ⟨42, _⟩ => ⟨S_, .f32⟩
  | .hbm, ⟨43, _⟩ => ⟨S32768, .f32⟩
  | .hbm, ⟨44, _⟩ => ⟨S_, .f32⟩
  | .hbm, ⟨45, _⟩ => ⟨S32768, .f32⟩
  | .hbm, ⟨46, _⟩ => ⟨S32768, .f32⟩
  | .hbm, ⟨47, _⟩ => ⟨S32768x1, .f32⟩
  | .hbm, ⟨48, _⟩ => ⟨S32768x2, .f32⟩
  | .hbm, ⟨49, _⟩ => ⟨S32768x2, .f32⟩
  | .hbm, ⟨50, _⟩ => ⟨S32768x2, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S32768x2, .f32⟩
  | .hbm, ⟨55, _⟩ => ⟨S32768x2, .f32⟩
  | .hbm, ⟨56, _⟩ => ⟨S32768x2, .f32⟩
  | .hbm, ⟨57, _⟩ => ⟨S32768x2, .f32⟩
  | .hbm, ⟨58, _⟩ => ⟨S_, .i32⟩
  | .hbm, ⟨59, _⟩ => ⟨S32768x1, .i32⟩
  | .hbm, ⟨60, _⟩ => ⟨S32768x1, .i32⟩
  | .hbm, ⟨61, _⟩ => ⟨S32768x2, .i32⟩
  | .hbm, ⟨62, _⟩ => ⟨S32768x2, .i32⟩
  | .hbm, ⟨63, _⟩ => ⟨S65536, .i32⟩
  | .hbm, ⟨64, _⟩ => ⟨S_, .i32⟩
  | .hbm, ⟨65, _⟩ => ⟨S32, .i32⟩
  | .hbm, ⟨66, _⟩ => ⟨S_, .i32⟩
  | .hbm, ⟨67, _⟩ => ⟨S_, .i32⟩
  | .hbm, ⟨68, _⟩ => ⟨S65536, .i32⟩
  | .hbm, ⟨69, _⟩ => ⟨S65536, .i32⟩
  | .hbm, ⟨70, _⟩ => ⟨S_, .i32⟩
  | .hbm, ⟨71, _⟩ => ⟨S65536, .i32⟩
  | .hbm, ⟨72, _⟩ => ⟨S65536, .i1⟩
  | .hbm, ⟨73, _⟩ => ⟨S_, .i32⟩
  | .hbm, ⟨74, _⟩ => ⟨S65536, .i32⟩
  | .hbm, ⟨75, _⟩ => ⟨S65536, .i32⟩
  | .hbm, ⟨76, _⟩ => ⟨S65536, .i32⟩
  | .hbm, ⟨77, _⟩ => ⟨S65536x1, .i32⟩
  | .hbm, ⟨78, _⟩ => ⟨S_, .i32⟩
  | .hbm, ⟨79, _⟩ => ⟨S65536, .i32⟩
  | .hbm, ⟨80, _⟩ => ⟨S32, .i32⟩
  | .hbm, ⟨81, _⟩ => ⟨S32768x2, .f32⟩
  | .hbm, ⟨82, _⟩ => ⟨S_, .f32⟩
  | .hbm, ⟨83, _⟩ => ⟨S32768x124, .f32⟩
  | .hbm, ⟨84, _⟩ => ⟨S32768x128, .f32⟩
  | .hbm, ⟨85, _⟩ => ⟨S_, .f32⟩
  | .hbm, ⟨86, _⟩ => ⟨S1x4, .f32⟩
  | .hbm, ⟨87, _⟩ => ⟨S32, .f32⟩
  | .hbm, ⟨88, _⟩ => ⟨S1x32, .f32⟩
  | .hbm, ⟨89, _⟩ => ⟨S_, .f32⟩
  | .hbm, ⟨90, _⟩ => ⟨S1x92, .f32⟩
  | .hbm, ⟨91, _⟩ => ⟨S1x128, .f32⟩
  | .hbm, ⟨92, _⟩ => ⟨S32768x8, .f32⟩
  | .hbm, ⟨93, _⟩ => ⟨S8x32768, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_values_5 : Ref sig .tc := ⟨.hbm, 40, rfl⟩
abbrev main_indices_6 : Ref sig .tc := ⟨.hbm, 41, rfl⟩
abbrev main_cst_7 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_11 : Ref sig .tc := ⟨.hbm, 64, rfl⟩
abbrev main_v48 : Ref sig .tc := ⟨.hbm, 65, rfl⟩
abbrev main_c_12 : Ref sig .tc := ⟨.hbm, 66, rfl⟩
abbrev main_call0_v0 : Ref sig .tc := ⟨.hbm, 67, rfl⟩
abbrev main_call0_v1 : Ref sig .tc := ⟨.hbm, 68, rfl⟩
abbrev main_v49 : Ref sig .tc := ⟨.hbm, 69, rfl⟩
abbrev main_c_13 : Ref sig .tc := ⟨.hbm, 70, rfl⟩
abbrev main_v50 : Ref sig .tc := ⟨.hbm, 71, rfl⟩
abbrev main_v51 : Ref sig .tc := ⟨.hbm, 72, rfl⟩
abbrev main_c_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x6x1024 : Shape := ⟨3, ![4, 6, 1024]⟩
abbrev S1x1024x8728 : Shape := ⟨3, ![1, 1024, 8728]⟩
abbrev S1x8728 : Shape := ⟨2, ![1, 8728]⟩
abbrev S32768x1024 : Shape := ⟨2, ![32768, 1024]⟩
abbrev S1024x8728 : Shape := ⟨2, ![1024, 8728]⟩
abbrev S1024x24 : Shape := ⟨2, ![1024, 24]⟩
abbrev S1024x12 : Shape := ⟨2, ![1024, 12]⟩
abbrev S_ : Shape := ⟨0, ![]⟩
abbrev S1024x116 : Shape := ⟨2, ![1024, 116]⟩
abbrev S1024x256 : Shape := ⟨2, ![1024, 256]⟩
abbrev S1024x6656 : Shape := ⟨2, ![1024, 6656]⟩
abbrev S1024x2048 : Shape := ⟨2, ![1024, 2048]⟩
abbrev S1024x9216 : Shape := ⟨2, ![1024, 9216]⟩
abbrev S8728 : Shape := ⟨1, ![8728]⟩
abbrev S24 : Shape := ⟨1, ![24]⟩
abbrev S12 : Shape := ⟨1, ![12]⟩
abbrev S116 : Shape := ⟨1, ![116]⟩
abbrev S256 : Shape := ⟨1, ![256]⟩
abbrev S6656 : Shape := ⟨1, ![6656]⟩
abbrev S2048 : Shape := ⟨1, ![2048]⟩
abbrev S9216 : Shape := ⟨1, ![9216]⟩
abbrev S1x9216 : Shape := ⟨2, ![1, 9216]⟩
abbrev S72x32768x128 : Shape := ⟨3, ![72, 32768, 128]⟩
abbrev S2048x1024 : Shape := ⟨2, ![2048, 1024]⟩
abbrev S1x6x1024 : Shape := ⟨3, ![1, 6, 1024]⟩
abbrev S1024x1024 : Shape := ⟨2, ![1024, 1024]⟩
abbrev S1x1024 : Shape := ⟨2, ![1, 1024]⟩
abbrev S8x2048x128 : Shape := ⟨3, ![8, 2048, 128]⟩
abbrev S2048x1 : Shape := ⟨2, ![2048, 1]⟩
abbrev S1x1x1024 : Shape := ⟨3, ![1, 1, 1024]⟩
abbrev S2048x128 : Shape := ⟨2, ![2048, 128]⟩
abbrev S1x2048x128 : Shape := ⟨3, ![1, 2048, 128]⟩

abbrev nBuf : Space → Nat
  | .hbm => 34
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1x1024x8728, .f32⟩
  | .hbm, ⟨3, _⟩ => ⟨S1x8728, .f32⟩
  | .hbm, ⟨4, _⟩ => ⟨S32768x1024, .f32⟩
  | .hbm, ⟨5, _⟩ => ⟨S1024x8728, .f32⟩
  | .hbm, ⟨6, _⟩ => ⟨S1024x8728, .bf16⟩
  | .hbm, ⟨7, _⟩ => ⟨S1024x24, .bf16⟩
  | .hbm, ⟨8, _⟩ => ⟨S1024x12, .bf16⟩
  | .hbm, ⟨9, _⟩ => ⟨S_, .bf16⟩
  | .hbm, ⟨10, _⟩ => ⟨S1024x116, .bf16⟩
  | .hbm, ⟨11, _⟩ => ⟨S1024x12, .bf16⟩
  | .hbm, ⟨12, _⟩ => ⟨S_, .bf16⟩
  | .hbm, ⟨13, _⟩ => ⟨S1024x116, .bf16⟩
  | .hbm, ⟨14, _⟩ => ⟨S_, .bf16⟩
  | .hbm, ⟨15, _⟩ => ⟨S1024x256, .bf16⟩
  | .hbm, ⟨16, _⟩ => ⟨S1024x6656, .bf16⟩
  | .hbm, ⟨17, _⟩ => ⟨S1024x2048, .bf16⟩
  | .hbm, ⟨18, _⟩ => ⟨S1024x9216, .bf16⟩
  | .hbm, ⟨19, _⟩ => ⟨S8728, .f32⟩
  | .hbm, ⟨20, _⟩ => ⟨S24, .f32⟩
  | .hbm, ⟨21, _⟩ => ⟨S12, .f32⟩
  | .hbm, ⟨22, _⟩ => ⟨S_, .f32⟩
  | .hbm, ⟨23, _⟩ => ⟨S116, .f32⟩
  | .hbm, ⟨24, _⟩ => ⟨S12, .f32⟩
  | .hbm, ⟨25, _⟩ => ⟨S_, .f32⟩
  | .hbm, ⟨26, _⟩ => ⟨S116, .f32⟩
  | .hbm, ⟨27, _⟩ => ⟨S_, .f32⟩
  | .hbm, ⟨28, _⟩ => ⟨S256, .f32⟩
  | .hbm, ⟨29, _⟩ => ⟨S6656, .f32⟩
  | .hbm, ⟨30, _⟩ => ⟨S2048, .f32⟩
  | .hbm, ⟨31, _⟩ => ⟨S9216, .f32⟩
  | .hbm, ⟨32, _⟩ => ⟨S1x9216, .f32⟩
  | .hbm, ⟨33, _⟩ => ⟨S72x32768x128, .f32⟩
  | .local _ .vmem, ⟨0, _⟩ => ⟨S2048x1024, .f32⟩
  | .local _ .vmem, ⟨1, _⟩ => ⟨S2048x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S8x2048x128, .f32⟩
  | .local _ .vmem, ⟨9, _⟩ => ⟨S8x2048x128, .f32⟩
  | .local _ .vmem, ⟨10, _⟩ => ⟨S2048x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x8192x1024 : Shape := ⟨3, ![4, 8192, 1024]⟩
abbrev S4x6x1024 : Shape := ⟨3, ![4, 6, 1024]⟩
abbrev S1x1024x8728 : Shape := ⟨3, ![1, 1024, 8728]⟩
abbrev S1x8728 : Shape := ⟨2, ![1, 8728]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1024x8728 : Shape := ⟨2, ![1024, 8728]⟩
abbrev S4x8192x8728 : Shape := ⟨3, ![4, 8192, 8728]⟩
abbrev S8728 : Shape := ⟨1, ![8728]⟩
abbrev S1x1x8728 : Shape := ⟨3, ![1, 1, 8728]⟩
abbrev S32768x8728 : Shape := ⟨2, ![32768, 8728]⟩
abbrev S32768x116 : Shape := ⟨2, ![32768, 116]⟩
abbrev S32768x6656 : Shape := ⟨2, ![32768, 6656]⟩
abbrev S32768x12 : Shape := ⟨2, ![32768, 12]⟩
abbrev S32768x256 : Shape := ⟨2, ![32768, 256]⟩
abbrev S32768x2048 : Shape := ⟨2, ![32768, 2048]⟩
abbrev S32768x9216 : Shape := ⟨2, ![32768, 9216]⟩
abbrev S32768x72x128 : Shape := ⟨3, ![32768, 72, 128]⟩
abbrev S72x32768x128 : Shape := ⟨3, ![72, 32768, 128]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1x1024x8728, .f32⟩
  | .hbm, ⟨3, _⟩ => ⟨S1x8728, .f32⟩
  | .hbm, ⟨4, _⟩ => ⟨S4x1x1024, .f32⟩
  | .hbm, ⟨5, _⟩ => ⟨S4x1024, .f32⟩
  | .hbm, ⟨6, _⟩ => ⟨S4x1x1024, .f32⟩
  | .hbm, ⟨7, _⟩ => ⟨S4x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S1024x8728, .f32⟩
  | .hbm, ⟨41, _⟩ => ⟨S4x8192x8728, .f32⟩
  | .hbm, ⟨42, _⟩ => ⟨S8728, .f32⟩
  | .hbm, ⟨43, _⟩ => ⟨S1x1x8728, .f32⟩
  | .hbm, ⟨44, _⟩ => ⟨S4x8192x8728, .f32⟩
  | .hbm, ⟨45, _⟩ => ⟨S4x8192x8728, .f32⟩
  | .hbm, ⟨46, _⟩ => ⟨S32768x8728, .f32⟩
  | .hbm, ⟨47, _⟩ => ⟨S_, .f32⟩
  | .hbm, ⟨48, _⟩ => ⟨S32768x116, .f32⟩
  | .hbm, ⟨49, _⟩ => ⟨S32768x6656, .f32⟩
  | .hbm, ⟨50, _⟩ => ⟨S32768x12, .f32⟩
  | .hbm, ⟨51, _⟩ => ⟨S32768x12, .f32⟩
  | .hbm, ⟨52, _⟩ => ⟨S_, .f32⟩
  | .hbm, ⟨53, _⟩ => ⟨S32768x256, .f32⟩
  | .hbm, ⟨54, _⟩ => ⟨S32768x2048, .f32⟩
  | .hbm, ⟨55, _⟩ => ⟨S32768x9216, .f32⟩
  | .hbm, ⟨56, _⟩ => ⟨S32768x72x128, .f32⟩
  | .hbm, ⟨57, _⟩ => ⟨S72x32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel3.lean ====
abbrev S32768x1024 : Shape := ⟨2, ![32768, 1024]⟩
abbrev S72x32768x128 : Shape := ⟨3, ![72, 32768, 128]⟩
abbrev S4x8192x1024 : Shape := ⟨3, ![4, 8192, 1024]⟩
abbrev S4x6x1024 : Shape := ⟨3, ![4, 6, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S1024x128 : Shape := ⟨2, ![1024, 128]⟩
abbrev S1024x4 : Shape := ⟨2, ![1024, 4]⟩
abbrev S1 : Shape := ⟨1, ![1]⟩
abbrev S1024x32 : Shape := ⟨2, ![1024, 32]⟩
abbrev S1x128 : Shape := ⟨2, ![1, 128]⟩
abbrev S4 : Shape := ⟨1, ![4]⟩
abbrev S2 : Shape := ⟨1, ![2]⟩
abbrev S32 : Shape := ⟨1, ![32]⟩
abbrev S1024x1024 : Shape := ⟨2, ![1024, 1024]⟩
abbrev S1024 : Shape := ⟨1, ![1024]⟩
abbrev S1x1024x128 : Shape := ⟨3, ![1, 1024, 128]⟩
abbrev S2x1024x128 : Shape := ⟨3, ![2, 1024, 128]⟩
abbrev S262144x128 : Shape := ⟨2, ![262144, 128]⟩
abbrev S32768x128 : Shape := ⟨2, ![32768, 128]⟩
abbrev S512x1024 : Shape := ⟨2, ![512, 1024]⟩
abbrev S8x512x128 : Shape := ⟨3, ![8, 512, 128]⟩
abbrev S1x6x1024 : Shape := ⟨3, ![1, 6, 1024]⟩
abbrev S4096x128 : Shape := ⟨2, ![4096, 128]⟩
abbrev S512x128 : Shape := ⟨2, ![512, 128]⟩
abbrev S256x1024 : Shape := ⟨2, ![256, 1024]⟩
abbrev S1x256x128 : Shape := ⟨3, ![1, 256, 128]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩

abbrev nBuf : Space → Nat
  | .hbm => 63
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S72x32768x128, .f32⟩
  | .hbm, ⟨3, _⟩ => ⟨S4x8192x1024, .f32⟩
  | .hbm, ⟨4, _⟩ => ⟨S4x6x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S32768x1024, .f32⟩
  | .hbm, ⟨15, _⟩ => ⟨S_, .f32⟩
  | .hbm, ⟨16, _⟩ => ⟨S1024x128, .f32⟩
  | .hbm, ⟨17, _⟩ => ⟨S1024x4, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x32, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S_, .f32⟩
  | .hbm, ⟨30, _⟩ => ⟨S1x128, .f32⟩
  | .hbm, ⟨31, _⟩ => ⟨S4, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S32, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S32768x1024, .bf16⟩
  | .hbm, ⟨46, _⟩ => ⟨S32768x1024, .bf16⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S1024x1024, .f32⟩
  | .hbm, ⟨52, _⟩ => ⟨S1024x1024, .bf16⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1x1024x128, .bf16⟩
  | .hbm, ⟨58, _⟩ => ⟨S1x1024x128, .bf16⟩
  | .hbm, ⟨59, _⟩ => ⟨S2x1024x128, .bf16⟩
  | .hbm, ⟨60, _⟩ => ⟨S32768x1024, .f32⟩
  | .hbm, ⟨61, _⟩ => ⟨S262144x128, .f32⟩
  | .hbm, ⟨62, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | .local _ .vmem, ⟨7, _⟩ => ⟨S8x512x128, .f32⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S2x1024x128, .bf16⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S4096x128, .f32⟩
  | .local _ .vmem, ⟨22, _⟩ => ⟨S4096x128, .f32⟩
  | .local _ .vmem, ⟨23, _⟩ => ⟨S512x128, .f32⟩
  | .local _ .vmem, ⟨24, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x1024 : Shape := ⟨2, ![32768, 1024]⟩
abbrev S72x32768x128 : Shape := ⟨3, ![72, 32768, 128]⟩
abbrev S4x8192x1024 : Shape := ⟨3, ![4, 8192, 1024]⟩
abbrev S4x6x1024 : Shape := ⟨3, ![4, 6, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S4x1x1024 : Shape := ⟨3, ![4, 1, 1024]⟩
abbrev S4x1024 : Shape := ⟨2, ![4, 1024]⟩
abbrev S8x32768x128 : Shape := ⟨3, ![8, 32768, 128]⟩
abbrev S32768x8x128 : Shape := ⟨3, ![32768, 8, 128]⟩
abbrev S_ : Shape := ⟨0, ![]⟩
abbrev S1024x1024 : Shape := ⟨2, ![1024, 1024]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x4 : Shape := ⟨2, ![1024, 4]⟩
abbrev S32768x4 : Shape := ⟨2, ![32768, 4]⟩
abbrev S4 : Shape := ⟨1, ![4]⟩
abbrev S1024x32 : Shape := ⟨2, ![1024, 32]⟩
abbrev S32768x32 : Shape := ⟨2, ![32768, 32]⟩
abbrev S32 : Shape := ⟨1, ![32]⟩
abbrev S32768x92 : Shape := ⟨2, ![32768, 92]⟩
abbrev S32768x128 : Shape := ⟨2, ![32768, 128]⟩
abbrev S262144x128 : Shape := ⟨2, ![262144, 128]⟩

abbrev nBuf : Space → Nat
  | .hbm => 144
  | .vmem => 0
  | .smem => 0
  | _ => 0

abbrev hbmTy0_0 (i : Nat) : BufTy := match i % 128 with
  | 0 => ⟨S32768x1024, .f32⟩
  | 1 => ⟨S32768x1024, .f32⟩
  | 2 => ⟨S72x32768x128, .f32⟩
  | 3 => ⟨S4x8192x1024, .f32⟩
  | 4 => ⟨S4x6x1024, .f32⟩
  | 5 => ⟨S1x1024x1024, .f32⟩
  | 6 => ⟨S1x1024x1024, .f32⟩
  | 7 => ⟨S1x1024x1024, .f32⟩
  | 8 => ⟨S1x1024, .f32⟩
  | 9 => ⟨S1x1024, .f32⟩
  | 10 => ⟨S1x1024x4, .f32⟩
  | 11 => ⟨S1x4, .f32⟩
  | 12 => ⟨S1x1024x32, .f32⟩
  | 13 => ⟨S1x32, .f32⟩
  | 14 => ⟨S4x1x1024, .f32⟩
  | 15 => ⟨S4x1024, .f32⟩
  | 16 => ⟨S4x1x1024, .f32⟩
  | 17 => ⟨S4x1024, .f32⟩
  | 18 => ⟨S4x1x1024, .f32⟩
  | 19 => ⟨S4x1024, .f32⟩
  | 20 => ⟨S4x8192x1024, .f32⟩
  | 21 => ⟨S4x8192x1024, .f32⟩
  | 22 => ⟨S8x32768x128, .f32⟩
  | 23 => ⟨S32768x8x128, .f32⟩
  | 24 => ⟨S4x8192x1024, .f32⟩
  | 25 => ⟨S8x32768x128, .f32⟩
  | 26 => ⟨S32768x8x128, .f32⟩
  | 27 => ⟨S4x8192x1024, .f32⟩
  | 28 => ⟨S4x8192x1024, .f32⟩
  | 29 => ⟨S4x8192x1024, .f32⟩
  | 30 => ⟨S_, .f32⟩
  | 31 => ⟨S4x8192x1024, .f32⟩
  | 32 => ⟨S4x8192x1024, .f32⟩
  | 33 => ⟨S_, .f32⟩
  | 34 => ⟨S4x8192x1024, .f32⟩
  | 35 => ⟨S4x8192x1024, .f32⟩
  | 36 => ⟨S1024x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S_, .f32⟩
  | 42 => ⟨S4x8192x1024, .f32⟩
  | 43 => ⟨S4x8192x1024, .f32⟩
  | 44 => ⟨S_, .f32⟩
  | 45 => ⟨S4x8192x1024, .f32⟩
  | 46 => ⟨S4x8192x1024, .f32⟩
  | 47 => ⟨S1024x1024, .f32⟩
  | 48 => ⟨S4x8192x1024, .f32⟩
  | 49 => ⟨S4x8192x1024, .f32⟩
  | 50 => ⟨S4x8192x1024, .f32⟩
  | 51 => ⟨S4x1x1024, .f32⟩
  | 52 => ⟨S_, .f32⟩
  | 53 => ⟨S4x1x1024, .f32⟩
  | 54 => ⟨S4x1x1024, .f32⟩
  | 55 => ⟨S1024x1024, .f32⟩
  | 56 => ⟨S4x8192x1024, .f32⟩
  | 57 => ⟨S4x8192x1024, .f32⟩
  | 58 => ⟨S4x8192x1024, .f32⟩
  | 59 => ⟨S_, .f32⟩
  | 60 => ⟨S4x8192x1024, .f32⟩
  | 61 => ⟨S4x8192x1024, .f32⟩
  | 62 => ⟨S4x8192x1024, .f32⟩
  | 63 => ⟨S_, .f32⟩
  | 64 => ⟨S4x8192, .f32⟩
  | 65 => ⟨S4x8192x1, .f32⟩
  | 66 => ⟨S_, .f32⟩
  | 67 => ⟨S4x8192x1, .f32⟩
  | 68 => ⟨S4x8192x1, .f32⟩
  | 69 => ⟨S4x8192x1024, .f32⟩
  | 70 => ⟨S4x8192x1024, .f32⟩
  | 71 => ⟨S4x8192x1024, .f32⟩
  | 72 => ⟨S_, .f32⟩
  | 73 => ⟨S4x8192, .f32⟩
  | 74 => ⟨S4x8192x1, .f32⟩
  | 75 => ⟨S_, .f32⟩
  | 76 => ⟨S4x8192x1, .f32⟩
  | 77 => ⟨S4x8192x1, .f32⟩
  | 78 => ⟨S4x8192x1024, .f32⟩
  | 79 => ⟨S4x8192x1024, .f32⟩
  | 80 => ⟨S_, .f32⟩
  | 81 => ⟨S4x8192x1, .f32⟩
  | 82 => ⟨S4x8192x1, .f32⟩
  | 83 => ⟨S4x8192x1, .f32⟩
  | 84 => ⟨S4x8192x1024, .f32⟩
  | 85 => ⟨S4x8192x1024, .f32⟩
  | 86 => ⟨S1024, .f32⟩
  | 87 => ⟨S1x1x1024, .f32⟩
  | 88 => ⟨S4x8192x1024, .f32⟩
  | 89 => ⟨S4x8192x1024, .f32⟩
  | 90 => ⟨S1024, .f32⟩
  | 91 => ⟨S1x1x1024, .f32⟩
  | 92 => ⟨S4x8192x1024, .f32⟩
  | 93 => ⟨S4x8192x1024, .f32⟩
  | 94 => ⟨S_, .f32⟩
  | 95 => ⟨S4x8192, .f32⟩
  | 96 => ⟨S4x8192x1, .f32⟩
  | 97 => ⟨S_, .f32⟩
  | 98 => ⟨S4x8192x1, .f32⟩
  | 99 => ⟨S4x8192x1, .f32⟩
  | 100 => ⟨S4x8192x1024, .f32⟩
  | 101 => ⟨S4x8192x1024, .f32⟩
  | 102 => ⟨S4x8192x1024, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S4x8192x1024, .f32⟩
  | 110 => ⟨S4x8192x1024, .f32⟩
  | 111 => ⟨S_, .f32⟩
  | 112 => ⟨S4x8192x1, .f32⟩
  | 113 => ⟨S4x8192x1, .f32⟩
  | 114 => ⟨S4x8192x1, .f32⟩
  | 115 => ⟨S4x8192x1024, .f32⟩
  | 116 => ⟨S4x8192x1024, .f32⟩
  | 117 => ⟨S4x1x1024, .f32⟩
  | 118 => ⟨S_, .f32⟩
  | 119 => ⟨S4x1x1024, .f32⟩
  | 120 => ⟨S4x1x1024, .f32⟩
  | 121 => ⟨S4x8192x1024, .f32⟩
  | 122 => ⟨S4x8192x1024, .f32⟩
  | 123 => ⟨S4x1x1024, .f32⟩
  | 124 => ⟨S4x8192x1024, .f32⟩
  | 125 => ⟨S4x8192x1024, .f32⟩
  | 126 => ⟨S32768x1024, .f32⟩
  | 127 => ⟨S1024x4, .f32⟩
  | _ => ⟨S32768x1024, .f32⟩

abbrev hbmTy0_1 (i : Nat) : BufTy := match i % 128 with
  | 0 => ⟨S32768x4, .f32⟩
  | 1 => ⟨S4, .f32⟩
  | 2 => ⟨S1x4, .f32⟩
  | 3 => ⟨S32768x4, .f32⟩
  | 4 => ⟨S32768x4, .f32⟩
  | 5 => ⟨S1024x32, .f32⟩
  | 6 => ⟨S32768x32, .f32⟩
  | 7 => ⟨S32, .f32⟩
  | 8 => ⟨S1x32, .f32⟩
  | 9 => ⟨S32768x32, .f32⟩
  | 10 => ⟨S32768x32, .f32⟩
  | 11 => ⟨S_, .f32⟩
  | 12 => ⟨S32768x92, .f32⟩
  | 13 => ⟨S32768x128, .f32⟩
  | 14 => ⟨S32768x1024, .f32⟩
  | 15 => ⟨S262144x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_16 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩

abbrev nD : Nat := 1
abbrev τ : Topo := Topo.v7x

variable {F : FTy → Type} [FloatOps F]
-- ==== Kernel4.lean ====
abbrev S160 : Shape := ⟨1, ![160]⟩
abbrev S1 : Shape := ⟨1, ![1]⟩
abbrev S655360x128 : Shape := ⟨2, ![655360, 128]⟩
abbrev S32x1024x512 : Shape := ⟨3, ![32, 1024, 512]⟩
abbrev S32x512x1024 : Shape := ⟨3, ![32, 512, 1024]⟩
abbrev S4096x128 : Shape := ⟨2, ![4096, 128]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512x128 : Shape := ⟨2, ![512, 128]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S655360x128, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S4096x128, .f32⟩
  | .local _ .vmem, ⟨9, _⟩ => ⟨S4096x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S160, .i32⟩
  | .local _ .smem, ⟨1, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S160 : Shape := ⟨1, ![160]⟩
abbrev S1 : Shape := ⟨1, ![1]⟩
abbrev S655360x128 : Shape := ⟨2, ![655360, 128]⟩
abbrev S32x1024x512 : Shape := ⟨3, ![32, 1024, 512]⟩
abbrev S32x512x1024 : Shape := ⟨3, ![32, 512, 1024]⟩
abbrev S160x512x1024 : Shape := ⟨3, ![160, 512, 1024]⟩
abbrev S_ : Shape := ⟨0, ![]⟩
abbrev S160x1 : Shape := ⟨2, ![160, 1]⟩
abbrev S160x1024x512 : Shape := ⟨3, ![160, 1024, 512]⟩
abbrev S160x512x512 : Shape := ⟨3, ![160, 512, 512]⟩

abbrev nBuf : Space → Nat
  | .hbm => 48
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S655360x128, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S160x512x1024, .f32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S_, .i32⟩
  | .hbm, ⟨11, _⟩ => ⟨S160, .i32⟩
  | .hbm, ⟨12, _⟩ => ⟨S160, .i32⟩
  | .hbm, ⟨13, _⟩ => ⟨S160, .i32⟩
  | .hbm, ⟨14, _⟩ => ⟨S160x1, .i32⟩
  | .hbm, ⟨15, _⟩ => ⟨S160x1024x512, .f32⟩
  | .hbm, ⟨16, _⟩ => ⟨S_, .i32⟩
  | .hbm, ⟨17, _⟩ => ⟨S160, .i32⟩
  | .hbm, ⟨18, _⟩ => ⟨S160, .i1⟩
  | .hbm, ⟨19, _⟩ => ⟨S_, .i32⟩
  | .hbm, ⟨20, _⟩ => ⟨S160, .i32⟩
  | .hbm, ⟨21, _⟩ => ⟨S160, .i32⟩
  | .hbm, ⟨22, _⟩ => ⟨S160, .i32⟩
  | .hbm, ⟨23, _⟩ => ⟨S160x1, .i32⟩
  | .hbm, ⟨24, _⟩ => ⟨S160x1024x512, .f32⟩
  | .hbm, ⟨25, _⟩ => ⟨S_, .i32⟩
  | .hbm, ⟨26, _⟩ => ⟨S160, .i32⟩
  | .hbm, ⟨27, _⟩ => ⟨S160, .i1⟩
  | .hbm, ⟨28, _⟩ => ⟨S_, .i32⟩
  | .hbm, ⟨29, _⟩ => ⟨S160, .i32⟩
  | .hbm, ⟨30, _⟩ => ⟨S160, .i32⟩
  | .hbm, ⟨31, _⟩ => ⟨S160, .i32⟩
  | .hbm, ⟨32, _⟩ => ⟨S160x1, .i32⟩
  | .hbm, ⟨33, _⟩ => ⟨S160x512x1024, .f32⟩
  | .hbm, ⟨34, _⟩ => ⟨S160x512x512, .f32⟩
  | .hbm, ⟨35, _⟩ => ⟨S160x512x512, .f32⟩
  | .hbm, ⟨36, _⟩ => ⟨S160x512x512, .f32⟩
  | .hbm, ⟨37, _⟩ => ⟨S_, .f32⟩
  | .hbm, ⟨38, _⟩ => ⟨S160x512x512, .f32⟩
  | .hbm, ⟨39, _⟩ => ⟨S160x512x512, .f32⟩
  | .hbm, ⟨40, _⟩ => ⟨S_, .f32⟩
  | .hbm, ⟨41, _⟩ => ⟨S160x512x512, .f32⟩
  | .hbm, ⟨42, _⟩ => ⟨S160x512x512, .f32⟩
  | .hbm, ⟨43, _⟩ => ⟨S160x512x512, .f32⟩
  | .hbm, ⟨44, _⟩ => ⟨S160x512x512, .f32⟩
  | .hbm, ⟨45, _⟩ => ⟨S160x512x512, .f32⟩
  | .hbm, ⟨46, _⟩ => ⟨S160x512x1024, .f32⟩
  | .hbm, ⟨47, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Proof.Route.Rows.lean ====
/-
  A row of router logits, and the choice it makes: the group with the greatest logit, the first where several tie, and
  in that group the two experts with the greatest logits, again the first where several tie. The folds of `max`, of
  `min` over lane numbers and the stable sort are each read here as that choice.
-/
module

public import Idealize.ShloMosaic.Lib.SortFacts
public import Idealize.ShloMosaic.Lib.Pointwise
public import Idealize.ShloMosaic.PureOps

@[expose] public section

set_option maxRecDepth 16384

noncomputable section

namespace Cert.Route

open Idealize.ShloMosaic

/-- `i` satisfies `p`, its value is the greatest over the positions that do, and it is the first such position. -/
def FirstMax {n : ℕ} (y : Fin n → EReal) (p : Fin n → Prop) (i : Fin n) : Prop :=
  p i ∧ ∀ j, p j → y j ≤ y i ∧ (j < i → y j < y i)

theorem exists_firstMax {n : ℕ} (y : Fin n → EReal) (p : Fin n → Prop) (k : Fin n) (hk : p k) : ∃ i, FirstMax y p i := by
  classical
  obtain ⟨m, hm, hmax⟩ := Finset.exists_max_image (Finset.univ.filter p) y ⟨k, by simp [hk]⟩
  have hne : (Finset.univ.filter fun j => p j ∧ y j = y m).Nonempty := ⟨m, by simpa using hm⟩
  have hi := Finset.min'_mem _ hne
  simp only [Finset.mem_filter, Finset.mem_univ, true_and] at hi
  refine ⟨_, hi.1, fun j hj => ?_⟩
  have hle : y j ≤ y m := hmax j (by simp [hj])
  rw [hi.2]
  refine ⟨hle, fun hlt => lt_of_le_of_ne hle fun he => ?_⟩
  have := Finset.min'_le (Finset.univ.filter fun j => p j ∧ y j = y m) j (by simp [hj, he])
  exact absurd hlt (not_lt.mpr this)

/-- The fold of `max` over all positions, from the bottom, is the greatest entry. -/
theorem fold_max_eq {n : ℕ} (f : Fin n → EReal) (i : Fin n) (h : ∀ j, f j ≤ f i) :
    (Finset.univ : Finset (Fin n)).fold max ⊥ f = f i := by
  apply le_antisymm
  · rw [Finset.fold_max_le]; exact ⟨bot_le, fun j _ => h j⟩
  · rw [Finset.le_fold_max]; exact Or.inr ⟨i, Finset.mem_univ _, le_rfl⟩

/-- The fold of `min` over all positions, from the top, is the least entry. -/
theorem fold_min_eq {n : ℕ} (f : Fin n → EReal) (i : Fin n) (h : ∀ j, f i ≤ f j) :
    (Finset.univ : Finset (Fin n)).fold min ⊤ f = f i := by
  apply le_antisymm
  · rw [Finset.fold_min_le]; exact Or.inr ⟨i, Finset.mem_univ _, le_rfl⟩
  · rw [Finset.le_fold_min]; exact ⟨le_top, fun j _ => h j⟩

/-- A lane's number as an extended real. -/
def lane (n : ℕ) : EReal := ((n : ℝ) : EReal)

theorem lane_le {a b : ℕ} : lane a ≤ lane b ↔ a ≤ b := by
  unfold lane; rw [EReal.coe_le_coe_iff]; exact Nat.cast_le

theorem lane_lt {a b : ℕ} : lane a < lane b ↔ a < b := by
  unfold lane; rw [EReal.coe_lt_coe_iff]; exact Nat.cast_lt

theorem lane_inj {a b : ℕ} : lane a = lane b ↔ a = b := by
  unfold lane; rw [EReal.coe_eq_coe_iff]; exact Nat.cast_inj

theorem lane_add (a b : ℕ) : lane a + lane b = lane (a + b) := by
  unfold lane; push_cast; rfl

theorem lane_mul (a b : ℕ) : lane a * lane b = lane (a * b) := by
  unfold lane; push_cast; rfl

theorem lane_sub {a b : ℕ} (h : b ≤ a) : lane a - lane b = lane (a - b) := by
  unfold lane; rw [Nat.cast_sub h]; rfl

/-- The least lane satisfying `c`, as the fold of `min` over lane numbers with 128 where `c` fails. -/
theorem fold_min_lane (c : Fin 128 → Prop) [DecidablePred c] (i : Fin 128) (hi : c i) (h : ∀ j, c j → i ≤ j) :
    (Finset.univ : Finset (Fin 128)).fold min ⊤ (fun l => if c l then lane l.val else lane 128) = lane i.val := by
  rw [fold_min_eq _ i]
  · rw [if_pos hi]
  · intro j
    rw [if_pos hi]
    split
    · next hj => exact lane_le.mpr (h j hj)
    · exact lane_le.mpr (by omega)

/-- The lane of group `j`'s logit. -/
def glane (j : Fin 4) : Fin 128 := ⟨j.val, by omega⟩

/-- The lane of the logit of expert `j` of group `g`. -/
def elane (g : Fin 4) (j : Fin 8) : Fin 128 := ⟨4 + 8 * g.val + j.val, by omega⟩

/-- The choice a row of logits makes: group `g`, first expert `a`, second expert `b`. -/
structure Picks (x : Fin 128 → EReal) (g : Fin 4) (a b : Fin 8) : Prop where
  group : FirstMax (fun j => x (glane j)) (fun _ => True) g
  first : FirstMax (fun j => x (elane g j)) (fun _ => True) a
  second : FirstMax (fun j => x (elane g j)) (fun j => j ≠ a) b

theorem exists_picks (x : Fin 128 → EReal) : ∃ g a b, Picks x g a b := by
  obtain ⟨g, hg⟩ := exists_firstMax (fun j => x (glane j)) (fun _ => True) 0 trivial
  obtain ⟨a, ha⟩ := exists_firstMax (fun j => x (elane g j)) (fun _ => True) 0 trivial
  obtain ⟨b, hb⟩ := exists_firstMax (fun j => x (elane g j)) (fun j => j ≠ a) (if a = 0 then 1 else 0) (by
    split
    · next h => subst h; decide
    · next h => exact fun h' => h h'.symm)
  exact ⟨g, a, b, hg, ha, hb⟩

/-- The chosen group. -/
def grp (x : Fin 128 → EReal) : Fin 4 := (exists_picks x).choose
/-- The chosen first expert within the group. -/
def ex1 (x : Fin 128 → EReal) : Fin 8 := (exists_picks x).choose_spec.choose
/-- The chosen second expert within the group. -/
def ex2 (x : Fin 128 → EReal) : Fin 8 := (exists_picks x).choose_spec.choose_spec.choose

theorem picks (x : Fin 128 → EReal) : Picks x (grp x) (ex1 x) (ex2 x) :=
  (exists_picks x).choose_spec.choose_spec.choose_spec

/-- The chosen group's softmax probability. -/
def grpP (x : Fin 128 → EReal) : EReal := Ideal.div 1 (∑ j : Fin 4, Ideal.exp (x (glane j) - x (glane (grp x))))

/-- `exp` of the second expert's logit over the first's. -/
def ratio (x : Fin 128 → EReal) : EReal := Ideal.exp (x (elane (grp x) (ex2 x)) - x (elane (grp x) (ex1 x)))

/-- The first expert's weight. -/
def wt1 (x : Fin 128 → EReal) : EReal := Ideal.div (grpP x) (1 + ratio x)

/-- The second expert's weight. -/
def wt2 (x : Fin 128 → EReal) : EReal := Ideal.div (grpP x * ratio x) (1 + ratio x)

/-! ## The stable sort's first two places -/

section Places

variable {n : ℕ} (y : Fin n → EReal)

/-- "Before", for a sort by descending value that keeps the order of equals. -/
def Before (a b : Fin n) : Prop := y b < y a ∨ (y a = y b ∧ a < b)

theorem pairwise_insertBefore (a : Fin n) (l : List (Fin n)) (ha : ∀ b ∈ l, a < b) (hl : l.Pairwise (Before y)) :
    (insertBefore (fun u v => decide (y v < y u)) a l).Pairwise (Before y) := by
  induction l with
  | nil => simp [insertBefore]
  | cons b l ih =>
    obtain ⟨hb, hl'⟩ := List.pairwise_cons.mp hl
    unfold insertBefore
    split
    · next h =>
      have h : y a < y b := of_decide_eq_true h
      refine List.pairwise_cons.mpr ⟨fun u hu => ?_, ih (fun u hu => ha u (List.mem_cons_of_mem _ hu)) hl'⟩
      rcases List.mem_cons.mp ((perm_insertBefore _ a l).mem_iff.mp hu) with rfl | hu'
      · exact Or.inl h
      · exact hb u hu'
    · next h =>
      have h : y b ≤ y a := not_lt.mp fun h' => h (decide_eq_true h')
      refine List.pairwise_cons.mpr ⟨fun u hu => ?_, hl⟩
      have hlt := ha u hu
      have hle : y u ≤ y a := by
        rcases List.mem_cons.mp hu with rfl | hu'
        · exact h
        · rcases hb u hu' with h1 | ⟨h1, -⟩
          · exact h1.le.trans h
          · exact h1.symm.le.trans h
      rcases hle.lt_or_eq with h1 | h1
      · exact Or.inl h1
      · exact Or.inr ⟨h1.symm, hlt⟩

theorem pairwise_stableSort_of_pairwise (l : List (Fin n)) (hl : l.Pairwise (· < ·)) :
    (stableSort (fun u v => decide (y v < y u)) l).Pairwise (Before y) := by
  induction l with
  | nil => simp [stableSort]
  | cons a l ih =>
    obtain ⟨ha, hl'⟩ := List.pairwise_cons.mp hl
    unfold stableSort
    exact pairwise_insertBefore y a _ (fun b hb => ha b ((perm_stableSort _ l).mem_iff.mp hb)) (ih hl')

/-- The positions as the stable sort leaves them: each before every later one. -/
theorem sortedFrom_before (i j : Fin n) (h : i < j) :
    Before y (sortedFrom (fun u v => decide (y v < y u)) i) (sortedFrom (fun u v => decide (y v < y u)) j) := by
  have hp := pairwise_stableSort_of_pairwise y (List.finRange n) (List.pairwise_lt_finRange n)
  unfold sortedFrom
  exact List.pairwise_iff_get.mp hp _ _ h

theorem before_irrefl (a : Fin n) : ¬ Before y a a := fun h => by
  rcases h with h | ⟨-, h⟩
  · exact lt_irrefl _ h
  · exact lt_irrefl _ h

theorem before_asymm {a b : Fin n} (h : Before y a b) : ¬ Before y b a := fun h' => by
  rcases h with h | ⟨h, h2⟩ <;> rcases h' with h' | ⟨h', h2'⟩
  · exact lt_asymm h h'
  · exact h.ne h'
  · exact h'.ne h
  · exact lt_asymm h2 h2'

theorem before_of_firstMax {p : Fin n → Prop} {i j : Fin n} (h : FirstMax y p i) (hj : p j) (hne : j ≠ i) :
    Before y i j := by
  obtain ⟨hle, hlt⟩ := h.2 j hj
  rcases hle.lt_or_eq with h1 | h1
  · exact Or.inl h1
  · refine Or.inr ⟨h1.symm, ?_⟩
    rcases lt_trichotomy i j with h2 | h2 | h2
    · exact h2
    · exact absurd h2.symm hne
    · exact absurd (hlt h2) h1.not_lt

/-- The sort's first place holds the first greatest entry. -/
theorem sortedFrom_zero {i : Fin n} (z : Fin n) (hz : z.val = 0) (h : FirstMax y (fun _ => True) i) :
    sortedFrom (fun u v => decide (y v < y u)) z = i := by
  obtain ⟨k, hk⟩ := sortedFrom_surjective (fun u v => decide (y v < y u)) i
  by_cases e : z = k
  · rw [e, hk]
  · by_contra hne
    have h1 := sortedFrom_before y z k (by
      have : z.val ≠ k.val := fun h => e (Fin.ext h)
      exact Fin.lt_def.mpr (by omega))
    rw [hk] at h1
    exact before_asymm y h1 (before_of_firstMax y h trivial hne)

/-- The sort's second place holds the first greatest of the other entries. -/
theorem sortedFrom_one {i j : Fin n} (z o : Fin n) (hz : z.val = 0) (ho : o.val = 1)
    (h : FirstMax y (fun _ => True) i) (h' : FirstMax y (fun k => k ≠ i) j) :
    sortedFrom (fun u v => decide (y v < y u)) o = j := by
  have h0 := sortedFrom_zero y z hz h
  have hzo : z < o := Fin.lt_def.mpr (by omega)
  have hoi : sortedFrom (fun u v => decide (y v < y u)) o ≠ i := fun he => by
    have := sortedFrom_before y z o hzo
    rw [h0, he] at this
    exact before_irrefl y _ this
  obtain ⟨k, hk⟩ := sortedFrom_surjective (fun u v => decide (y v < y u)) j
  by_cases e : o = k
  · rw [e, hk]
  · by_contra hne
    have hkz : k ≠ z := fun hc => by
      rw [hc, h0] at hk
      exact h'.1 hk.symm
    have h1 := sortedFrom_before y o k (by
      have : o.val ≠ k.val := fun h => e (Fin.ext h)
      have : k.val ≠ z.val := fun h => hkz (Fin.ext h)
      exact Fin.lt_def.mpr (by omega))
    rw [hk] at h1
    exact before_asymm y h1 (before_of_firstMax y h' hoi hne)

end Places

end Cert.Route

end
-- ==== Proof.Route.Payload.lean ====
/-
  What the routing kernel computes for one row of a block, read as the row's choice.
-/
module

public import proofs.«01_k».proof.Proof.Route.Rows
public import proofs.«01_k».proof.Proof.Gen.KernelIdeal.Skeleton
public import Idealize.ShloMosaic.Lib.IdealHost

@[expose] public section

set_option maxRecDepth 16384

noncomputable section

namespace Cert.Route

open Idealize.ShloMosaic Cert.KernelIdeal Cert.KernelIdeal.Gen

theorem lit_128 : Ideal.ofBits .f32 0x43000000#32 = lane 128 := by
  simp [Ideal.ofBits, Ideal.ieee, lane, -EReal.coe_mul]; norm_num
theorem lit_2 : Ideal.ofBits .f32 0x40000000#32 = lane 2 := by
  simp [Ideal.ofBits, Ideal.ieee, lane, -EReal.coe_mul]; norm_num
theorem lit_3 : Ideal.ofBits .f32 0x40400000#32 = lane 3 := by
  simp [Ideal.ofBits, Ideal.ieee, lane, -EReal.coe_mul]; norm_num
theorem lit_4 : Ideal.ofBits .f32 0x40800000#32 = lane 4 := by
  simp [Ideal.ofBits, Ideal.ieee, lane, -EReal.coe_mul]; norm_num
theorem lit_5 : Ideal.ofBits .f32 0x40A00000#32 = lane 5 := by
  simp [Ideal.ofBits, Ideal.ieee, lane, -EReal.coe_mul]; norm_num
theorem lit_8 : Ideal.ofBits .f32 0x41000000#32 = lane 8 := by
  simp [Ideal.ofBits, Ideal.ieee, lane, -EReal.coe_mul]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

theorem lane_one : lane 1 = 1 := by simp [lane]
theorem lane_zero : lane 0 = 0 := by simp [lane]

theorem pay4_eq (r : Fin 512) (l : Fin 128) : k0_pay4 (F := Ideal) (ix2 r l) = lane l.val := by
  pointwise [k0_pay4]
  show ((((BitVec.ofNat 32 l.val).toInt : ℤ) : ℝ) : EReal) = _
  have h : (BitVec.ofNat 32 l.val).toInt = (l.val : ℤ) := by
    rw [BitVec.toInt_ofNat', ]
    have := l.isLt
    simp [Int.bmod]; omega
  rw [h]; simp [lane]

theorem pay5_eq (r : Fin 512) (l : Fin 128) :
    k0_pay5 (F := Ideal) (ix2 r l) = BitVec.ofBool (decide (l.val < 4)) := by
  pointwise [k0_pay5]
  simp only [pay4_eq, lit_4, lane_lt]

theorem select_ofBool {α : Type} (p : Prop) [Decidable p] (a b : α) :
    Scalar.select (BitVec.ofBool (decide p)) a b = if p then a else b := by
  by_cases h : p <;> simp [h, Scalar.select]

variable (v : FVec Ideal S512x128 .f32) (r : Fin 512)

/-- Row `r` of a block. -/
abbrev row : Fin 128 → EReal := fun l => v (ix2 r l)

theorem pay6_eq (l : Fin 128) : k0_pay6 (F := Ideal) v (ix2 r l) = if l.val < 4 then v (ix2 r l) else ⊥ := by
  pointwise [k0_pay6]
  rw [pay5_eq, select_ofBool, lit_bot]

theorem glane_of_lt {l : Fin 128} (h : l.val < 4) : l = glane ⟨l.val, h⟩ := Fin.ext rfl

theorem pay7_eq : k0_pay7 (F := Ideal) v (ix2 r 0) = v (ix2 r (glane (grp (row v r)))) := by
  pointwise [k0_pay7]
  simp only [pay6_eq, lit_bot]
  rw [fold_max_eq _ (glane (grp (row v r)))]
  · exact if_pos (grp (row v r)).isLt
  · intro l
    rw [if_pos (show (glane (grp (row v r))).val < 4 from (grp (row v r)).isLt)]
    split
    · next h => rw [glane_of_lt h]; exact ((picks (row v r)).group.2 ⟨l.val, h⟩ trivial).1
    · exact bot_le

variable (hv : ∀ l, v (ix2 r l) ≠ ⊥)

theorem sum_first4 (f : Fin 128 → EReal) : (∑ l : Fin 128, if l.val < 4 then f l else 0) = ∑ j : Fin 4, f (glane j) := by
  rw [← Finset.sum_filter]
  refine (Finset.sum_bij (fun j _ => glane j) ?_ ?_ ?_ ?_).symm
  · intro j _; simpa [glane] using j.isLt
  · intro a _ b _ h; exact Fin.ext (show (glane a).val = (glane b).val from congrArg Fin.val h)
  · intro l hl
    have h : l.val < 4 := by simpa using hl
    exact ⟨⟨l.val, h⟩, Finset.mem_univ _, rfl⟩
  · intro j _; rfl

theorem pay8_eq : k0_pay8 (F := Ideal) v (ix2 r 0) = grpP (row v r) := by
  pointwise [k0_pay8]
  simp only [pay5_eq, select_ofBool, pay6_eq, pay7_eq]
  unfold grpP
  congr 1
  rw [← sum_first4 fun l => Ideal.exp (v (ix2 r l) - v (ix2 r (glane (grp (row v r)))))]
  refine Finset.sum_congr rfl fun l _ => ?_
  split <;> rfl

include hv in
theorem gidx_eq : (Finset.univ : Finset (Fin 128)).fold min ⊤
      (fun x => if (k0_pay6 (F := Ideal) v (ix2 r x) : EReal) = k0_pay7 (F := Ideal) v (ix2 r 0) then lane x.val else lane 128)
    = lane (grp (row v r)).val := by
  simp only [pay6_eq, pay7_eq]
  refine fold_min_lane _ (glane (grp (row v r))) (if_pos (grp (row v r)).isLt) fun l hl => ?_
  have hb := hv (glane (grp (row v r)))
  by_cases h : l.val < 4
  · rw [if_pos h] at hl
    have hp := ((picks (row v r)).group.2 ⟨l.val, h⟩ trivial).2
    by_contra hc
    exact absurd hl (hp (Fin.lt_def.mpr (not_le.mp hc))).ne
  · rw [if_neg h] at hl; exact absurd hl.symm hb

include hv in
theorem pay9_eq (l : Fin 128) : k0_pay9 (F := Ideal) v (ix2 r l)
    = BitVec.ofBool (decide (4 + 8 * (grp (row v r)).val ≤ l.val ∧ l.val < 4 + 8 * (grp (row v r)).val + 8)) := by
  pointwise [k0_pay9]
  simp only [pay4_eq, lit_128, lit_top, lit_8, lit_4, gidx_eq v r hv, lane_mul, lane_add, lane_le, lane_lt]
  by_cases h1 : 4 + 8 * (grp (row v r)).val ≤ l.val <;> by_cases h2 : l.val < 4 + 8 * (grp (row v r)).val + 8 <;>
    simp [h1, h2, IntOp.andi]

/-- Whether a lane holds a logit of the chosen group. -/
abbrev inGrp (x : Fin 128 → EReal) (l : Fin 128) : Prop :=
  4 + 8 * (grp x).val ≤ l.val ∧ l.val < 4 + 8 * (grp x).val + 8

theorem inGrp_elane (x : Fin 128 → EReal) (j : Fin 8) : inGrp x (elane (grp x) j) := by
  constructor
  · show _ ≤ 4 + 8 * (grp x).val + j.val; omega
  · show 4 + 8 * (grp x).val + j.val < _; omega

theorem elane_of_inGrp {x : Fin 128 → EReal} {l : Fin 128} (h : inGrp x l) :
    ∃ j : Fin 8, l = elane (grp x) j :=
  ⟨⟨l.val - (4 + 8 * (grp x).val), by have := h.1; have := h.2; omega⟩, Fin.ext (by
    show l.val = 4 + 8 * (grp x).val + (l.val - (4 + 8 * (grp x).val)); have := h.1; omega)⟩

theorem elane_lt {g : Fin 4} {i j : Fin 8} : elane g i < elane g j ↔ i < j := by
  rw [Fin.lt_def, Fin.lt_def]
  show 4 + 8 * g.val + i.val < 4 + 8 * g.val + j.val ↔ _
  omega

theorem elane_le {g : Fin 4} {i j : Fin 8} : elane g i ≤ elane g j ↔ i ≤ j := by
  rw [← not_lt, ← not_lt, elane_lt]

theorem elane_inj {g : Fin 4} {i j : Fin 8} : elane g i = elane g j ↔ i = j := by
  constructor
  · intro h
    have h' : 4 + 8 * g.val + i.val = 4 + 8 * g.val + j.val := congrArg Fin.val h
    exact Fin.ext (by omega)
  · rintro rfl; rfl

include hv in
theorem pay10_eq (l : Fin 128) : k0_pay10 (F := Ideal) v (ix2 r l) = if inGrp (row v r) l then v (ix2 r l) else ⊥ := by
  pointwise [k0_pay10]
  rw [pay9_eq v r hv, select_ofBool, lit_bot]

/-- The lane of the first expert's logit. -/
abbrev lane1 (x : Fin 128 → EReal) : Fin 128 := elane (grp x) (ex1 x)
/-- The lane of the second expert's logit. -/
abbrev lane2 (x : Fin 128 → EReal) : Fin 128 := elane (grp x) (ex2 x)

include hv in
theorem pay11_eq : k0_pay11 (F := Ideal) v (ix1 r) = v (ix2 r (lane1 (row v r))) := by
  pointwise [k0_pay11]
  simp only [pay10_eq v r hv, lit_bot]
  rw [fold_max_eq _ (lane1 (row v r))]
  · exact if_pos (inGrp_elane _ _)
  · intro l
    rw [if_pos (inGrp_elane (row v r) _)]
    split
    · next h =>
      obtain ⟨j, rfl⟩ := elane_of_inGrp h
      exact ((picks (row v r)).first.2 j trivial).1
    · exact bot_le

include hv in
theorem pay12_eq : k0_pay12 (F := Ideal) (k0_pay11 v) (ix2 r 0) = v (ix2 r (lane1 (row v r))) := by
  pointwise [k0_pay12]
  exact pay11_eq v r hv

include hv in
theorem pay13_eq : k0_pay13 (F := Ideal) k0_pay4 (k0_pay10 v) (k0_pay11 v) (ix2 r 0) = lane (lane1 (row v r)).val := by
  pointwise [k0_pay13]
  simp only [pay10_eq v r hv, pay12_eq v r hv, pay4_eq, lit_128, lit_top]
  refine fold_min_lane _ (lane1 (row v r)) (if_pos (inGrp_elane _ _)) fun l hl => ?_
  by_cases h : inGrp (row v r) l
  · rw [if_pos h] at hl
    obtain ⟨j, rfl⟩ := elane_of_inGrp h
    have hp := ((picks (row v r)).first.2 j trivial).2
    by_contra hc
    exact absurd hl (hp (elane_lt.mp (not_le.mp hc))).ne
  · rw [if_neg h] at hl; exact absurd hl.symm (hv _)

include hv in
theorem pay14_eq (l : Fin 128) : k0_pay14 (F := Ideal) k0_pay4 (k0_pay10 v) (k0_pay11 v) (ix2 r l)
    = if l = lane1 (row v r) then ⊥ else if inGrp (row v r) l then v (ix2 r l) else ⊥ := by
  pointwise [k0_pay14]
  simp only [pay10_eq v r hv, pay13_eq v r hv, pay4_eq, lit_bot, lane_inj, ← Fin.ext_iff]

include hv in
theorem pay15_eq : k0_pay15 (F := Ideal) k0_pay4 (k0_pay10 v) (k0_pay11 v) (ix2 r 0) = v (ix2 r (lane2 (row v r))) := by
  have hne : lane2 (row v r) ≠ lane1 (row v r) := fun h => (picks (row v r)).second.1 (elane_inj.mp h)
  pointwise [k0_pay15]
  simp only [pay14_eq v r hv, lit_bot]
  rw [fold_max_eq _ (lane2 (row v r))]
  · rw [if_neg hne]; exact if_pos (inGrp_elane _ _)
  · intro l
    rw [if_neg hne, if_pos (inGrp_elane (row v r) _)]
    split
    · exact bot_le
    · next h1 =>
      split
      · next h =>
        obtain ⟨j, rfl⟩ := elane_of_inGrp h
        exact ((picks (row v r)).second.2 j fun he => h1 (he ▸ rfl)).1
      · exact bot_le

include hv in
theorem pay16_eq : k0_pay16 (F := Ideal) k0_pay4 (k0_pay9 (F := Ideal) v) (k0_pay10 v) (k0_pay11 v) (ix2 r 0)
    = lane (lane2 (row v r)).val := by
  have hne : lane2 (row v r) ≠ lane1 (row v r) := fun h => (picks (row v r)).second.1 (elane_inj.mp h)
  pointwise [k0_pay16]
  simp only [pay14_eq v r hv, pay15_eq v r hv, pay13_eq v r hv, pay9_eq v r hv, pay4_eq, lit_128, lit_top, lane_inj]
  have hand : ∀ p q t : Prop, [Decidable p] → [Decidable q] → [Decidable t] →
      IntOp.andi (IntOp.andi (BitVec.ofBool (decide p)) (BitVec.ofBool (decide q))) (BitVec.ofBool (decide t))
        = BitVec.ofBool (decide (p ∧ q ∧ t)) := by
    intro p q t _ _ _
    by_cases hp : p <;> by_cases hq : q <;> by_cases ht : t <;> simp [hp, hq, ht, IntOp.andi]
  simp only [hand, select_ofBool]
  refine fold_min_lane _ (lane2 (row v r)) ⟨inGrp_elane _ _, ?_, ?_⟩ fun l hl => ?_
  · exact fun h => hne (Fin.ext (lane_inj.mp h))
  · rw [if_neg hne]; exact if_pos (inGrp_elane _ _)
  · obtain ⟨hg, h1, he⟩ := hl
    have h1' : l ≠ lane1 (row v r) := fun h => h1 (h ▸ rfl)
    rw [if_neg h1', if_pos hg] at he
    obtain ⟨j, rfl⟩ := elane_of_inGrp hg
    have hp := ((picks (row v r)).second.2 j fun h => h1' (h ▸ rfl)).2
    by_contra hc
    exact absurd he (hp (elane_lt.mp (not_le.mp hc))).ne

include hv in
theorem pay17_eq : k0_pay17 (F := Ideal) k0_pay4 (k0_pay10 v) (k0_pay11 v) (ix2 r 0) = ratio (row v r) := by
  pointwise [k0_pay17]
  rw [pay15_eq v r hv, pay12_eq v r hv]
  rfl

include hv in
theorem pay18_eq : k0_pay18 (F := Ideal) k0_pay4 (k0_pay8 v) (k0_pay10 v) (k0_pay11 v) (ix2 r 0) = wt1 (row v r) := by
  pointwise [k0_pay18]
  rw [pay17_eq v r hv, pay8_eq]
  rfl

include hv in
theorem pay19_eq : k0_pay19 (F := Ideal) k0_pay4 (k0_pay8 v) (k0_pay10 v) (k0_pay11 v) (ix2 r 0) = wt2 (row v r) := by
  pointwise [k0_pay19]
  rw [pay17_eq v r hv, pay8_eq]
  rfl

include hv in
theorem pay22_eq (l : Fin 128) : k0_pay22 (F := Ideal) k0_pay4 (k0_pay10 v) (k0_pay11 v) (ix2 r l)
    = if l = lane1 (row v r) then 1 else 0 := by
  pointwise [k0_pay22, k0_pay20]
  simp only [pay4_eq, pay13_eq v r hv, lane_inj, ← Fin.ext_iff]

include hv in
theorem pay23_eq (l : Fin 128) : k0_pay23 (F := Ideal) k0_pay4 (k0_pay9 (F := Ideal) v) (k0_pay10 v) (k0_pay11 v) (ix2 r l)
    = if l = lane2 (row v r) then 1 else 0 := by
  pointwise [k0_pay23, k0_pay21]
  simp only [pay4_eq, pay16_eq v r hv, lane_inj, ← Fin.ext_iff]

end Cert.Route

end
-- ==== Proof.Route.Record.lean ====
/-
  What one grid point of the routing kernel writes: the record of its 512 rows, the record's transpose, and the running
  counts.
-/
module

public import proofs.«01_k».proof.Proof.Route.Payload

@[expose] public section

set_option maxRecDepth 16384

noncomputable section

namespace Cert.Route

open Idealize.ShloMosaic Cert.KernelIdeal Cert.KernelIdeal.Gen

variable (v : FVec Ideal S512x128 .f32) (r : Fin 512)
variable (hv : ∀ l, v (ix2 r l) ≠ ⊥)

/-- One row of the record: the two experts' numbers, their weights, two entries left open, and zeros. -/
abbrev recAt (x : Fin 128 → EReal) (l : Fin 128) : EReal :=
  if l.val = 3 then wt2 x else if l.val = 2 then wt1 x
  else if l.val = 1 then lane (8 * (grp x).val + (ex2 x).val)
  else if l.val = 0 then lane (8 * (grp x).val + (ex1 x).val) else 0

/-- The record block a point writes, over the running counts `s`. -/
def recBlk (v : FVec Ideal S512x128 .f32) (s : FVec Ideal S1x128 .f32) : FVec Ideal S512x128 .f32 :=
  k0_pay1 (F := Ideal) k0_pay4 (k0_pay16 k0_pay4 (k0_pay9 (F := Ideal) v) (k0_pay10 (F := Ideal) v) (k0_pay11 (F := Ideal) v))
    (k0_pay18 k0_pay4 (k0_pay8 (F := Ideal) v) (k0_pay10 (F := Ideal) v) (k0_pay11 (F := Ideal) v)) (k0_pay19 k0_pay4 (k0_pay8 (F := Ideal) v) (k0_pay10 (F := Ideal) v) (k0_pay11 (F := Ideal) v))
    (k0_pay28 (k0_pay20 k0_pay4 (k0_pay10 (F := Ideal) v) (k0_pay11 (F := Ideal) v)) (k0_pay22 k0_pay4 (k0_pay10 (F := Ideal) v) (k0_pay11 (F := Ideal) v)) k0_pay24
      (Scalar.ofBits .f32 0x00000000#32) k0_pay25 s)
    (k0_pay29 (k0_pay21 k0_pay4 (k0_pay9 (F := Ideal) v) (k0_pay10 (F := Ideal) v) (k0_pay11 (F := Ideal) v)) (k0_pay22 k0_pay4 (k0_pay10 (F := Ideal) v) (k0_pay11 (F := Ideal) v))
      (k0_pay23 k0_pay4 (k0_pay9 (F := Ideal) v) (k0_pay10 (F := Ideal) v) (k0_pay11 (F := Ideal) v)) k0_pay24 (Scalar.ofBits .f32 0x00000000#32) k0_pay25 s)
    (k0_pay32 k0_pay4 (k0_pay13 k0_pay4 (k0_pay10 (F := Ideal) v) (k0_pay11 (F := Ideal) v))) k0_pay33

include hv in
theorem recBlk_eq (s : FVec Ideal S1x128 .f32) (l : Fin 128) (h4 : l.val ≠ 4) (h5 : l.val ≠ 5) :
    recBlk v s (ix2 r l) = recAt (row v r) l := by
  unfold recBlk
  pointwise [k0_pay1, k0_pay32, k0_pay33]
  simp only [pay4_eq, pay13_eq v r hv, pay16_eq v r hv, pay18_eq v r hv, pay19_eq v r hv, lit_5, lit_4, lit_3, lit_2,
    ← lane_one, ← lane_zero, lane_inj]
  rw [if_neg h5, if_neg h4, lane_sub (show 4 ≤ (lane2 (row v r)).val by show 4 ≤ 4 + 8 * (grp (row v r)).val + _; omega),
    lane_sub (show 4 ≤ (lane1 (row v r)).val by show 4 ≤ 4 + 8 * (grp (row v r)).val + _; omega)]
  have e1 : (lane1 (row v r)).val - 4 = 8 * (grp (row v r)).val + (ex1 (row v r)).val := by
    show 4 + 8 * (grp (row v r)).val + (ex1 (row v r)).val - 4 = _; omega
  have e2 : (lane2 (row v r)).val - 4 = 8 * (grp (row v r)).val + (ex2 (row v r)).val := by
    show 4 + 8 * (grp (row v r)).val + (ex2 (row v r)).val - 4 = _; omega
  rw [e1, e2]
  unfold recAt
  rw [lane_zero]

/-- The running counts a point leaves, over the running counts `s`. -/
def cntBlk (v : FVec Ideal S512x128 .f32) (s : FVec Ideal S1x128 .f32) : FVec Ideal S1x128 .f32 :=
  k0_pay30 (F := Ideal) (k0_pay22 k0_pay4 (k0_pay10 (F := Ideal) v) (k0_pay11 (F := Ideal) v))
    (k0_pay23 k0_pay4 (k0_pay9 (F := Ideal) v) (k0_pay10 (F := Ideal) v) (k0_pay11 (F := Ideal) v)) s

/-- How many of a row's two choices are lane `l`. -/
abbrev hits (x : Fin 128 → EReal) (l : Fin 128) : ℕ := (if l = lane1 x then 1 else 0) + (if l = lane2 x then 1 else 0)

theorem sum_ind {ι : Type} [Fintype ι] (p : ι → Prop) [DecidablePred p] :
    (∑ i : ι, if p i then (1 : EReal) else 0) = lane (∑ i : ι, if p i then 1 else 0) := by
  have h : ∀ s : Finset ι, (∑ i ∈ s, if p i then (1 : EReal) else 0) = lane (∑ i ∈ s, if p i then 1 else 0) := by
    intro s
    classical
    induction s using Finset.induction_on with
    | empty => simp [lane]
    | insert a s ha ih =>
      rw [Finset.sum_insert ha, Finset.sum_insert ha, ih, ← lane_add]
      split
      · rw [lane_one]
      · rw [lane_zero]
  exact h Finset.univ

theorem cntBlk_eq (hv : ∀ r l, v (ix2 r l) ≠ ⊥) (s : FVec Ideal S1x128 .f32) (l : Fin 128) :
    cntBlk v s (ix2 0 l) = s (ix2 0 l) + lane (∑ r : Fin 512, hits (row v r) l) := by
  unfold cntBlk
  pointwise [k0_pay30, k0_pay27]
  simp only [pay22_eq v _ (hv _), pay23_eq v _ (hv _), sum_ind]
  rw [add_assoc, lane_add, ← Finset.sum_add_distrib]

/-- The transposed record block. -/
def rectBlk (v : FVec Ideal S512x128 .f32) (s : FVec Ideal S1x128 .f32) : FVec Ideal S8x512 .f32 :=
  k0_pay2 (F := Ideal) k0_pay4 (k0_pay16 k0_pay4 (k0_pay9 (F := Ideal) v) (k0_pay10 (F := Ideal) v) (k0_pay11 (F := Ideal) v))
    (k0_pay18 k0_pay4 (k0_pay8 (F := Ideal) v) (k0_pay10 (F := Ideal) v) (k0_pay11 (F := Ideal) v)) (k0_pay19 k0_pay4 (k0_pay8 (F := Ideal) v) (k0_pay10 (F := Ideal) v) (k0_pay11 (F := Ideal) v))
    (k0_pay28 (k0_pay20 k0_pay4 (k0_pay10 (F := Ideal) v) (k0_pay11 (F := Ideal) v)) (k0_pay22 k0_pay4 (k0_pay10 (F := Ideal) v) (k0_pay11 (F := Ideal) v)) k0_pay24
      (Scalar.ofBits .f32 0x00000000#32) k0_pay25 s)
    (k0_pay29 (k0_pay21 k0_pay4 (k0_pay9 (F := Ideal) v) (k0_pay10 (F := Ideal) v) (k0_pay11 (F := Ideal) v)) (k0_pay22 k0_pay4 (k0_pay10 (F := Ideal) v) (k0_pay11 (F := Ideal) v))
      (k0_pay23 k0_pay4 (k0_pay9 (F := Ideal) v) (k0_pay10 (F := Ideal) v) (k0_pay11 (F := Ideal) v)) k0_pay24 (Scalar.ofBits .f32 0x00000000#32) k0_pay25 s)
    (k0_pay32 k0_pay4 (k0_pay13 k0_pay4 (k0_pay10 (F := Ideal) v) (k0_pay11 (F := Ideal) v))) k0_pay33

theorem pay2_eq (v5 : FVec Ideal S512x128 .f32) (v63 v68 v72 v104 v111 : FVec Ideal S512x1 .f32)
    (v125 v126 : FVec Ideal S512x128 .f32) (j : Fin 8) (n : Fin 512) :
    k0_pay2 (F := Ideal) v5 v63 v68 v72 v104 v111 v125 v126 (ix2 j n)
      = k0_pay1 (F := Ideal) v5 v63 v68 v72 v104 v111 v125 v126 (ix2 n ⟨j.val, by omega⟩) := by
  unfold k0_pay2
  generalize k0_pay1 (F := Ideal) v5 v63 v68 v72 v104 v111 v125 v126 = X
  pointwise
  split_ifs
  all_goals first | rfl | (congr 2; apply Fin.ext; simp only; omega) | (congr 2; done)

theorem rectBlk_eq (s : FVec Ideal S1x128 .f32) (j : Fin 8) (n : Fin 512) :
    rectBlk v s (ix2 j n) = recBlk v s (ix2 n ⟨j.val, by omega⟩) := by
  unfold rectBlk recBlk
  exact pay2_eq _ _ _ _ _ _ _ _ j n

end Cert.Route

end
-- ==== Proof.Route.Blocks.lean ====
/-
  The routing kernel's run: what its three results end holding, row by row.
-/
module

public import proofs.«01_k».proof.Proof.Route.Record
public import proofs.«01_k».proof.Proof.Gen.KernelIdeal.Value

@[expose] public section

set_option maxRecDepth 16384

noncomputable section

namespace Cert.Route

open Idealize.ShloMosaic Idealize.ShloMosaic.TcCoe Idealize.SL.Sem Cert.KernelIdeal Cert.KernelIdeal.Gen
  Cert.KernelIdeal.Value

theorem hz : (![0, 0] : Fin 2 → Nat) = fun _ => 0 := funext fun a => by fin_cases a <;> rfl

/-- The running counts the first point starts from. -/
abbrev zeroCnt : FVec Ideal S1x128 .f32 := k0_pay3 (F := Ideal)

section Cases
variable (c : Dev nD) (i : grid0.Coords)
  (a1 : Memref sig .tc .vmem S512x128 .f32) (h1 : a1.IsWhole) (a2 : Memref sig .tc .vmem S512x128 .f32) (h2 : a2.IsWhole)
  (a3 : Memref sig .tc .vmem S1x128 .f32) (h3 : a3.IsWhole) (a4 : Memref sig .tc .vmem S8x512 .f32) (h4 : a4.IsWhole)
  (a5 : Memref sig .tc .vmem S1x128 .f32) (h5 : a5.IsWhole) (x : Vec Ideal S512x128 .f32) (s : Vec Ideal S1x128 .f32)

theorem rec_B (hc : ¬cond0_0 i) : out0_B_1 c i a1 h1 a2 h2 a3 h3 a4 h4 a5 h5 hc x s = recBlk x s := by
  unfold out0_B_1
  rw [View.read_writes_eq_canon _ _ _ (cover0_B_1 c i a1 h1 a2 h2 a3 h3 a4 h4 a5 h5 hc x s)]
  unfold kernelRun0_B
  dsimp only
  sl_unfold_words
  rw [View.canon_unit_zero hz]
  simp only [View.readAt_eq_ld, h1.read_unread, h5.read_unread, View.ld_unit_zero (S := S512x128) hz,
    View.ld_unit_zero (S := S1x128) hz, shapeCast_self]
  rfl

theorem cnt_B (hc : ¬cond0_0 i) : out0_B_2 c i a1 h1 a2 h2 a3 h3 a4 h4 a5 h5 hc x s = cntBlk x s := by
  unfold out0_B_2
  rw [View.read_writes_eq_canon _ _ _ (cover0_B_2 c i a1 h1 a2 h2 a3 h3 a4 h4 a5 h5 hc x s)]
  unfold kernelRun0_B
  dsimp only
  sl_unfold_words
  rw [View.canon_unit_zero hz]
  simp only [View.readAt_eq_ld, h1.read_unread, h5.read_unread, View.ld_unit_zero (S := S512x128) hz,
    View.ld_unit_zero (S := S1x128) hz, shapeCast_self]
  rfl

theorem rect_B (hc : ¬cond0_0 i) : out0_B_3 c i a1 h1 a2 h2 a3 h3 a4 h4 a5 h5 hc x s = rectBlk x s := by
  unfold out0_B_3
  rw [View.read_writes_eq_canon _ _ _ (cover0_B_3 c i a1 h1 a2 h2 a3 h3 a4 h4 a5 h5 hc x s)]
  unfold kernelRun0_B
  dsimp only
  sl_unfold_words
  rw [View.canon_unit_zero hz]
  simp only [View.readAt_eq_ld, h1.read_unread, h5.read_unread, View.ld_unit_zero (S := S512x128) hz,
    View.ld_unit_zero (S := S1x128) hz, shapeCast_self]
  rfl

theorem scr_B (hc : ¬cond0_0 i) : sout0_B_0 c i a1 h1 a2 h2 a3 h3 a4 h4 a5 h5 hc x s = cntBlk x s := by
  unfold sout0_B_0
  rw [View.read_writes_eq_canon _ _ _ (scover0_B_0 c i a1 h1 a2 h2 a3 h3 a4 h4 a5 h5 hc x s)]
  unfold kernelRun0_B
  dsimp only
  sl_unfold_words
  rw [View.canon_unit_zero hz]
  unfold k0_pay31
  simp only [View.readAt_eq_ld, h1.read_unread, h5.read_unread, View.ld_unit_zero (S := S512x128) hz,
    View.ld_unit_zero (S := S1x128) hz, shapeCast_self]
  rfl

theorem rec_A (hc : cond0_0 i) : out0_A_1 c i a1 h1 a2 h2 a3 h3 a4 h4 a5 h5 hc x = recBlk x zeroCnt := by
  unfold out0_A_1
  rw [View.read_writes_eq_canon _ _ _ (cover0_A_1 c i a1 h1 a2 h2 a3 h3 a4 h4 a5 h5 hc x)]
  unfold kernelRun0_A
  dsimp only
  sl_unfold_words
  rw [View.canon_unit_zero hz]
  simp only [View.readCov_unit_zero (S := S1x128) _ hz, View.readAt_eq_ld, h1.read_unread, View.ld_unit_zero (S := S512x128) hz, shapeCast_self]
  rfl

theorem cnt_A (hc : cond0_0 i) : out0_A_2 c i a1 h1 a2 h2 a3 h3 a4 h4 a5 h5 hc x = cntBlk x zeroCnt := by
  unfold out0_A_2
  rw [View.read_writes_eq_canon _ _ _ (cover0_A_2 c i a1 h1 a2 h2 a3 h3 a4 h4 a5 h5 hc x)]
  unfold kernelRun0_A
  dsimp only
  sl_unfold_words
  rw [View.canon_unit_zero hz]
  simp only [View.readCov_unit_zero (S := S1x128) _ hz, View.readAt_eq_ld, h1.read_unread, View.ld_unit_zero (S := S512x128) hz, shapeCast_self]
  rfl

theorem rect_A (hc : cond0_0 i) : out0_A_3 c i a1 h1 a2 h2 a3 h3 a4 h4 a5 h5 hc x = rectBlk x zeroCnt := by
  unfold out0_A_3
  rw [View.read_writes_eq_canon _ _ _ (cover0_A_3 c i a1 h1 a2 h2 a3 h3 a4 h4 a5 h5 hc x)]
  unfold kernelRun0_A
  dsimp only
  sl_unfold_words
  rw [View.canon_unit_zero hz]
  simp only [View.readCov_unit_zero (S := S1x128) _ hz, View.readAt_eq_ld, h1.read_unread, View.ld_unit_zero (S := S512x128) hz, shapeCast_self]
  rfl

theorem scr_A (hc : cond0_0 i) : sout0_A_0 c i a1 h1 a2 h2 a3 h3 a4 h4 a5 h5 hc x = cntBlk x zeroCnt := by
  unfold sout0_A_0
  rw [View.read_writes_eq_canon _ _ _ (scover0_A_0 c i a1 h1 a2 h2 a3 h3 a4 h4 a5 h5 hc x)]
  unfold kernelRun0_A
  dsimp only
  sl_unfold_words
  rw [View.canon_cons_unit_zero (S := S1x128) hz]
  unfold k0_pay31
  simp only [View.readCov_unit_zero (S := S1x128) _ hz, View.readAt_eq_ld, h1.read_unread, View.ld_unit_zero (S := S512x128) hz, shapeCast_self]
  rfl

end Cases

end Cert.Route

end
-- ==== Proof.Route.Kernel.lean ====
/-
  The routing kernel's results, row by row: the record of row `n` is row `n`'s choice, and the counts are how many
  choices each expert's lane received over all rows.
-/
module

public import proofs.«01_k».proof.Proof.Route.Blocks

@[expose] public section

set_option maxRecDepth 16384

noncomputable section

namespace Cert.Route

open Idealize.ShloMosaic Idealize.ShloMosaic.TcCoe Idealize.SL.Sem Cert.KernelIdeal Cert.KernelIdeal.Gen
  Cert.KernelIdeal.Value

/-- Row `n` of the logits. -/
abbrev arow (X : S32768x128.Idx → EReal) (n : Fin 32768) : Fin 128 → EReal := fun l => X (ix2 n l)

variable (m : (ℓ : Loc nD τ sig) → Buf (Elt Ideal) ℓ) (c : Dev nD)

/-- The logits the run starts from. -/
abbrev logits : S32768x128.Idx → EReal := m ((c : Thread nD τ).loc main_arg0)

theorem iblk_eq (t : Fin cfg0.N) (ht : t.val < 64) (r : Fin 512) (l : Fin 128) :
    (iblk m c 0 t : Vec Ideal S512x128 .f32) (ix2 r l) = logits m c (ix2 ⟨512 * t.val + r.val, by omega⟩ l) := by
  have hi : ∀ t : Fin cfg0.N, win0_0.index t 0 = t.val ∧ win0_0.index t 1 = 0 :=
    (by decide +kernel : ∀ t : Fin grid0.N, _)
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(hi t).1]; omega
  | ⟨1, _⟩ => show win0_0.index t 1 * 128 + 1 * l.val = l.val; rw [(hi t).2]; omega

theorem row_iblk (t : Fin cfg0.N) (ht : t.val < 64) (r : Fin 512) :
    row (iblk m c 0 t) r = arow (logits m c) ⟨512 * t.val + r.val, by omega⟩ :=
  funext fun l => iblk_eq m c t ht r l

/-- The choices of the rows of block `t` that are lane `l`. -/
def tileHits (X : S32768x128.Idx → EReal) (l : Fin 128) (t : ℕ) : ℕ :=
  ∑ r : Fin 512, if h : 512 * t + r.val < 32768 then hits (arow X ⟨512 * t + r.val, h⟩) l else 0

variable (hX : ∀ i, logits m c i ≠ ⊥)

/-- The state after point `n`: the blocks of that point over some running counts, and the counts so far. -/
def StateAt (n : ℕ) (h : n < cfg0.N) (S : Vec Ideal S512x128 .f32 × Vec Ideal S1x128 .f32 × Vec Ideal S8x512 .f32 × Vec Ideal S1x128 .f32) : Prop :=
  ∃ s : Vec Ideal S1x128 .f32,
    S = (recBlk (iblk m c 0 ⟨n, h⟩) s, cntBlk (iblk m c 0 ⟨n, h⟩) s, rectBlk (iblk m c 0 ⟨n, h⟩) s, cntBlk (iblk m c 0 ⟨n, h⟩) s)
      ∧ ∀ l : Fin 128, S.2.2.2 (ix2 0 l) = lane (∑ t ∈ Finset.range (n + 1), tileHits (logits m c) l t)

theorem StateAt.congr {a b : ℕ} {ha : a < cfg0.N} {S} (h : StateAt m c a ha S) (e : a = b) (hb : b < cfg0.N) :
    StateAt m c b hb S := by
  subst e; exact h

theorem cnt_rows (X : S32768x128.Idx → EReal) (v : Vec Ideal S512x128 .f32) (n : ℕ) (hn : n < 64)
    (hv : ∀ r : Fin 512, row v r = arow X ⟨512 * n + r.val, by omega⟩) (l : Fin 128) :
    ∑ r : Fin 512, hits (row v r) l = tileHits X l n := by
  unfold tileHits
  refine Finset.sum_congr rfl fun r _ => ?_
  have h : 512 * n + r.val < 32768 := by omega
  rw [dif_pos h, hv]

include hX in
theorem cnt_step (t : Fin cfg0.N) (s : Vec Ideal S1x128 .f32) (l : Fin 128) (k : ℕ)
    (hs : s (ix2 0 l) = lane k) :
    cntBlk (iblk m c 0 t) s (ix2 0 l) = lane (k + tileHits (logits m c) l t.val) := by
  have hn : t.val < 64 := lt_of_lt_of_eq t.isLt N_0
  have h1 := cntBlk_eq (iblk m c 0 t) (fun r l => by rw [iblk_eq m c t hn]; exact hX _) s l
  have h2 := cnt_rows (logits m c) (iblk m c 0 t) t.val hn (row_iblk m c t hn) l
  rw [h2, hs] at h1
  exact h1.trans (lane_add _ _)

include hX in
theorem state_A (t : Fin cfg0.N) (h0 : t.val = 0)
    (acc : Vec Ideal S512x128 .f32 × Vec Ideal S1x128 .f32 × Vec Ideal S8x512 .f32 × Vec Ideal S1x128 .f32) :
    StateAt m c t.val t.isLt (stAt0 m c t.val t.isLt acc) := by
  rw [stAt0_A m c t acc (by omega), rec_A, cnt_A, rect_A, scr_A]
  refine ⟨zeroCnt, rfl, fun l => ?_⟩
  have h := cnt_step m c hX t zeroCnt l 0 (by
    show k0_pay3 (F := Ideal) (ix2 0 l) = _
    pointwise [k0_pay3]
    rw [lane_zero])
  refine h.trans ?_
  rw [h0]
  simp

include hX in
theorem state_B (t : Fin cfg0.N) (h0 : ¬ t.val % 64 = 0)
    (acc : Vec Ideal S512x128 .f32 × Vec Ideal S1x128 .f32 × Vec Ideal S8x512 .f32 × Vec Ideal S1x128 .f32)
    (hacc : ∀ l : Fin 128, acc.2.2.2 (ix2 0 l) = lane (∑ k ∈ Finset.range t.val, tileHits (logits m c) l k)) :
    StateAt m c t.val t.isLt (stAt0 m c t.val t.isLt acc) := by
  rw [stAt0_B m c t acc h0, rec_B, cnt_B, rect_B, scr_B]
  refine ⟨acc.2.2.2, rfl, fun l => ?_⟩
  rw [Finset.sum_range_succ]
  exact cnt_step m c hX t _ l _ (hacc l)

include hX in
theorem state (n : ℕ) (h : 0 + n < cfg0.N) :
    StateAt m c n (by omega) (Pipeline.accAt (fun n h => stAt0 m c n h junk0) (stAt0 m c) 0 n h) := by
  induction n with
  | zero => exact state_A m c hX ⟨0, h⟩ rfl junk0
  | succ n ih =>
    have hN : cfg0.N = 64 := N_0
    obtain ⟨s, -, hs⟩ := ih (by omega)
    rw [Pipeline.accAt_succ]
    have := state_B m c hX ⟨0 + (n + 1), h⟩ (by show ¬ (0 + (n + 1)) % 64 = 0; omega) _
      (by show ∀ l, _ = lane (∑ k ∈ Finset.range (0 + (n + 1)), _); rw [Nat.zero_add]; exact hs)
    exact this.congr m c (Nat.zero_add _) _

include hX in
theorem G1_eq (n : Fin 32768) (l : Fin 128) (h4 : l.val ≠ 4) (h5 : l.val ≠ 5) :
    G1 m c (ix2 n l) = recAt (arow (logits m c) n) l := by
  have hN : cfg0.N = 64 := N_0
  have hp : pt1Of (ix2 n l) = n.val / 512 := by
    show 1 * (n.val / 512 - 0) + 1 * (l.val / 128 - 0) = _; omega
  have hlt : n.val / 512 < 64 := by omega
  unfold G1
  rw [dif_pos (by rw [hp]; omega), fold0_congr m c _ _ (n.val / 512) (by omega) hp]
  obtain ⟨s, he, -⟩ := state m c hX (n.val / 512) (by omega)
  rw [he]
  have hloc : loc1Of (ix2 n l) = ix2 ⟨n.val % 512, by omega⟩ l := by
    funext a; apply Fin.ext
    match a with
    | ⟨0, _⟩ => rfl
    | ⟨1, _⟩ => show l.val % 128 = l.val; omega
  rw [hloc]
  show recBlk _ s _ = _
  rw [recBlk_eq _ _ (fun l => by rw [iblk_eq m c ⟨n.val / 512, by omega⟩ hlt]; exact hX _) s l h4 h5,
    row_iblk m c ⟨n.val / 512, by omega⟩ hlt]
  congr 2
  apply Fin.ext
  show 512 * (n.val / 512) + n.val % 512 = n.val
  omega

include hX in
theorem G3_eq (j : Fin 8) (n : Fin 32768) (h4 : j.val ≠ 4) (h5 : j.val ≠ 5) :
    G3 m c (ix2 j n) = recAt (arow (logits m c) n) ⟨j.val, by omega⟩ := by
  have hN : cfg0.N = 64 := N_0
  have hp : pt3Of (ix2 j n) = n.val / 512 := by
    show 64 * (j.val / 8 - 0) + 1 * (n.val / 512 - 0) = _; omega
  have hlt : n.val / 512 < 64 := by omega
  unfold G3
  rw [dif_pos (by rw [hp]; omega), fold0_congr m c _ _ (n.val / 512) (by omega) hp]
  obtain ⟨s, he, -⟩ := state m c hX (n.val / 512) (by omega)
  rw [he]
  have hloc : loc3Of (ix2 j n) = ix2 j ⟨n.val % 512, by omega⟩ := by
    funext a; apply Fin.ext
    match a with
    | ⟨0, _⟩ => show j.val % 8 = j.val; omega
    | ⟨1, _⟩ => rfl
  rw [hloc]
  show rectBlk _ s _ = _
  rw [rectBlk_eq, recBlk_eq _ _ (fun l => by rw [iblk_eq m c ⟨n.val / 512, by omega⟩ hlt]; exact hX _) s _ h4 h5,
    row_iblk m c ⟨n.val / 512, by omega⟩ hlt]
  congr 2
  apply Fin.ext
  show 512 * (n.val / 512) + n.val % 512 = n.val
  omega

/-- The blocks' sums are the sum over all rows. -/
theorem sum_tiles (X : S32768x128.Idx → EReal) (l : Fin 128) :
    ∑ t ∈ Finset.range 64, tileHits X l t = ∑ n : Fin 32768, hits (arow X n) l := by
  rw [Finset.sum_range]
  unfold tileHits
  rw [← Finset.sum_product', Finset.univ_product_univ]
  refine Fintype.sum_equiv (finProdFinEquiv (m := 64) (n := 512)) _ _ fun p => ?_
  have h : 512 * p.1.val + p.2.val < 32768 := by have := p.1.isLt; have := p.2.isLt; omega
  rw [dif_pos h]
  congr 2
  apply Fin.ext
  show 512 * p.1.val + p.2.val = p.2.val + 512 * p.1.val
  omega

include hX in
theorem G2_eq (l : Fin 128) : G2 m c (ix2 0 l) = lane (∑ n : Fin 32768, hits (arow (logits m c) n) l) := by
  rw [G2_last]
  obtain ⟨s, he, hs⟩ := state m c hX 63 (lt_of_lt_of_eq (by decide) N_0.symm)
  have : (Pipeline.accAt (fun n h => stAt0 m c n h junk0) (stAt0 m c) 0 63 (lt_of_lt_of_eq (by decide) N_0.symm)).2.1
      = (Pipeline.accAt (fun n h => stAt0 m c n h junk0) (stAt0 m c) 0 63 (lt_of_lt_of_eq (by decide) N_0.symm)).2.2.2 := by
    rw [he]
  rw [this, hs, sum_tiles]

end Cert.Route

end
-- ==== Proof.Route.Terms.lean ====
/-
  The reference's steps under names of their own: softmax over the groups, the best group, its experts' logits, the
  best two experts, their weights, and the counts.
-/
module

public import proofs.«01_k».proof.Proof.Gen.ReferenceIdeal.Run
public import Idealize.ShloMosaic.Lib.Pointwise
public import proofs.«01_k».proof.Proof.Route.Rows

@[expose] public section

set_option maxRecDepth 16384

noncomputable section

namespace Cert.RouteRef

open Idealize.ShloMosaic Idealize.ShloMosaic.TcCoe Idealize.SL.Sem Cert.ReferenceIdeal Cert.ReferenceIdeal.Gen
  Cert.ReferenceIdeal.Value Cert.Route

variable (X : FVec Ideal S32768x128 .f32)

/-- The groups' logits. -/
def gLog : FVec Ideal S32768x4 .f32 := extractStridedSlice S32768x4 ![0, 0] X slices_S32768x128_S32768x4_0_0

/-- A row's greatest group logit. -/
def gMax : FVec Ideal S32768 .f32 :=
  maximumf (broadcastInDim S32768 ![] bcast_S_S32768 (constant S_ .f32 0xFF800000#32))
    (Host.reduce FloatOps.maximumf (gLog X) (constant S_ .f32 0xFF800000#32) reducesTo_S32768x4_S32768_d1 h_S_)

/-- The exponentials of the softmax over the groups. -/
def gExp : FVec Ideal S32768x4 .f32 :=
  Host.exp (subf (gLog X) (broadcastInDim S32768x4 ![0, 1] bcast_S32768x1_S32768x4_0_1
    (broadcastInDim S32768x1 ![0] bcast_S32768_S32768x1_0 (gMax X))))

/-- The groups' probabilities. -/
def gProb : FVec Ideal S32768x4 .f32 :=
  Host.divf (gExp X) (broadcastInDim S32768x4 ![0, 1] bcast_S32768x1_S32768x4_0_1
    (broadcastInDim S32768x1 ![0] bcast_S32768_S32768x1_0
      (Host.reduceAdd (gExp X) (constant S_ .f32 0x00000000#32) reducesTo_S32768x4_S32768_d1 h_S_)))

/-- The best group's probability, -/
def gVal : FVec Ideal S32768x1 .f32 := (Host.topK S32768x1 1 (FloatOps.cmpfTotal (F := Ideal) .gt) (gProb X) sliceFits_S32768x4_S32768x1).1
/-- and its index. -/
def gIdx : IVec S32768x1 32 := (Host.topK S32768x1 1 (FloatOps.cmpfTotal (F := Ideal) .gt) (gProb X) sliceFits_S32768x4_S32768x1).2

/-- The experts' logits, group by group. -/
def eLog : FVec Ideal S32768x4x8 .f32 :=
  shapeCast _ (extractStridedSlice S32768x32 ![0, 4] X slices_S32768x128_S32768x32_0_4) shapeCasts_S32768x32_S32768x4x8

/-- The pairs (row, group) looked up. -/
def pairs (g : IVec S32768x1 32) : IVec S32768x2 32 :=
  concatenate S32768x2 1 [⟨S32768x1, broadcastInDim S32768x1 ![0] bcast_S32768_S32768x1_0
      (select (cmpi .slt (iotaInDim S32768 32 0) (broadcastInDim S32768 ![] bcast_S_S32768 (constantI S_ 32 0#32)))
        (addi (iotaInDim S32768 32 0) (broadcastInDim S32768 ![] bcast_S_S32768 (constantI S_ 32 32768#32))) (iotaInDim S32768 32 0))⟩,
    ⟨S32768x1, broadcastInDim S32768x1 ![0] bcast_S32768_S32768x1_0
      (select (cmpi .slt (shapeCast _ g shapeCasts_S32768x1_S32768) (broadcastInDim S32768 ![] bcast_S_S32768 (constantI S_ 32 0#32)))
        (addi (shapeCast _ g shapeCasts_S32768x1_S32768) (broadcastInDim S32768 ![] bcast_S_S32768 (constantI S_ 32 4#32)))
        (shapeCast _ g shapeCasts_S32768x1_S32768))⟩] concatenates_S32768x1_S32768x1_S32768x2_d1

/-- The logits of the best group's experts. -/
def inG : FVec Ideal S32768x8 .f32 :=
  Host.gather gather_S32768x4x8_S32768x2_S32768x8_1_01_n_n_01_1_118 (eLog X) (pairs (gIdx X))

/-- The best two experts' logits, -/
def tVal : FVec Ideal S32768x2 .f32 := (Host.topK S32768x2 1 (FloatOps.cmpfTotal (F := Ideal) .gt) (inG X) sliceFits_S32768x8_S32768x2).1
/-- and their indices. -/
def tIdx : IVec S32768x2 32 := (Host.topK S32768x2 1 (FloatOps.cmpfTotal (F := Ideal) .gt) (inG X) sliceFits_S32768x8_S32768x2).2

/-- The exponentials of the softmax over the two experts, of any pair of logits. -/
def tExp (T : FVec Ideal S32768x2 .f32) : FVec Ideal S32768x2 .f32 :=
  Host.exp (subf T (broadcastInDim S32768x2 ![0, 1] bcast_S32768x1_S32768x2_0_1
    (broadcastInDim S32768x1 ![0] bcast_S32768_S32768x1_0
      (maximumf (broadcastInDim S32768 ![] bcast_S_S32768 (constant S_ .f32 0xFF800000#32))
        (Host.reduce FloatOps.maximumf T (constant S_ .f32 0xFF800000#32) reducesTo_S32768x2_S32768_d1 h_S_)))))

/-- The two experts' weights, from the group's probability and the two logits. -/
def weights (G : FVec Ideal S32768x1 .f32) (T : FVec Ideal S32768x2 .f32) : FVec Ideal S32768x2 .f32 :=
  mulf (broadcastInDim S32768x2 ![0, 1] bcast_S32768x1_S32768x2_0_1 G)
    (Host.divf (tExp T) (broadcastInDim S32768x2 ![0, 1] bcast_S32768x1_S32768x2_0_1
      (broadcastInDim S32768x1 ![0] bcast_S32768_S32768x1_0
        (Host.reduceAdd (tExp T) (constant S_ .f32 0x00000000#32) reducesTo_S32768x2_S32768_d1 h_S_))))

/-- The two experts' numbers. -/
def experts (g : IVec S32768x1 32) (t : IVec S32768x2 32) : IVec S32768x2 32 :=
  addi (broadcastInDim S32768x2 ![0, 1] bcast_S32768x1_S32768x2_0_1
    (muli g (broadcastInDim S32768x1 ![] bcast_S_S32768x1 (constantI S_ 32 8#32)))) t

/-- The experts' numbers, not below 0. -/
def clipped (e : IVec S32768x2 32) : IVec S65536 32 :=
  maxsi (broadcastInDim S65536 ![] bcast_S_S65536 (constantI S_ 32 0#32)) (shapeCast _ e shapeCasts_S32768x2_S65536)

/-- The places in the table of counts. -/
def places (e : IVec S32768x2 32) : IVec S65536x1 32 :=
  broadcastInDim S65536x1 ![0] bcast_S65536_S65536x1_0
    (select (cmpi .slt (clipped e) (broadcastInDim S65536 ![] bcast_S_S65536 (constantI S_ 32 0#32)))
      (addi (clipped e) (broadcastInDim S65536 ![] bcast_S_S65536 (constantI S_ 32 32#32))) (clipped e))

/-- How many choices each expert received. -/
def counts (e : IVec S32768x2 32) : IVec S32 32 :=
  Host.scatter scatter_S32_S65536x1_S65536_n_0_0_1 IntOp.addi
    (broadcastInDim S32 ![] bcast_S_S32 (constantI S_ 32 0#32)) (places e)
    (broadcastInDim S65536 ![] bcast_S_S65536 (constantI S_ 32 1#32))

/-- The records. -/
def recs (e : IVec S32768x2 32) (w : FVec Ideal S32768x2 .f32) : FVec Ideal S32768x128 .f32 :=
  concatenate S32768x128 1 [⟨S32768x2, (sitofp .f32 e : FVec Ideal S32768x2 .f32)⟩, ⟨S32768x2, w⟩,
    ⟨S32768x124, (broadcastInDim S32768x124 ![] bcast_S_S32768x124 (constant S_ .f32 0x00000000#32) : FVec Ideal S32768x124 .f32)⟩]
    concatenates_S32768x2_S32768x2_S32768x124_S32768x128_d1

/-- The row of counts. -/
def countRow (k : IVec S32 32) : FVec Ideal S1x128 .f32 :=
  concatenate S1x128 1 [⟨S1x4, (broadcastInDim S1x4 ![] bcast_S_S1x4 (constant S_ .f32 0x00000000#32) : FVec Ideal S1x4 .f32)⟩,
    ⟨S1x32, (broadcastInDim S1x32 ![1] bcast_S32_S1x32_1 (sitofp .f32 k) : FVec Ideal S1x32 .f32)⟩,
    ⟨S1x92, (broadcastInDim S1x92 ![] bcast_S_S1x92 (constant S_ .f32 0x00000000#32) : FVec Ideal S1x92 .f32)⟩]
    concatenates_S1x4_S1x32_S1x92_S1x128_d1

/-- The first eight columns of the records, turned. -/
def turned (r : FVec Ideal S32768x128 .f32) : FVec Ideal S8x32768 .f32 :=
  transpose S8x32768 [1, 0] (extractStridedSlice S32768x8 ![0, 0] r slices_S32768x128_S32768x8_0_0) transposes_S32768x8_S8x32768_1_0

def refRec : FVec Ideal S32768x128 .f32 := recs (experts (gIdx X) (tIdx X)) (weights (gVal X) (tVal X))
def refCount : FVec Ideal S1x128 .f32 := countRow (counts (experts (gIdx X) (tIdx X)))

variable (m : (ℓ : Loc nD τ sig) → Buf (Elt Ideal) ℓ) (c : Dev nD)

theorem out0_eq : (res_main_v60 m c : FVec Ideal S32768x128 .f32) = refRec (m ((c.tc : Thread nD τ).loc main_arg0)) := by
  unfold res_main_v60; rfl

theorem out1_eq : (res_main_v65 m c : FVec Ideal S1x128 .f32) = refCount (m ((c.tc : Thread nD τ).loc main_arg0)) := by
  unfold res_main_v65; rfl

theorem out2_eq : (res_main_v67 m c : FVec Ideal S8x32768 .f32) = turned (refRec (m ((c.tc : Thread nD τ).loc main_arg0))) := by
  unfold res_main_v67; rfl

end Cert.RouteRef

end
-- ==== Proof.Route.Choice.lean ====
/-
  The reference's choice, row by row: its sorted places hold the row's best group and that group's best two experts,
  and its weights are the row's weights, for rows of finite logits.
-/
module

public import proofs.«01_k».proof.Proof.Route.Terms
public import Idealize.ShloMosaic.Lib.Tactic.CleanTypes

@[expose] public section

set_option maxRecDepth 16384

noncomputable section

namespace Cert.RouteRef

open Idealize.ShloMosaic Cert.ReferenceIdeal Cert.ReferenceIdeal.Gen Cert.Route

theorem lit_negInf : Ideal.ofBits .f32 0xFF800000#32 = ⊥ := by
  simp [Ideal.ofBits, Ideal.ieee]

theorem div_real (a : ℝ) {b : ℝ} (h : b ≠ 0) : Ideal.div (a : EReal) (b : EReal) = ((a / b : ℝ) : EReal) := by
  rw [Ideal.div_coe h, ← EReal.coe_mul, mul_one_div]

theorem sum_real {n : ℕ} (f : Fin n → ℝ) : ∑ j, ((f j : ℝ) : EReal) = ((∑ j, f j : ℝ) : EReal) := by
  induction n with
  | zero => simp
  | succ n ih => rw [Fin.sum_univ_castSucc, Fin.sum_univ_castSucc, ih, EReal.coe_add]

theorem along2 {a b : ℕ} (i : Fin a) (j k : Fin b) :
    Shape.Idx.along (s := (⟨2, ![a, b]⟩ : Shape)) (ix2 i j) 1 k = ix2 i k := by
  funext d
  match d with
  | ⟨0, _⟩ => rfl
  | ⟨1, _⟩ => rfl

/-- The sorted places of a row. -/
abbrev place {a b : ℕ} (y : FVec Ideal (⟨2, ![a, b]⟩ : Shape) .f32) (n : Fin a) (z : Fin b) : Fin b :=
  sortedFrom (fun u v => decide (y (ix2 n v) < y (ix2 n u))) z

theorem sort_places {a b : ℕ} (y : FVec Ideal (⟨2, ![a, b]⟩ : Shape) .f32) (n : Fin a) (z w : Fin b) :
    sortedFrom (fun k k' : Fin b => FloatOps.cmpfTotal (F := Ideal) (φ := .f32) .gt
        (y (Shape.Idx.along (s := (⟨2, ![a, b]⟩ : Shape)) (ix2 n w) 1 k))
        (y (Shape.Idx.along (s := (⟨2, ![a, b]⟩ : Shape)) (ix2 n w) 1 k')) == 1#1) z = place y n z := by
  simp only [along2]
  unfold place
  congr 1
  funext u v
  show (BitVec.ofBool (decide (y (ix2 n v) < y (ix2 n u))) == 1#1) = _
  cases decide (y (ix2 n v) < y (ix2 n u)) <;> rfl

theorem topK_val {a b k : ℕ} (y : FVec Ideal (⟨2, ![a, b]⟩ : Shape) .f32) (h) (n : Fin a) (z : Fin k) (hz : z.val < b) :
    (Host.topK (⟨2, ![a, k]⟩ : Shape) 1 (FloatOps.cmpfTotal (F := Ideal) (φ := .f32) .gt) y h).1 (ix2 n z) = y (ix2 n (place y n ⟨z.val, hz⟩)) := by
  have e : ∀ p, p = (ix2 n ⟨z.val, hz⟩ : (⟨2, ![a, b]⟩ : Shape).Idx) →
      (Host.sort2 (⟨2, ![a, b]⟩ : Shape) 1 (fun l r : EReal × BitVec 32 => FloatOps.cmpfTotal (F := Ideal) (φ := .f32) .gt l.1 r.1) y
        (fun i => iotaInDim (⟨2, ![a, b]⟩ : Shape) 32 1 i)).1 p = y (ix2 n (place y n ⟨z.val, hz⟩)) := by
    rintro p rfl
    unfold Host.sort2
    rw [dif_pos (by show 1 < 2; omega)]
    exact (congrArg (fun p : Fin b => y (Shape.Idx.along (s := (⟨2, ![a, b]⟩ : Shape)) (ix2 n ⟨z.val, hz⟩) 1 p))
      (sort_places y n ⟨z.val, hz⟩ ⟨z.val, hz⟩)).trans (congrArg y (along2 _ _ _))
  refine e _ ?_
  funext d
  apply Fin.ext
  match d with
  | ⟨0, _⟩ => exact Nat.zero_add _
  | ⟨1, _⟩ => exact Nat.zero_add _

theorem topK_idx {a b k : ℕ} (y : FVec Ideal (⟨2, ![a, b]⟩ : Shape) .f32) (h) (n : Fin a) (z : Fin k) (hz : z.val < b) :
    (Host.topK (⟨2, ![a, k]⟩ : Shape) 1 (FloatOps.cmpfTotal (F := Ideal) (φ := .f32) .gt) y h).2 (ix2 n z)
      = BitVec.ofNat 32 (place y n ⟨z.val, hz⟩).val := by
  have e : ∀ p, p = (ix2 n ⟨z.val, hz⟩ : (⟨2, ![a, b]⟩ : Shape).Idx) →
      (Host.sort2 (⟨2, ![a, b]⟩ : Shape) 1 (fun l r : EReal × BitVec 32 => FloatOps.cmpfTotal (F := Ideal) (φ := .f32) .gt l.1 r.1) y
        (fun i => iotaInDim (⟨2, ![a, b]⟩ : Shape) 32 1 i)).2 p = BitVec.ofNat 32 (place y n ⟨z.val, hz⟩).val := by
    rintro p rfl
    unfold Host.sort2
    rw [dif_pos (by show 1 < 2; omega)]
    exact (congrArg (fun p : Fin b => iotaInDim (⟨2, ![a, b]⟩ : Shape) 32 1 (Shape.Idx.along (s := (⟨2, ![a, b]⟩ : Shape)) (ix2 n ⟨z.val, hz⟩) 1 p))
      (sort_places y n ⟨z.val, hz⟩ ⟨z.val, hz⟩)).trans (congrArg (iotaInDim (⟨2, ![a, b]⟩ : Shape) 32 1) (along2 _ _ _))
  refine e _ ?_
  funext d
  apply Fin.ext
  match d with
  | ⟨0, _⟩ => exact Nat.zero_add _
  | ⟨1, _⟩ => exact Nat.zero_add _

variable (X : FVec Ideal S32768x128 .f32) (A : Fin 32768 → Fin 128 → ℝ)
variable (hX : ∀ n l, X (ix2 n l) = ((A n l : ℝ) : EReal))

/-- Row `n` of the logits. -/
abbrev rw_ (n : Fin 32768) : Fin 128 → EReal := fun l => X (ix2 n l)

theorem gLog_eq (n : Fin 32768) (j : Fin 4) : gLog X (ix2 n j) = X (ix2 n (glane j)) := by
  pointwise [gLog]; rfl

theorem gMax_eq (n : Fin 32768) : gMax X (ix1 n) = X (ix2 n (glane (grp (rw_ X n)))) := by
  pointwise [gMax]
  simp only [gLog_eq, lit_negInf, bot_sup_eq]
  rw [fold_max_eq _ (grp (rw_ X n)) fun j => ((picks (rw_ X n)).group.2 j trivial).1]

theorem gExp_eq (n : Fin 32768) (j : Fin 4) :
    gExp X (ix2 n j) = Ideal.exp (X (ix2 n (glane j)) - X (ix2 n (glane (grp (rw_ X n))))) := by
  pointwise [gExp]
  rw [gLog_eq, gMax_eq]

/-- The sum of the row's exponentials. -/
def gSum (n : Fin 32768) : ℝ := ∑ j : Fin 4, Real.exp (A n (glane j) - A n (glane (grp (rw_ X n))))

theorem gSum_pos (n : Fin 32768) : 0 < gSum X A n :=
  Finset.sum_pos (fun _ _ => Real.exp_pos _) ⟨0, Finset.mem_univ _⟩

include hX in
theorem gProb_eq (n : Fin 32768) (j : Fin 4) :
    gProb X (ix2 n j) = ((Real.exp (A n (glane j) - A n (glane (grp (rw_ X n)))) / gSum X A n : ℝ) : EReal) := by
  pointwise [gProb]
  simp only [gExp_eq, hX, ← EReal.coe_sub, Ideal.exp_coe, sum_real]
  exact div_real _ (gSum_pos X A n).ne'

include hX in
theorem gPlace (n : Fin 32768) : place (gProb X) n 0 = grp (rw_ X n) := by
  have hp := (picks (rw_ X n)).group
  refine sortedFrom_zero (fun j => gProb X (ix2 n j)) 0 rfl ⟨trivial, fun j _ => ?_⟩
  have h := hp.2 j trivial
  simp only [hX, EReal.coe_le_coe_iff, EReal.coe_lt_coe_iff] at h
  simp only [gProb_eq X A hX, EReal.coe_le_coe_iff, EReal.coe_lt_coe_iff]
  have hs := gSum_pos X A n
  refine ⟨?_, fun hlt => ?_⟩
  · exact div_le_div_of_nonneg_right (Real.exp_le_exp.mpr (by linarith [h.1])) hs.le
  · exact div_lt_div_of_pos_right (Real.exp_lt_exp.mpr (by linarith [h.2 hlt])) hs

include hX in
theorem gIdx_eq (n : Fin 32768) : gIdx X (ix2 n 0) = BitVec.ofNat 32 (grp (rw_ X n)).val := by
  unfold gIdx
  rw [topK_idx (gProb X) _ n 0 (by decide)]
  exact congrArg (fun k : Fin 4 => BitVec.ofNat 32 k.val) (gPlace X A hX n)

include hX in
theorem gVal_eq (n : Fin 32768) : gVal X (ix2 n 0) = ((1 / gSum X A n : ℝ) : EReal) := by
  unfold gVal
  rw [topK_val (gProb X) _ n 0 (by decide)]
  have h : place (gProb X) n ⟨(0 : Fin 1).val, by decide⟩ = grp (rw_ X n) := gPlace X A hX n
  rw [h, gProb_eq X A hX, sub_self, Real.exp_zero]

end Cert.RouteRef

end
-- ==== Proof.Route.Weights.lean ====
/-
  The reference's experts and weights, row by row, for rows of finite logits: the best group's experts are looked up,
  the best two of them found, and their weights are the row's weights.
-/
module

public import proofs.«01_k».proof.Proof.Route.Choice
public import Idealize.ShloMosaic.Lib.Routing.OpsPair

@[expose] public section

set_option maxRecDepth 16384

noncomputable section

namespace Cert.RouteRef

open Idealize.ShloMosaic Cert.ReferenceIdeal Cert.ReferenceIdeal.Gen Cert.Route

theorem toInt_word {k : ℕ} (h : k < 2 ^ 31) : (BitVec.ofNat 32 k).toInt = k :=
  StableHlo.Predicate.toInt_ofNat_small _ h

theorem gather_at (x : FVec Ideal S32768x4x8 .f32) (idx : IVec S32768x2 32) (n : Fin 32768) (j : Fin 8) (g : Fin 4)
    (h0 : idx (ix2 n 0) = BitVec.ofNat 32 n.val) (h1 : idx (ix2 n 1) = BitVec.ofNat 32 g.val) :
    Host.gather gather_S32768x4x8_S32768x2_S32768x8_1_01_n_n_01_1_118 x idx (ix2 n j) = x (ix3 n g j) := by
  unfold Host.gather
  refine congrArg x (funext fun a => Fin.ext ?_)
  match a with
  | ⟨0, _⟩ =>
    show GatherDims.start _ (ix2 n j) idx 0 + GatherDims.batchCoord _ (ix2 n j) 0 + GatherDims.offCoord _ (ix2 n j) 0 = n.val
    rw [GatherDims.batchCoord_eq_zero _ _ _ (by decide), GatherDims.offCoord_eq_zero _ _ _ (by decide)]
    unfold GatherDims.start
    rw [dif_pos (by decide)]
    have hs : ∀ c, c.val = 0 → GatherDims.siIdx gather_S32768x4x8_S32768x2_S32768x8_1_01_n_n_01_1_118 (ix2 n j) c = ix2 n 0 := by
      intro c hc
      funext b
      match b with
      | ⟨0, _⟩ => rfl
      | ⟨1, _⟩ => exact Fin.ext hc
    rw [hs _ rfl, h0, toInt_word (by omega)]
    show min (n.val : ℤ).toNat (32768 - 1) + 0 + 0 = n.val
    omega
  | ⟨1, _⟩ =>
    show GatherDims.start _ (ix2 n j) idx 1 + GatherDims.batchCoord _ (ix2 n j) 1 + GatherDims.offCoord _ (ix2 n j) 1 = g.val
    rw [GatherDims.batchCoord_eq_zero _ _ _ (by decide), GatherDims.offCoord_eq_zero _ _ _ (by decide)]
    unfold GatherDims.start
    rw [dif_pos (by decide)]
    have hs : ∀ c, c.val = 1 → GatherDims.siIdx gather_S32768x4x8_S32768x2_S32768x8_1_01_n_n_01_1_118 (ix2 n j) c = ix2 n 1 := by
      intro c hc
      funext b
      match b with
      | ⟨0, _⟩ => rfl
      | ⟨1, _⟩ => exact Fin.ext hc
    rw [hs _ rfl, h1, toInt_word (by omega)]
    show min (g.val : ℤ).toNat (4 - 1) + 0 + 0 = g.val
    omega
  | ⟨2, _⟩ =>
    show GatherDims.start _ (ix2 n j) idx 2 + GatherDims.batchCoord _ (ix2 n j) 2 + GatherDims.offCoord _ (ix2 n j) 2 = j.val
    rw [GatherDims.batchCoord_eq_zero _ _ _ (by decide)]
    unfold GatherDims.start
    rw [dif_neg (by decide)]
    unfold GatherDims.offCoord
    rw [dif_pos (by decide)]
    show 0 + 0 + j.val = j.val
    omega

theorem wrap_word {k : ℕ} (a : BitVec 32) (h : k < 2 ^ 31) :
    Scalar.select (IntOp.cmpi .slt (BitVec.ofNat 32 k) 0#32) a (BitVec.ofNat 32 k) = BitVec.ofNat 32 k :=
  Routing.wrap_of_lt _ _ (by rw [BitVec.toNat_ofNat, Nat.mod_eq_of_lt (by omega)]; exact h)

theorem pairs_row (g : IVec S32768x1 32) (n : Fin 32768) : pairs g (ix2 n 0) = BitVec.ofNat 32 n.val := by
  pointwise [pairs]
  exact wrap_word _ (by omega)

theorem pairs_grp (g : IVec S32768x1 32) (n : Fin 32768) (k : Fin 4) (h : g (ix2 n 0) = BitVec.ofNat 32 k.val) :
    pairs g (ix2 n 1) = BitVec.ofNat 32 k.val := by
  pointwise [pairs]
  rw [h]
  exact wrap_word _ (by omega)

variable (X : FVec Ideal S32768x128 .f32) (A : Fin 32768 → Fin 128 → ℝ)
variable (hX : ∀ n l, X (ix2 n l) = ((A n l : ℝ) : EReal))

theorem eLog_eq (n : Fin 32768) (g : Fin 4) (j : Fin 8) : eLog X (ix3 n g j) = X (ix2 n (elane g j)) := by
  pointwise [eLog]
  congr 2
  apply Fin.ext
  show 4 + (g.val * 8 + j.val) = 4 + 8 * g.val + j.val
  omega

include hX in
theorem inG_eq (n : Fin 32768) (j : Fin 8) : inG X (ix2 n j) = X (ix2 n (elane (grp (rw_ X n)) j)) := by
  unfold inG
  rw [gather_at _ _ n j (grp (rw_ X n)) (pairs_row _ n) (pairs_grp _ n _ (gIdx_eq X A hX n)), eLog_eq]

include hX in
theorem place_first (n : Fin 32768) : place (inG X) n 0 = ex1 (rw_ X n) := by
  refine sortedFrom_zero (fun j => inG X (ix2 n j)) 0 rfl ?_
  simp only [inG_eq X A hX]
  exact (picks (rw_ X n)).first

include hX in
theorem place_second (n : Fin 32768) : place (inG X) n 1 = ex2 (rw_ X n) := by
  refine sortedFrom_one (fun j => inG X (ix2 n j)) (i := ex1 (rw_ X n)) 0 1 rfl rfl ?_ ?_
  · simp only [inG_eq X A hX]
    exact (picks (rw_ X n)).first
  · simp only [inG_eq X A hX]
    exact (picks (rw_ X n)).second

/-- The expert chosen in place `z` of row `x`. -/
def exAt (x : Fin 128 → EReal) (z : Fin 2) : Fin 8 := if z.val = 0 then ex1 x else ex2 x

include hX in
theorem place_eq (n : Fin 32768) (z : Fin 2) : place (inG X) n ⟨z.val, by omega⟩ = exAt (rw_ X n) z := by
  match z with
  | ⟨0, _⟩ => exact place_first X A hX n
  | ⟨1, _⟩ => exact place_second X A hX n

include hX in
theorem tIdx_eq (n : Fin 32768) (z : Fin 2) : tIdx X (ix2 n z) = BitVec.ofNat 32 (exAt (rw_ X n) z).val := by
  unfold tIdx
  rw [topK_idx (inG X) _ n z (by omega), place_eq X A hX]

include hX in
theorem tVal_eq (n : Fin 32768) (z : Fin 2) : tVal X (ix2 n z) = X (ix2 n (elane (grp (rw_ X n)) (exAt (rw_ X n) z))) := by
  unfold tVal
  rw [topK_val (inG X) _ n z (by omega), place_eq X A hX, inG_eq X A hX]

include hX in
theorem experts_eq (n : Fin 32768) (z : Fin 2) :
    experts (gIdx X) (tIdx X) (ix2 n z) = BitVec.ofNat 32 (8 * (grp (rw_ X n)).val + (exAt (rw_ X n) z).val) := by
  pointwise [experts]
  rw [gIdx_eq X A hX, tIdx_eq X A hX]
  show BitVec.ofNat 32 _ * BitVec.ofNat 32 8 + BitVec.ofNat 32 _ = _
  rw [← BitVec.ofNat_mul, ← BitVec.ofNat_add, Nat.mul_comm]

/-- The difference of the two experts' logits. -/
def gap (n : Fin 32768) : ℝ := A n (elane (grp (rw_ X n)) (ex2 (rw_ X n))) - A n (elane (grp (rw_ X n)) (ex1 (rw_ X n)))

include hX in
theorem tExp_eq (n : Fin 32768) (z : Fin 2) :
    tExp (tVal X) (ix2 n z) = ((if z.val = 0 then 1 else Real.exp (gap X A n) : ℝ) : EReal) := by
  have h0 : tVal X (ix2 n 0) = ((A n (elane (grp (rw_ X n)) (ex1 (rw_ X n))) : ℝ) : EReal) :=
    (tVal_eq X A hX n 0).trans (hX _ _)
  have h1 : tVal X (ix2 n 1) = ((A n (elane (grp (rw_ X n)) (ex2 (rw_ X n))) : ℝ) : EReal) :=
    (tVal_eq X A hX n 1).trans (hX _ _)
  have hle : tVal X (ix2 n 1) ≤ tVal X (ix2 n 0) := by
    rw [tVal_eq X A hX, tVal_eq X A hX]
    exact ((picks (rw_ X n)).first.2 (ex2 (rw_ X n)) trivial).1
  have hm : (Finset.univ : Finset (Fin 2)).fold max ⊥ (fun k => tVal X (ix2 n k)) = tVal X (ix2 n 0) :=
    fold_max_eq _ 0 fun k => by
      match k with
      | ⟨0, _⟩ => exact le_rfl
      | ⟨1, _⟩ => exact hle
  pointwise [tExp]
  simp only [lit_negInf, bot_sup_eq]
  rw [hm, h0]
  match z with
  | ⟨0, _⟩ =>
    show Ideal.exp (tVal X (ix2 n 0) - _) = _
    rw [h0, ← EReal.coe_sub, Ideal.exp_coe, sub_self, Real.exp_zero]
    rfl
  | ⟨1, _⟩ =>
    show Ideal.exp (tVal X (ix2 n 1) - _) = _
    rw [h1, ← EReal.coe_sub, Ideal.exp_coe]
    rfl

include hX in
theorem weights_eq (n : Fin 32768) (z : Fin 2) :
    weights (gVal X) (tVal X) (ix2 n z)
      = ((1 / gSum X A n * ((if z.val = 0 then 1 else Real.exp (gap X A n)) / (1 + Real.exp (gap X A n))) : ℝ) : EReal) := by
  have hs : ∑ k : Fin 2, tExp (tVal X) (ix2 n k) = ((1 + Real.exp (gap X A n) : ℝ) : EReal) := by
    simp only [tExp_eq X A hX]
    rw [Fin.sum_univ_two, EReal.coe_add]
    rfl
  pointwise [weights]
  rw [hs, tExp_eq X A hX, gVal_eq X A hX]
  have hp := Real.exp_pos (gap X A n)
  rw [div_real _ (by linarith), ← EReal.coe_mul]

include hX in
theorem grpP_eq (n : Fin 32768) : grpP (rw_ X n) = ((1 / gSum X A n : ℝ) : EReal) := by
  unfold grpP
  simp only [hX, ← EReal.coe_sub, Ideal.exp_coe, sum_real]
  exact div_real 1 (gSum_pos X A n).ne'

include hX in
theorem ratio_eq (n : Fin 32768) : ratio (rw_ X n) = ((Real.exp (gap X A n) : ℝ) : EReal) := by
  unfold ratio
  simp only [hX, ← EReal.coe_sub, Ideal.exp_coe]
  rfl

include hX in
theorem weight_first (n : Fin 32768) : weights (gVal X) (tVal X) (ix2 n 0) = wt1 (rw_ X n) := by
  have hp := Real.exp_pos (gap X A n)
  have hs := gSum_pos X A n
  rw [weights_eq X A hX, wt1, grpP_eq X A hX, ratio_eq X A hX, ← EReal.coe_one, ← EReal.coe_add,
    div_real _ (by linarith : (1 + Real.exp (gap X A n)) ≠ 0)]
  congr 1
  rw [if_pos (show (0 : Fin 2).val = 0 from rfl)]
  field_simp

include hX in
theorem weight_second (n : Fin 32768) : weights (gVal X) (tVal X) (ix2 n 1) = wt2 (rw_ X n) := by
  have hp := Real.exp_pos (gap X A n)
  have hs := gSum_pos X A n
  rw [weights_eq X A hX, wt2, grpP_eq X A hX, ratio_eq X A hX, ← EReal.coe_one, ← EReal.coe_add, ← EReal.coe_mul,
    div_real _ (by linarith : (1 + Real.exp (gap X A n)) ≠ 0)]
  congr 1
  rw [if_neg (by decide)]
  field_simp

end Cert.RouteRef

end
-- ==== Proof.Route.Counts.lean ====
/-
  The reference's three results, entry by entry, for rows of finite logits: the records of the rows' choices, and how
  many choices each expert's lane received.
-/
module

public import proofs.«01_k».proof.Proof.Route.Weights
public import proofs.«01_k».proof.Proof.Route.Record
public import Idealize.ShloMosaic.Lib.Routing.Ops
public import Idealize.ShloMosaic.Lib.Pointwise.IndexBridge

@[expose] public section

set_option maxRecDepth 16384

noncomputable section

namespace Cert.RouteRef

open Idealize.ShloMosaic Cert.ReferenceIdeal Cert.ReferenceIdeal.Gen Cert.Route

theorem sitofp_word {k : ℕ} (h : k < 2 ^ 31) : FloatOps.sitofp (F := Ideal) .f32 (BitVec.ofNat 32 k) = lane k := by
  show (((BitVec.ofNat 32 k).toInt : ℝ) : EReal) = lane k
  rw [toInt_word h]; rfl

theorem foldl_add_ones {ι : Type} (p : ι → Prop) [DecidablePred p] (L : List ι) (b : ℕ) :
    L.foldl (fun a n => if p n then IntOp.addi a 1#32 else a) (BitVec.ofNat 32 b)
      = BitVec.ofNat 32 (b + (L.map fun n => if p n then 1 else 0).sum) := by
  induction L generalizing b with
  | nil => rfl
  | cons x L ih =>
    rw [List.foldl_cons, List.map_cons, List.sum_cons, ← Nat.add_assoc, ← ih]
    congr 1
    split
    · exact (BitVec.ofNat_add b 1).symm
    · rfl

theorem lands (idx : IVec S65536x1 32) (i : Fin 65536) (x : Fin 32) :
    scatter_S32_S65536x1_S65536_n_0_0_1.resultIdx? (ValueIdx.ix1 i) idx = some (ValueIdx.ix1 x)
      ↔ (idx (ix2 i 0)).toInt = (x.val : ℤ) := by
  rw [Routing.resultIdx?_ix1]
  have hw : scatter_S32_S65536x1_S65536_n_0_0_1.window (ValueIdx.ix1 i) 0 = 0 := by
    unfold ScatterDims.window
    rw [dif_neg (by decide)]
  have hs : scatter_S32_S65536x1_S65536_n_0_0_1.start (ValueIdx.ix1 i) idx 0 = (idx (ix2 i 0)).toInt := by
    unfold ScatterDims.start
    rw [dif_pos (by decide)]
    have hsi : ∀ c, c.val = 0 → scatter_S32_S65536x1_S65536_n_0_0_1.siIdx (ValueIdx.ix1 i) c = ix2 i 0 := by
      intro c hc
      funext b
      match b with
      | ⟨0, _⟩ => rfl
      | ⟨1, _⟩ => exact Fin.ext hc
    rw [hsi _ rfl]
  rw [hw, hs, Nat.cast_zero, Int.add_zero]

theorem sum_cast {N M : ℕ} (h : M = N) (f : Fin N → ℕ) : ∑ n : Fin M, f (n.cast h) = ∑ i : Fin N, f i := by
  subst h; rfl

/-- A table of zeros to which one is added at every index word: entry `x` is the number of words that are `x`. -/
theorem scatter_count (idx : IVec S65536x1 32) (x0 : IVec S32 32) (upd : IVec S65536 32) (hx : ∀ i, x0 i = BitVec.ofNat 32 0)
    (hu : ∀ i, upd i = 1#32) (ν : Fin 65536 → ℕ) (hν : ∀ i, ν i < 2 ^ 31) (hi : ∀ i, idx (ix2 i 0) = BitVec.ofNat 32 (ν i)) (x : Fin 32) :
    Host.scatter scatter_S32_S65536x1_S65536_n_0_0_1 IntOp.addi x0 idx upd (ix1 x)
      = BitVec.ofNat 32 (∑ i : Fin 65536, if ν i = x.val then 1 else 0) := by
  rw [ix1_eq_valueIdx, Routing.scatter_at, hx]
  have hp : ∀ n : Fin S65536.numel,
      scatter_S32_S65536x1_S65536_n_0_0_1.resultIdx? (S65536.rowMajor.symm n) idx = some (ValueIdx.ix1 x)
        ↔ ν (n.cast (Routing.numel1 65536)) = x.val := by
    intro n
    have hn : S65536.rowMajor.symm n = ValueIdx.ix1 (n.cast (Routing.numel1 65536)) := Routing.symm1 n
    rw [hn, lands, hi, toInt_word (hν _)]
    exact Int.ofNat_inj
  simp only [hp, hu]
  rw [foldl_add_ones (fun n : Fin S65536.numel => ν (n.cast (Routing.numel1 65536)) = x.val), Nat.zero_add]
  refine congrArg (BitVec.ofNat 32) ((Fin.sum_univ_def _).symm.trans ?_)
  exact sum_cast (Routing.numel1 65536) fun i => if ν i = x.val then 1 else 0

theorem max_word : ∀ k : Fin 32, IntOp.maxsi 0#32 (BitVec.ofNat 32 k.val) = BitVec.ofNat 32 k.val := by decide

theorem clipped_eq (e : IVec S32768x2 32) (k : Fin 32) (i : Fin 65536)
    (h : e (ix2 ⟨i.val / 2, by omega⟩ ⟨i.val % 2, by omega⟩) = BitVec.ofNat 32 k.val) :
    clipped e (ix1 i) = BitVec.ofNat 32 k.val := by
  pointwise [clipped]
  rw [h]
  exact max_word k

theorem places_eq (e : IVec S32768x2 32) (k : Fin 32) (i : Fin 65536)
    (h : e (ix2 ⟨i.val / 2, by omega⟩ ⟨i.val % 2, by omega⟩) = BitVec.ofNat 32 k.val) :
    places e (ix2 i 0) = BitVec.ofNat 32 k.val := by
  pointwise [places]
  rw [clipped_eq e k i h]
  exact wrap_word _ (by omega)

/-- The sum over all places is the sum over rows of the two choices. -/
theorem sum_places (f : Fin 32768 → Fin 2 → ℕ) :
    ∑ i : Fin 65536, f ⟨i.val / 2, by omega⟩ ⟨i.val % 2, by omega⟩ = ∑ n : Fin 32768, (f n 0 + f n 1) := by
  have h : ∀ n : Fin 32768, f n 0 + f n 1 = ∑ z : Fin 2, f n z := fun n => (Fin.sum_univ_two _).symm
  simp only [h]
  rw [← Finset.sum_product', Finset.univ_product_univ]
  refine (Fintype.sum_equiv (finProdFinEquiv (m := 32768) (n := 2)) _ _ fun p => ?_).symm
  have hv : (finProdFinEquiv (m := 32768) (n := 2) p).val = p.2.val + 2 * p.1.val := rfl
  congr 1
  · apply Fin.ext
    show p.1.val = (finProdFinEquiv (m := 32768) (n := 2) p).val / 2
    rw [hv]; omega
  · apply Fin.ext
    show p.2.val = (finProdFinEquiv (m := 32768) (n := 2) p).val % 2
    rw [hv]; omega

variable (X : FVec Ideal S32768x128 .f32) (A : Fin 32768 → Fin 128 → ℝ)
variable (hX : ∀ n l, X (ix2 n l) = ((A n l : ℝ) : EReal))

/-- The number of the expert chosen in place `z` of row `x`. -/
def num (x : Fin 128 → EReal) (z : Fin 2) : Fin 32 := ⟨8 * (grp x).val + (exAt x z).val, by omega⟩

theorem hits_num (x : Fin 128 → EReal) (k : Fin 32) (l : Fin 128) (hl : l.val = 4 + k.val) :
    hits x l = (if (num x 0).val = k.val then 1 else 0) + (if (num x 1).val = k.val then 1 else 0) := by
  have h0 : (l = lane1 x) ↔ (num x 0).val = k.val := by
    rw [Fin.ext_iff]
    show l.val = 4 + 8 * (grp x).val + (ex1 x).val ↔ 8 * (grp x).val + (ex1 x).val = k.val
    omega
  have h1 : (l = lane2 x) ↔ (num x 1).val = k.val := by
    rw [Fin.ext_iff]
    show l.val = 4 + 8 * (grp x).val + (ex2 x).val ↔ 8 * (grp x).val + (ex2 x).val = k.val
    omega
  unfold hits
  simp only [h0, h1]

theorem hits_out (x : Fin 128 → EReal) (l : Fin 128) (hl : l.val < 4 ∨ 36 ≤ l.val) : hits x l = 0 := by
  have h : ∀ j : Fin 8, l ≠ elane (grp x) j := fun j he => by
    have : l.val = 4 + 8 * (grp x).val + j.val := congrArg Fin.val he
    omega
  unfold hits
  rw [if_neg (h _), if_neg (h _)]

/-- How many choices expert `k` received over all rows. -/
def tally (k : Fin 32) : ℕ :=
  ∑ n : Fin 32768, ((if (num (rw_ X n) 0).val = k.val then 1 else 0) + (if (num (rw_ X n) 1).val = k.val then 1 else 0))

theorem tally_lt (k : Fin 32) : tally X k < 2 ^ 31 := by
  unfold tally
  refine lt_of_le_of_lt (Finset.sum_le_card_nsmul Finset.univ _ 2 fun n _ => ?_) (by rw [Finset.card_univ, Fintype.card_fin]; decide)
  split <;> split <;> omega

include hX in
theorem counts_eq (k : Fin 32) : counts (experts (gIdx X) (tIdx X)) (ix1 k) = BitVec.ofNat 32 (tally X k) := by
  unfold counts
  rw [scatter_count _ _ _ (fun i => by idx_vars i; pointwise) (fun i => by idx_vars i; pointwise)
    (fun i => (num (rw_ X ⟨i.val / 2, by omega⟩) ⟨i.val % 2, by omega⟩).val) (fun i => by omega)
    (fun i => places_eq _ _ i (experts_eq X A hX _ _)) k]
  exact congrArg (BitVec.ofNat 32) (sum_places fun n z => if (num (rw_ X n) z).val = k.val then 1 else 0)

theorem tally_hits (k : Fin 32) (l : Fin 128) (hl : l.val = 4 + k.val) : tally X k = ∑ n : Fin 32768, hits (rw_ X n) l :=
  Finset.sum_congr rfl fun n _ => (hits_num (rw_ X n) k l hl).symm

include hX in
theorem refCount_eq (l : Fin 128) : refCount X (ix2 0 l) = lane (∑ n : Fin 32768, hits (rw_ X n) l) := by
  have hz : (l.val < 4 ∨ 36 ≤ l.val) → lane (∑ n : Fin 32768, hits (rw_ X n) l) = 0 := fun h => by
    rw [Finset.sum_eq_zero fun n _ => hits_out (rw_ X n) l h]
    simp [lane]
  unfold refCount
  pointwise [countRow]
  split
  · next h => rw [hz (Or.inl h)]
  · next h =>
    split
    · next h' =>
      refine (congrArg (FloatOps.sitofp (F := Ideal) .f32) (counts_eq X A hX ⟨l.val - 4, by omega⟩)).trans ?_
      rw [sitofp_word (tally_lt X _), tally_hits X _ l (by show l.val = 4 + (l.val - 4); omega)]
    · next h' => rw [hz (Or.inr (by omega))]

theorem recAt_expert (x : Fin 128 → EReal) (z : Fin 2) (l : Fin 128) (h : l.val = z.val) :
    recAt x l = lane (8 * (grp x).val + (exAt x z).val) := by
  unfold recAt exAt
  match z, h with
  | ⟨0, _⟩, h => simp [h]
  | ⟨1, _⟩, h => simp [h]

theorem recAt_rest (x : Fin 128 → EReal) (l : Fin 128) (h : 4 ≤ l.val) : recAt x l = 0 := by
  unfold recAt
  rw [if_neg (by omega), if_neg (by omega), if_neg (by omega), if_neg (by omega)]

include hX in
theorem weight_at (n : Fin 32768) (z : Fin 2) (l : Fin 128) (h : l.val = 2 + z.val) :
    weights (gVal X) (tVal X) (ix2 n z) = recAt (rw_ X n) l := by
  unfold recAt
  match z, h with
  | ⟨0, _⟩, h =>
    have h2 : l.val = 2 := h
    rw [if_neg (by omega), if_pos h2]; exact weight_first X A hX n
  | ⟨1, _⟩, h =>
    have h3 : l.val = 3 := h
    rw [if_pos h3]; exact weight_second X A hX n

include hX in
theorem refRec_eq (n : Fin 32768) (l : Fin 128) : refRec X (ix2 n l) = recAt (rw_ X n) l := by
  unfold refRec
  pointwise [recs]
  split
  · next h =>
    refine (congrArg (FloatOps.sitofp (F := Ideal) .f32) (experts_eq X A hX n ⟨l.val, by omega⟩)).trans ?_
    exact (sitofp_word (by omega)).trans (recAt_expert _ ⟨l.val, by omega⟩ l rfl).symm
  · next h =>
    split
    · next h' => exact weight_at X A hX n ⟨l.val - 2, by omega⟩ l (by show l.val = 2 + (l.val - 2); omega)
    · next h' => exact (recAt_rest _ l (by omega)).symm

theorem turned_eq (r : FVec Ideal S32768x128 .f32) (j : Fin 8) (n : Fin 32768) :
    turned r (ix2 j n) = r (ix2 n ⟨j.val, by omega⟩) := by
  pointwise [turned]

end Cert.RouteRef

end
-- ==== Proof.Route.Claim.lean ====
/-
  The two programs compute the same routing: the equation of their results and the claim stated of their runs.
-/
module

public import proofs.«01_k».proof.Defs
public import proofs.«01_k».proof.Proof.Gen.Pre_finite_logits
public import proofs.«01_k».proof.Proof.Route.Kernel
public import proofs.«01_k».proof.Proof.Route.Counts
public import Idealize.ShloMosaic.Adequacy
public import Idealize.ShloMosaic.Init

@[expose] public section

set_option maxRecDepth 16384

noncomputable section

namespace Cert.RouteClaim

open Idealize.ShloMosaic Idealize.SL.Sem Cert.Route Cert.RouteRef

/-- The shapes that the mask's operations take. -/
instance maskFacts : Cert.On_routing.Facts where
  bcast_S_S32768x128 := by decide
  bcast_S_S1x128 := by decide
  bcast_S_S8x32768 := by decide

theorem lit_inf : Ideal.ofBits .f32 0x7F800000#32 = ⊤ := by
  simp [Ideal.ofBits, Ideal.ieee]

/-- A logit whose absolute value is below infinity is a real number. -/
theorem real_of_lt {x : EReal} (h : max x (-x) < ⊤) : x = ((x.toReal : ℝ) : EReal) := by
  refine (EReal.coe_toReal ?_ ?_).symm
  · rintro rfl; simp at h
  · rintro rfl; simp at h

theorem real_of_pre (X : FVec Ideal (⟨2, ![32768, 128]⟩ : Shape) .f32)
    (h : Cert.Pre_finite_logits.fn (F := Ideal) X = fun _ => 1#1) (n : Fin 32768) (l : Fin 128) :
    X (ix2 n l) = (((X (ix2 n l)).toReal : ℝ) : EReal) := by
  have h1 := congrFun h (ix2 n l)
  pointwise [Cert.Pre_finite_logits.fn] at h1
  rw [lit_inf] at h1
  have h2 : decide (max (X (ix2 n l)) (-(X (ix2 n l))) < ⊤) = true := by
    by_contra hc
    rw [Bool.not_eq_true] at hc
    have h3 : BitVec.ofBool (decide (max (X (ix2 n l)) (-(X (ix2 n l))) < ⊤)) = 1#1 := h1
    rw [hc] at h3
    exact absurd h3 (by decide)
  exact real_of_lt (of_decide_eq_true h2)

theorem word_open : ∀ k : Fin 128, IntOp.ori (IntOp.cmpi .slt (BitVec.ofNat 32 k.val) 4#32) (IntOp.cmpi .sgt (BitVec.ofNat 32 k.val) 5#32) = 1#1
    → k.val ≠ 4 ∧ k.val ≠ 5 := by decide

theorem on_rec (X : FVec Ideal (⟨2, ![32768, 128]⟩ : Shape) .f32) (n : Fin 32768) (l : Fin 128)
    (h : (Cert.On_routing.fn (F := Ideal) X).1 (ix2 n l) = 1#1) : l.val ≠ 4 ∧ l.val ≠ 5 := by
  refine word_open l ?_
  rw [← h]
  pointwise [Cert.On_routing.fn]

theorem on_turned (X : FVec Ideal (⟨2, ![32768, 128]⟩ : Shape) .f32) (j : Fin 8) (n : Fin 32768)
    (h : (Cert.On_routing.fn (F := Ideal) X).2.2 (ix2 j n) = 1#1) : j.val ≠ 4 ∧ j.val ≠ 5 := by
  refine word_open ⟨j.val, by omega⟩ ?_
  rw [← h]
  pointwise [Cert.On_routing.fn]

theorem algebraic : Cert.algebraic_KernelIdeal_ReferenceIdeal_on_routing_pre_finite_logits
    (hKernelIdeal := Cert.KernelIdeal.Gen.facts) (hReferenceIdeal := Cert.ReferenceIdeal.Gen.facts)
    (hPre_finite_logits := Cert.Pre_finite_logits.Gen.facts) (hOn_routing := maskFacts) := by
  intro m g m' g' hpre hagree
  have hr : ∀ c n l, logits m c (ix2 n l) = (((logits m c (ix2 n l)).toReal : ℝ) : EReal) :=
    fun c => real_of_pre _ (hpre c)
  have hb : ∀ c i, logits m c i ≠ ⊥ := fun c i => by
    idx_vars i
    rw [hr c]; exact EReal.coe_ne_bot _
  refine ⟨fun c => Cert.KernelIdeal.Value.G1 m c, fun c => Cert.KernelIdeal.Value.G2 m c, fun c => Cert.KernelIdeal.Value.G3 m c, ?_, ?_⟩
  · exact (θ_run Cert.KernelIdeal.defs _ _).mono
      (fun _ h c => ⟨fun i _ => congrFun (h c).1 i, fun i _ => congrFun (h c).2.1 i, fun i _ => congrFun (h c).2.2.1 i, (h c).2.2.2⟩)
      (Cert.KernelIdeal.Value.run (F := Ideal) m g)
  · refine (θ_run Cert.ReferenceIdeal.defs _ _).mono (fun r h c => ⟨fun i hi => ?_, fun i hi => ?_, fun i hi => ?_, (h c).2.2.2⟩)
      (Cert.ReferenceIdeal.Value.run (F := Ideal) m' g')
    · obtain ⟨n, l, rfl⟩ : ∃ (n : Fin 32768) (l : Fin 128), i = ix2 n l := ⟨i 0, i 1, eq_ix2 i⟩
      have ho := on_rec _ n l hi
      refine (congrFun ((h c).1.trans (out0_eq m' c)) _).trans ?_
      rw [hagree c]
      exact (refRec_eq (logits m c) (fun n l => (logits m c (ix2 n l)).toReal) (hr c) n l).trans (G1_eq m c (hb c) n l ho.1 ho.2).symm
    · obtain ⟨l, rfl⟩ : ∃ (l : Fin 128), i = ix2 0 l := ⟨i 1, (eq_ix2 i).trans (by congr 1; exact Subsingleton.elim (α := Fin 1) _ _)⟩
      refine (congrFun ((h c).2.1.trans (out1_eq m' c)) _).trans ?_
      rw [hagree c]
      exact (refCount_eq (logits m c) (fun n l => (logits m c (ix2 n l)).toReal) (hr c) l).trans (G2_eq m c (hb c) l).symm
    · obtain ⟨j, n, rfl⟩ : ∃ (j : Fin 8) (n : Fin 32768), i = ix2 j n := ⟨i 0, i 1, eq_ix2 i⟩
      have ho := on_turned _ j n hi
      refine (congrFun ((h c).2.2.1.trans (out2_eq m' c)) _).trans ?_
      rw [hagree c]
      refine (turned_eq _ j n).trans ?_
      exact (refRec_eq (logits m c) (fun n l => (logits m c (ix2 n l)).toReal) (hr c) n ⟨j.val, by omega⟩).trans (G3_eq m c (hb c) j n ho.1 ho.2).symm

end Cert.RouteClaim

end
-- ==== Proof.Inproj.Row.lean ====
/-
  A row of the input projection in plain terms: its normalisation, its projection, and the place of a projected column
  among the 9216 columns the kernel lays out, those past the data being 0.
-/
module

public import Idealize.ShloMosaic.Lib.Pointwise
public import Idealize.ShloMosaic.PureOps

@[expose] public section

noncomputable section

namespace Cert.Inproj

open Idealize.ShloMosaic

/-- The mean of a row of 1024. -/
def mean (x : Fin 1024 → EReal) : EReal := Ideal.div (∑ k, x k) (Ideal.ofBits .f32 0x44800000#32)

/-- A row normalised, then scaled by `1 + sc` and shifted by `sh`. -/
def normed (x sh sc : Fin 1024 → EReal) (l : Fin 1024) : EReal :=
  (x l - mean x) * Ideal.rsqrt (mean (fun k => (x k - mean x) * (x k - mean x)) + Ideal.ofBits .f32 0x3727C5AC#32) * (1 + sc l) + sh l

/-- Column `q` of the layout: the 6668 columns in front, 116 zeros, 12 columns, 372 zeros, and the last 2048 columns. -/
def pick (f : Fin 8728 → EReal) (q : Fin 9216) : EReal :=
  if h : q.val < 6668 then f ⟨q.val, by omega⟩
  else if q.val < 6784 then 0
  else if h : q.val < 6796 then f ⟨q.val - 116, by omega⟩
  else if q.val < 7168 then 0
  else f ⟨q.val - 488, by omega⟩

/-- Projecting with columns laid out is laying out the projection. -/
theorem pick_proj (h : Fin 1024 → EReal) (W : Fin 1024 → Fin 8728 → EReal) (B : Fin 8728 → EReal) (q : Fin 9216) :
    (∑ k, h k * pick (W k) q) + pick B q = pick (fun j => (∑ k, h k * W k j) + B j) q := by
  unfold pick
  split_ifs <;> simp

/-- The layout as seven pieces in a row. -/
theorem pick_pieces (f : Fin 8728 → EReal) (q : Fin 9216) (a0 : Fin 6656 → EReal) (a1 : Fin 12 → EReal) (a3 : Fin 12 → EReal)
    (a6 : Fin 2048 → EReal) (h0 : ∀ j, a0 j = f ⟨j.val, by omega⟩) (h1 : ∀ j, a1 j = f ⟨6656 + j.val, by omega⟩)
    (h3 : ∀ j, a3 j = f ⟨6668 + j.val, by omega⟩) (h6 : ∀ j, a6 j = f ⟨6680 + j.val, by omega⟩) :
    pick f q = if h : q.val < 6656 then a0 ⟨q.val, h⟩
      else if h : q.val - 6656 < 12 then a1 ⟨q.val - 6656, h⟩
      else if _h : q.val - 6656 - 12 < 116 then 0
      else if h : q.val - 6656 - 12 - 116 < 12 then a3 ⟨q.val - 6656 - 12 - 116, h⟩
      else if _h : q.val - 6656 - 12 - 116 - 12 < 116 then 0
      else if _h : q.val - 6656 - 12 - 116 - 12 - 116 < 256 then 0
      else a6 ⟨q.val - 6656 - 12 - 116 - 12 - 116 - 256, by omega⟩ := by
  unfold pick
  simp only [h0, h1, h3, h6]
  split_ifs <;> first
    | omega
    | (refine congrArg f (Fin.ext ?_); dsimp only; omega)
    | rfl

end Cert.Inproj

end
-- ==== Proof.Inproj.Payload.lean ====
/-
  The input projection's grid point: the normalised block and the projected block, read at a row and a column.
-/
module

public import proofs.«01_k».proof.Proof.Gen.Kernel2Ideal.Skeleton
public import proofs.«01_k».proof.Proof.Inproj.Row

@[expose] public section

set_option maxRecDepth 16384

noncomputable section

namespace Cert.Inproj

open Idealize.ShloMosaic Idealize.ShloMosaic.TcCoe Idealize.SL.Sem Cert.Kernel2Ideal Cert.Kernel2Ideal.Gen

theorem pay6_apply (h : Vec Ideal S2048x1024 .bf16) (w : Vec Ideal S1024x1024 .bf16) (b : Vec Ideal S1x1024 .f32)
    (r : Fin 2048) (l : Fin 1024) :
    k0_pay6 (F := Ideal) h w b (ix2 r l) = (∑ k : Fin 1024, h (ix2 r k) * w (ix2 k l)) + b (ix2 0 l) := by
  pointwise [k0_pay6]

theorem pay5_apply (x : Vec Ideal S2048x1024 .f32) (sh sc : Vec Ideal S1x1x1024 .f32) (r : Fin 2048) (l : Fin 1024) :
    k0_pay5 (F := Ideal) x sh sc (ix2 r l)
      = normed (fun k => x (ix2 r k)) (fun k => sh (ix3 0 0 k)) (fun k => sc (ix3 0 0 k)) l := by
  unfold normed mean
  pointwise [k0_pay5]

theorem slab0_apply (h : Vec Ideal S2048x1024 .bf16) (w : Vec Ideal S1024x1024 .bf16) (b : Vec Ideal S1x1024 .f32)
    (r : Fin 2048) (l : Fin 128) :
    k0_pay7 (F := Ideal) h w b (ix3 0 r l) = k0_pay6 (F := Ideal) h w b (ix2 r ⟨0 + l.val, by omega⟩) := by
  pointwise [k0_pay7]

theorem slab1_apply (h : Vec Ideal S2048x1024 .bf16) (w : Vec Ideal S1024x1024 .bf16) (b : Vec Ideal S1x1024 .f32)
    (r : Fin 2048) (l : Fin 128) :
    k0_pay8 (F := Ideal) h w b (ix3 0 r l) = k0_pay6 (F := Ideal) h w b (ix2 r ⟨128 + l.val, by omega⟩) := by
  pointwise [k0_pay8]

theorem slab2_apply (h : Vec Ideal S2048x1024 .bf16) (w : Vec Ideal S1024x1024 .bf16) (b : Vec Ideal S1x1024 .f32)
    (r : Fin 2048) (l : Fin 128) :
    k0_pay9 (F := Ideal) h w b (ix3 0 r l) = k0_pay6 (F := Ideal) h w b (ix2 r ⟨256 + l.val, by omega⟩) := by
  pointwise [k0_pay9]

theorem slab3_apply (h : Vec Ideal S2048x1024 .bf16) (w : Vec Ideal S1024x1024 .bf16) (b : Vec Ideal S1x1024 .f32)
    (r : Fin 2048) (l : Fin 128) :
    k0_pay10 (F := Ideal) h w b (ix3 0 r l) = k0_pay6 (F := Ideal) h w b (ix2 r ⟨384 + l.val, by omega⟩) := by
  pointwise [k0_pay10]

theorem slab4_apply (h : Vec Ideal S2048x1024 .bf16) (w : Vec Ideal S1024x1024 .bf16) (b : Vec Ideal S1x1024 .f32)
    (r : Fin 2048) (l : Fin 128) :
    k0_pay1 (F := Ideal) (k0_pay11 h w b) (ix3 0 r l) = k0_pay6 (F := Ideal) h w b (ix2 r ⟨512 + l.val, by omega⟩) := by
  pointwise [k0_pay1, k0_pay11]

theorem slab5_apply (h : Vec Ideal S2048x1024 .bf16) (w : Vec Ideal S1024x1024 .bf16) (b : Vec Ideal S1x1024 .f32)
    (r : Fin 2048) (l : Fin 128) :
    k0_pay2 (F := Ideal) (k0_pay6 h w b) (ix3 0 r l) = k0_pay6 (F := Ideal) h w b (ix2 r ⟨640 + l.val, by omega⟩) := by
  pointwise [k0_pay2]

theorem slab6_apply (h : Vec Ideal S2048x1024 .bf16) (w : Vec Ideal S1024x1024 .bf16) (b : Vec Ideal S1x1024 .f32)
    (r : Fin 2048) (l : Fin 128) :
    k0_pay3 (F := Ideal) (k0_pay6 h w b) (ix3 0 r l) = k0_pay6 (F := Ideal) h w b (ix2 r ⟨768 + l.val, by omega⟩) := by
  pointwise [k0_pay3]

theorem slab7_apply (h : Vec Ideal S2048x1024 .bf16) (w : Vec Ideal S1024x1024 .bf16) (b : Vec Ideal S1x1024 .f32)
    (r : Fin 2048) (l : Fin 128) :
    k0_pay4 (F := Ideal) (k0_pay6 h w b) (ix3 0 r l) = k0_pay6 (F := Ideal) h w b (ix2 r ⟨896 + l.val, by omega⟩) := by
  pointwise [k0_pay4]

end Cert.Inproj

end
-- ==== Proof.Inproj.Blocks.lean ====
/-
  The input projection's grid points: the scratch holds the normalised block of rows from a row block's first point on,
  and every point leaves its eight slabs of projected columns.
-/
module

public import proofs.«01_k».proof.Proof.Inproj.Payload
public import proofs.«01_k».proof.Proof.Gen.Kernel2Ideal.Value

@[expose] public section

set_option maxRecDepth 16384

noncomputable section

namespace Cert.Inproj

open Idealize.ShloMosaic Idealize.ShloMosaic.TcCoe Idealize.SL.Sem Cert.Kernel2Ideal Cert.Kernel2Ideal.Gen
  Cert.Kernel2Ideal.Value

theorem hz : (![0, 0] : Fin 2 → Nat) = fun _ => 0 := funext fun a => by fin_cases a <;> rfl

/-- The first two of the six rows of a batch's shifts and scales. -/
def modRow (x : Vec Ideal S1x6x1024 .f32) (k : Fin 6) : Vec Ideal S1x1x1024 .f32 := fun y => x (ix3 0 k ⟨(y 2).val, (y 2).isLt⟩)

/-- The normalised block of rows. -/
def hidBlk (x : Vec Ideal S2048x1024 .f32) (md : Vec Ideal S1x6x1024 .f32) : Vec Ideal S2048x1024 .bf16 :=
  k0_pay5 (F := Ideal) x (modRow md 0) (modRow md 1)

/-- The eight slabs of a projected block. -/
def slabBlk (h : Vec Ideal S2048x1024 .bf16) (w : Vec Ideal S1024x1024 .bf16) (b : Vec Ideal S1x1024 .f32) : Vec Ideal S8x2048x128 .f32 :=
  fun y => k0_pay6 (F := Ideal) h w b (ix2 ⟨(y 1).val, (y 1).isLt⟩ ⟨128 * (y 0).val + (y 2).val, by
    have h0 : (y 0).val < 8 := (y 0).isLt
    have h2 : (y 2).val < 128 := (y 2).isLt
    omega⟩)

theorem piece_eq (n : ℕ) (hn : n < 8) (inb : ∀ a, (![n, 0, 0] : Fin 3 → ℕ) a + S1x2048x128.size a ≤ S8x2048x128.size a)
    (P : Vec Ideal S1x2048x128 .f32) (h : Vec Ideal S2048x1024 .bf16) (w : Vec Ideal S1024x1024 .bf16) (b : Vec Ideal S1x1024 .f32)
    (hP : ∀ (r : Fin 2048) (l : Fin 128), P (ix3 0 r l) = k0_pay6 (F := Ideal) h w b (ix2 r ⟨128 * n + l.val, by omega⟩))
    (x : S1x2048x128.Idx) :
    P x = slabBlk h w b ((Rect.unit (s := S8x2048x128) ![n, 0, 0] S1x2048x128.size inb).emb x) := by
  have h0 : (x 0).val < 1 := (x 0).isLt
  have h1 : (x 1).val < 2048 := (x 1).isLt
  have h2 : (x 2).val < 128 := (x 2).isLt
  have hx : x = ix3 0 ⟨(x 1).val, h1⟩ ⟨(x 2).val, h2⟩ := by
    funext a; apply Fin.ext
    match a with
    | ⟨0, _⟩ => show (x 0).val = 0; omega
    | ⟨1, _⟩ => rfl
    | ⟨2, _⟩ => rfl
  refine (congrArg P hx).trans ((hP _ _).trans (congrArg (k0_pay6 (F := Ideal) h w b) ?_))
  funext a; apply Fin.ext
  match a with
  | ⟨0, _⟩ => show (x 1).val = 0 + 1 * (x 1).val; omega
  | ⟨1, _⟩ => show 128 * n + (x 2).val = 128 * (n + 1 * (x 0).val) + (0 + 1 * (x 2).val); omega

/-- A load of one row of the shifts and scales. -/
theorem ld_modRow (md : Vec Ideal S1x6x1024 .f32) (k : Fin 6)
    (inb : ∀ a, (![0, k.val, 0] : Fin 3 → ℕ) a + S1x1x1024.size a ≤ S1x6x1024.size a) :
    View.ld (Val := Elt Ideal) (e' := .f32) md (Rect.unit (s := S1x6x1024) ![0, k.val, 0] S1x1x1024.size inb) = modRow md k := by
  funext y
  refine congrArg md (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show k.val + 1 * (y 1).val = k.val; omega
  | ⟨2, _⟩ => show 0 + 1 * (y 2).val = (y 2).val; omega

section Cases
variable (c : Dev nD) (i : grid0.Coords)
  (a2 : Memref sig .tc .vmem S2048x1024 .f32) (h2 : a2.IsWhole) (a3 : Memref sig .tc .vmem S1x6x1024 .f32) (h3 : a3.IsWhole)
  (a4 : Memref sig .tc .vmem S1024x1024 .bf16) (h4 : a4.IsWhole) (a5 : Memref sig .tc .vmem S1x1024 .f32) (h5 : a5.IsWhole)
  (a6 : Memref sig .tc .vmem S8x2048x128 .f32) (h6 : a6.IsWhole) (a7 : Memref sig .tc .vmem S2048x1024 .bf16) (h7 : a7.IsWhole)
  (x : Vec Ideal S2048x1024 .f32) (md : Vec Ideal S1x6x1024 .f32) (w : Vec Ideal S1024x1024 .bf16) (b : Vec Ideal S1x1024 .f32)
  (s : Vec Ideal S2048x1024 .bf16)

theorem scr_A (hc : cond0_0 i) : sout0_A_0 c i a2 h2 a3 h3 a4 h4 a5 h5 a6 h6 a7 h7 hc x md w b = hidBlk x md := by
  unfold sout0_A_0
  rw [View.read_writes_eq_canon _ _ _ (scover0_A_0 c i a2 h2 a3 h3 a4 h4 a5 h5 a6 h6 a7 h7 hc x md w b)]
  unfold kernelRun0_A
  dsimp only
  sl_unfold_words
  rw [View.canon_unit_zero hz]
  simp only [View.readAt_eq_ld, h2.read_unread, h3.read_unread, View.ld_unit_zero (S := S2048x1024) hz]
  exact congrArg₂ (k0_pay5 (F := Ideal) x) (ld_modRow md 0 _) (ld_modRow md 1 _)

theorem out_B (hc : ¬cond0_0 i) : out0_B_4 c i a2 h2 a3 h3 a4 h4 a5 h5 a6 h6 a7 h7 hc x md w b s = slabBlk s w b := by
  unfold out0_B_4
  rw [View.read_writes_eq_canon _ _ _ (cover0_B_4 c i a2 h2 a3 h3 a4 h4 a5 h5 a6 h6 a7 h7 hc x md w b s)]
  funext y
  refine View.canon_apply_of_pieces (slabBlk s w b) _ ?_ y (cover0_B_4 c i a2 h2 a3 h3 a4 h4 a5 h5 a6 h6 a7 h7 hc x md w b s y)
  unfold kernelRun0_B
  dsimp only
  sl_unfold_words
  simp only [View.readAt_eq_ld, h4.read_unread, h5.read_unread, h7.read_unread, View.ld_unit_zero (S := S2048x1024) hz,
    View.ld_unit_zero (S := S1024x1024) hz, View.ld_unit_zero (S := S1x1024) hz, List.forall_mem_cons]
  exact ⟨piece_eq 7 (by omega) _ _ s w b (slab7_apply s w b), piece_eq 6 (by omega) _ _ s w b (slab6_apply s w b),
    piece_eq 5 (by omega) _ _ s w b (slab5_apply s w b), piece_eq 4 (by omega) _ _ s w b (slab4_apply s w b),
    piece_eq 3 (by omega) _ _ s w b (slab3_apply s w b), piece_eq 2 (by omega) _ _ s w b (slab2_apply s w b),
    piece_eq 1 (by omega) _ _ s w b (slab1_apply s w b), piece_eq 0 (by omega) _ _ s w b (slab0_apply s w b),
    fun _ h => absurd h List.not_mem_nil⟩

theorem out_A (hc : cond0_0 i) : out0_A_4 c i a2 h2 a3 h3 a4 h4 a5 h5 a6 h6 a7 h7 hc x md w b = slabBlk (hidBlk x md) w b := by
  unfold out0_A_4
  rw [View.read_writes_eq_canon _ _ _ (cover0_A_4 c i a2 h2 a3 h3 a4 h4 a5 h5 a6 h6 a7 h7 hc x md w b)]
  funext y
  refine View.canon_apply_of_pieces (slabBlk (hidBlk x md) w b) _ ?_ y (cover0_A_4 c i a2 h2 a3 h3 a4 h4 a5 h5 a6 h6 a7 h7 hc x md w b y)
  have e : k0_pay5 (F := Ideal) x (View.ld (Val := Elt Ideal) (e' := .f32) md (Rect.unit (s := S1x6x1024) ![0, 0, 0] S1x1x1024.size inb_S1x6x1024_S1x1x1024_0_0_0))
      (View.ld (Val := Elt Ideal) (e' := .f32) md (Rect.unit (s := S1x6x1024) ![0, 1, 0] S1x1x1024.size inb_S1x6x1024_S1x1x1024_0_1_0)) = hidBlk x md :=
    congrArg₂ (k0_pay5 (F := Ideal) x) (ld_modRow md 0 _) (ld_modRow md 1 _)
  unfold kernelRun0_A
  dsimp only
  sl_unfold_words
  simp only [View.readCov_unit_zero (S := S2048x1024) _ hz, View.readAt_eq_ld, h2.read_unread, h3.read_unread, h4.read_unread,
    h5.read_unread, View.ld_unit_zero (S := S2048x1024) hz,
    View.ld_unit_zero (S := S1024x1024) hz, View.ld_unit_zero (S := S1x1024) hz, List.forall_mem_cons]
  generalize hH : k0_pay5 (F := Ideal) x _ _ = H
  rw [show hidBlk x md = H from e.symm.trans hH]
  exact ⟨piece_eq 7 (by omega) _ _ H w b (slab7_apply H w b), piece_eq 6 (by omega) _ _ H w b (slab6_apply H w b),
    piece_eq 5 (by omega) _ _ H w b (slab5_apply H w b), piece_eq 4 (by omega) _ _ H w b (slab4_apply H w b),
    piece_eq 3 (by omega) _ _ H w b (slab3_apply H w b), piece_eq 2 (by omega) _ _ H w b (slab2_apply H w b),
    piece_eq 1 (by omega) _ _ H w b (slab1_apply H w b), piece_eq 0 (by omega) _ _ H w b (slab0_apply H w b),
    fun _ h => absurd h List.not_mem_nil⟩

theorem scr_B (hc : ¬cond0_0 i) : sout0_B_0 c i a2 h2 a3 h3 a4 h4 a5 h5 a6 h6 a7 h7 hc x md w b s = s := rfl

end Cases

end Cert.Inproj

end
-- ==== Proof.Inproj.Host.lean ====
/-
  The arrays the input projection's host code prepares: the rows, and the weights and biases with their columns laid
  out.
-/
module

public import proofs.«01_k».proof.Proof.Inproj.Row
public import proofs.«01_k».proof.Proof.Gen.Kernel2Ideal.Frame

@[expose] public section

set_option maxRecDepth 16384

noncomputable section

namespace Cert.Inproj

open Idealize.ShloMosaic Idealize.ShloMosaic.TcCoe Idealize.SL.Sem Cert.Kernel2Ideal Cert.Kernel2Ideal.Gen

/-- The rows one after another. -/
def rowsX (X : FVec Ideal S4x8192x1024 .f32) : FVec Ideal S32768x1024 .f32 := shapeCast _ X shapeCasts_S4x8192x1024_S32768x1024

/-- The weights in the short format. -/
def shortW (W : FVec Ideal S1x1024x8728 .f32) : FVec Ideal S1024x8728 .bf16 :=
  truncf .bf16 (shapeCast _ W shapeCasts_S1x1024x8728_S1024x8728) bitsLt_bf16_f32

/-- The weights' columns laid out. -/
def laidW (R : FVec Ideal S1024x8728 .bf16) : FVec Ideal S1024x9216 .bf16 :=
  concatenate S1024x9216 1 [⟨S1024x6656, extractStridedSlice S1024x6656 ![0, 0] R slices_S1024x8728_S1024x6656_0_0⟩,
    ⟨S1024x12, extractStridedSlice S1024x12 ![0, 0] (extractStridedSlice S1024x24 ![0, 6656] R slices_S1024x8728_S1024x24_0_6656) slices_S1024x24_S1024x12_0_0⟩,
    ⟨S1024x116, (broadcastInDim S1024x116 ![] bcast_S_S1024x116 (constant S_ .bf16 0x0000#16) : FVec Ideal S1024x116 .bf16)⟩,
    ⟨S1024x12, extractStridedSlice S1024x12 ![0, 12] (extractStridedSlice S1024x24 ![0, 6656] R slices_S1024x8728_S1024x24_0_6656) slices_S1024x24_S1024x12_0_12⟩,
    ⟨S1024x116, (broadcastInDim S1024x116 ![] bcast_S_S1024x116 (constant S_ .bf16 0x0000#16) : FVec Ideal S1024x116 .bf16)⟩,
    ⟨S1024x256, (broadcastInDim S1024x256 ![] bcast_S_S1024x256 (constant S_ .bf16 0x0000#16) : FVec Ideal S1024x256 .bf16)⟩,
    ⟨S1024x2048, extractStridedSlice S1024x2048 ![0, 6680] R slices_S1024x8728_S1024x2048_0_6680⟩]
    concatenates_S1024x6656_S1024x12_S1024x116_S1024x12_S1024x116_S1024x256_S1024x2048_S1024x9216_d1

/-- The biases as one row. -/
def flatB (B : FVec Ideal S1x8728 .f32) : FVec Ideal S8728 .f32 := shapeCast _ B shapeCasts_S1x8728_S8728

/-- The biases laid out, -/
def catB (R : FVec Ideal S8728 .f32) : FVec Ideal S9216 .f32 :=
  concatenate S9216 0 [⟨S6656, extractStridedSlice S6656 ![0] R slices_S8728_S6656_0⟩,
    ⟨S12, extractStridedSlice S12 ![0] (extractStridedSlice S24 ![6656] R slices_S8728_S24_6656) slices_S24_S12_0⟩,
    ⟨S116, (broadcastInDim S116 ![] bcast_S_S116 (constant S_ .f32 0x00000000#32) : FVec Ideal S116 .f32)⟩,
    ⟨S12, extractStridedSlice S12 ![12] (extractStridedSlice S24 ![6656] R slices_S8728_S24_6656) slices_S24_S12_12⟩,
    ⟨S116, (broadcastInDim S116 ![] bcast_S_S116 (constant S_ .f32 0x00000000#32) : FVec Ideal S116 .f32)⟩,
    ⟨S256, (broadcastInDim S256 ![] bcast_S_S256 (constant S_ .f32 0x00000000#32) : FVec Ideal S256 .f32)⟩,
    ⟨S2048, extractStridedSlice S2048 ![6680] R slices_S8728_S2048_6680⟩]
    concatenates_S6656_S12_S116_S12_S116_S256_S2048_S9216_d0

/-- and as a row. -/
def laidB (R : FVec Ideal S8728 .f32) : FVec Ideal S1x9216 .f32 := broadcastInDim S1x9216 ![1] bcast_S9216_S1x9216_1 (catB R)

theorem rowsX_apply (X : FVec Ideal S4x8192x1024 .f32) (n : Fin 32768) (k : Fin 1024) :
    rowsX X (ix2 n k) = X (ix3 ⟨n.val / 8192, by omega⟩ ⟨n.val % 8192, by omega⟩ k) := by
  pointwise [rowsX]

theorem shortW_apply (W : FVec Ideal S1x1024x8728 .f32) (k : Fin 1024) (q : Fin 8728) :
    shortW W (ix2 k q) = W (ix3 0 k q) := by
  pointwise [shortW]

theorem flatB_apply (B : FVec Ideal S1x8728 .f32) (q : Fin 8728) : flatB B (ix1 q) = B (ix2 0 q) := by
  pointwise [flatB]

theorem laidW_apply (R : FVec Ideal S1024x8728 .bf16) (k : Fin 1024) (q : Fin 9216) :
    laidW R (ix2 k q) = pick (fun j => R (ix2 k j)) q := by
  rw [pick_pieces (fun j => R (ix2 k j)) q (fun j => R (ix2 k ⟨j.val, by omega⟩)) (fun j => R (ix2 k ⟨6656 + j.val, by omega⟩))
    (fun j => R (ix2 k ⟨6656 + (12 + j.val), by omega⟩)) (fun j => R (ix2 k ⟨6680 + j.val, by omega⟩)) (fun _ => rfl) (fun _ => rfl)
    (fun j => congrArg (fun i => R (ix2 k i)) (Fin.ext (by show 6656 + (12 + j.val) = 6668 + j.val; omega))) (fun _ => rfl)]
  pointwise [laidW]

set_option maxRecDepth 65536 in
theorem catB_apply (R : FVec Ideal S8728 .f32) (q : Fin 9216) :
    catB R (ix1 q) = pick (fun j => R (ix1 j)) q := by
  rw [pick_pieces (fun j => R (ix1 j)) q (fun j => R (ix1 ⟨j.val, by omega⟩)) (fun j => R (ix1 ⟨6656 + j.val, by omega⟩))
    (fun j => R (ix1 ⟨6656 + (12 + j.val), by omega⟩)) (fun j => R (ix1 ⟨6680 + j.val, by omega⟩)) (fun _ => rfl) (fun _ => rfl)
    (fun j => congrArg (fun i => R (ix1 i)) (Fin.ext (by show 6656 + (12 + j.val) = 6668 + j.val; omega))) (fun _ => rfl)]
  pointwise [catB]

theorem laidB_apply (R : FVec Ideal S8728 .f32) (q : Fin 9216) :
    laidB R (ix2 0 q) = pick (fun j => R (ix1 j)) q := by
  rw [← catB_apply]
  pointwise [laidB]

variable (m : (ℓ : Loc nD τ sig) → Buf (Elt Ideal) ℓ) (c : Dev nD)

theorem V_x : (V m c main_v0 : FVec Ideal S32768x1024 .f32) = rowsX (m ((c : Thread nD τ).loc main_arg0)) := by
  unfold V
  after_results_simp <;> (try dsimp only [Matrix.cons_val]) <;> (try after_results_simp) <;> rfl

theorem V_w : (V m c main_v11 : FVec Ideal S1024x9216 .bf16) = laidW (shortW (m ((c : Thread nD τ).loc main_arg2))) := by
  unfold V
  after_results_simp <;> (try dsimp only [Matrix.cons_val]) <;> (try after_results_simp) <;> rfl

theorem V_b : (V m c main_v22 : FVec Ideal S1x9216 .f32) = laidB (flatB (m ((c : Thread nD τ).loc main_arg3))) := by
  unfold V
  after_results_simp <;> (try dsimp only [Matrix.cons_val]) <;> (try after_results_simp) <;> rfl

end Cert.Inproj

end
-- ==== Proof.Inproj.Kernel.lean ====
/-
  The input projection's result, entry by entry: the normalised row times the laid-out weights, plus the laid-out bias.
-/
module

public import proofs.«01_k».proof.Proof.Inproj.Blocks
public import proofs.«01_k».proof.Proof.Inproj.Host

@[expose] public section

set_option maxRecDepth 16384

noncomputable section

namespace Cert.Inproj

open Idealize.ShloMosaic Idealize.ShloMosaic.TcCoe Idealize.SL.Sem Cert.Kernel2Ideal Cert.Kernel2Ideal.Gen
  Cert.Kernel2Ideal.Value

variable (m : (ℓ : Loc nD τ sig) → Buf (Elt Ideal) ℓ) (c : Dev nD)

/-- The arguments the run starts from. -/
abbrev argX : FVec Ideal S4x8192x1024 .f32 := m ((c : Thread nD τ).loc main_arg0)
abbrev argM : FVec Ideal S4x6x1024 .f32 := m ((c : Thread nD τ).loc main_arg1)
abbrev argW : FVec Ideal S1x1024x8728 .f32 := m ((c : Thread nD τ).loc main_arg2)
abbrev argB : FVec Ideal S1x8728 .f32 := m ((c : Thread nD τ).loc main_arg3)

/-- A normalised row of the arguments. -/
def hidAt (X : FVec Ideal S4x8192x1024 .f32) (M : FVec Ideal S4x6x1024 .f32) (b : Fin 4) (s : Fin 8192) : Fin 1024 → EReal :=
  normed (fun k => X (ix3 b s k)) (fun k => M (ix3 b 0 k)) (fun k => M (ix3 b 1 k))

/-- The normalised rows of row block `b`. -/
def hidOf (b : ℕ) : Vec Ideal S2048x1024 .bf16 := fun y =>
  hidAt (argX m c) (argM m c) ⟨b / 4 % 4, Nat.mod_lt _ (by omega)⟩ ⟨(2048 * b + (y 0).val) % 8192, Nat.mod_lt _ (by omega)⟩ ⟨(y 1).val, (y 1).isLt⟩

theorem index0 : ∀ t : Fin cfg0.N, win0_0.index t 0 = t.val / 9 ∧ win0_0.index t 1 = 0 := (by decide +kernel : ∀ t : Fin grid0.N, _)
theorem index1 : ∀ t : Fin cfg0.N, win0_1.index t 0 = t.val / 36 ∧ win0_1.index t 1 = 0 ∧ win0_1.index t 2 = 0 :=
  (by decide +kernel : ∀ t : Fin grid0.N, _)
theorem index2 : ∀ t : Fin cfg0.N, win0_2.index t 0 = 0 ∧ win0_2.index t 1 = t.val % 9 := (by decide +kernel : ∀ t : Fin grid0.N, _)
theorem index3 : ∀ t : Fin cfg0.N, win0_3.index t 0 = 0 ∧ win0_3.index t 1 = t.val % 9 := (by decide +kernel : ∀ t : Fin grid0.N, _)

theorem iblk0 (t : Fin cfg0.N) (ht : t.val < 144) (r : Fin 2048) (k : Fin 1024) :
    (iblk m c 0 t : Vec Ideal S2048x1024 .f32) (ix2 r k)
      = (V m c main_v0 : FVec Ideal S32768x1024 .f32) (ix2 ⟨2048 * (t.val / 9) + r.val, by omega⟩ k) := by
  unfold iblk
  rw [View.read_apply]
  show (V m c main_v0 : FVec Ideal S32768x1024 .f32) _ = _
  refine congrArg (V m c main_v0 : FVec Ideal S32768x1024 .f32) (funext fun a => Fin.ext ?_)
  match a with
  | ⟨0, _⟩ => show win0_0.index t 0 * 2048 + 1 * r.val = _; rw [(index0 t).1]; show _ = 2048 * (t.val / 9) + r.val; omega
  | ⟨1, _⟩ => show win0_0.index t 1 * 1024 + 1 * k.val = k.val; rw [(index0 t).2]; omega

theorem iblk1 (t : Fin cfg0.N) (ht : t.val < 144) (j : Fin 6) (k : Fin 1024) :
    (iblk m c 1 t : Vec Ideal S1x6x1024 .f32) (ix3 0 j k) = argM m c (ix3 ⟨t.val / 36, by omega⟩ j k) := by
  unfold iblk
  rw [View.read_apply]
  show (V m c main_arg1 : FVec Ideal S4x6x1024 .f32) _ = _
  rw [V_main_arg1]
  refine congrArg (argM m c) (funext fun a => Fin.ext ?_)
  match a with
  | ⟨0, _⟩ => show win0_1.index t 0 * 1 + 1 * 0 = t.val / 36; rw [(index1 t).1]; omega
  | ⟨1, _⟩ => show win0_1.index t 1 * 6 + 1 * j.val = j.val; rw [(index1 t).2.1]; omega
  | ⟨2, _⟩ => show win0_1.index t 2 * 1024 + 1 * k.val = k.val; rw [(index1 t).2.2]; omega

theorem iblk2 (t : Fin cfg0.N) (ht : t.val < 144) (k l : Fin 1024) :
    (iblk m c 2 t : Vec Ideal S1024x1024 .bf16) (ix2 k l)
      = (V m c main_v11 : FVec Ideal S1024x9216 .bf16) (ix2 k ⟨1024 * (t.val % 9) + l.val, by omega⟩) := by
  unfold iblk
  rw [View.read_apply]
  show (V m c main_v11 : FVec Ideal S1024x9216 .bf16) _ = _
  refine congrArg (V m c main_v11 : FVec Ideal S1024x9216 .bf16) (funext fun a => Fin.ext ?_)
  match a with
  | ⟨0, _⟩ => show win0_2.index t 0 * 1024 + 1 * k.val = k.val; rw [(index2 t).1]; omega
  | ⟨1, _⟩ => show win0_2.index t 1 * 1024 + 1 * l.val = 1024 * (t.val % 9) + l.val; rw [(index2 t).2]; omega

theorem iblk3 (t : Fin cfg0.N) (ht : t.val < 144) (l : Fin 1024) :
    (iblk m c 3 t : Vec Ideal S1x1024 .f32) (ix2 0 l)
      = (V m c main_v22 : FVec Ideal S1x9216 .f32) (ix2 0 ⟨1024 * (t.val % 9) + l.val, by omega⟩) := by
  unfold iblk
  rw [View.read_apply]
  show (V m c main_v22 : FVec Ideal S1x9216 .f32) _ = _
  refine congrArg (V m c main_v22 : FVec Ideal S1x9216 .f32) (funext fun a => Fin.ext ?_)
  match a with
  | ⟨0, _⟩ => show win0_3.index t 0 * 1 + 1 * 0 = 0; rw [(index3 t).1]
  | ⟨1, _⟩ => show win0_3.index t 1 * 1024 + 1 * l.val = 1024 * (t.val % 9) + l.val; rw [(index3 t).2]; omega

theorem hidBlk_eq (t : Fin cfg0.N) (ht : t.val < 144) :
    hidBlk (iblk m c 0 t) (iblk m c 1 t) = hidOf m c (t.val / 9) := by
  funext y
  have h0 : (y 0).val < 2048 := (y 0).isLt
  have h1 : (y 1).val < 1024 := (y 1).isLt
  have hy : y = ix2 ⟨(y 0).val, h0⟩ ⟨(y 1).val, h1⟩ := by
    funext a; apply Fin.ext
    match a with
    | ⟨0, _⟩ => rfl
    | ⟨1, _⟩ => rfl
  unfold hidBlk hidOf hidAt
  refine (congrArg _ hy).trans ((pay5_apply _ _ _ _ _).trans ?_)
  have hx : (fun k => (iblk m c 0 t : Vec Ideal S2048x1024 .f32) (ix2 ⟨(y 0).val, h0⟩ k))
      = fun k => argX m c (ix3 ⟨t.val / 9 / 4 % 4, Nat.mod_lt _ (by omega)⟩ ⟨(2048 * (t.val / 9) + (y 0).val) % 8192, Nat.mod_lt _ (by omega)⟩ k) := by
    funext k
    rw [iblk0 m c t ht, V_x, rowsX_apply]
    refine congrArg (fun b => argX m c (ix3 b _ k)) (Fin.ext ?_)
    show (2048 * (t.val / 9) + (y 0).val) / 8192 = t.val / 9 / 4 % 4
    omega
  have hm : ∀ j : Fin 6, (fun k => modRow (iblk m c 1 t) j (ix3 0 0 k))
      = fun k => argM m c (ix3 ⟨t.val / 9 / 4 % 4, Nat.mod_lt _ (by omega)⟩ j k) := by
    intro j
    funext k
    refine (iblk1 m c t ht j k).trans (congrArg (fun b => argM m c (ix3 b j k)) (Fin.ext ?_))
    show t.val / 36 = t.val / 9 / 4 % 4
    omega
  rw [hx, hm 0, hm 1]

/-- The state after point `n`. -/
def stateOf (n : ℕ) (h : n < cfg0.N) : Vec Ideal S8x2048x128 .f32 × Vec Ideal S2048x1024 .bf16 :=
  (slabBlk (hidOf m c (n / 9)) (iblk m c 2 ⟨n, h⟩) (iblk m c 3 ⟨n, h⟩), hidOf m c (n / 9))

theorem stateOf_congr {a b : ℕ} (e : a = b) (ha : a < cfg0.N) (hb : b < cfg0.N) : stateOf m c a ha = stateOf m c b hb := by
  subst e; rfl

theorem state_A (t : Fin cfg0.N) (ht : t.val < 144) (h0 : t.val % 9 = 0) (acc : Vec Ideal S8x2048x128 .f32 × Vec Ideal S2048x1024 .bf16) :
    stAt0 m c t.val t.isLt acc = stateOf m c t.val t.isLt := by
  rw [stAt0_A m c t acc h0, out_A, scr_A, hidBlk_eq m c t ht]
  rfl

theorem state_B (t : Fin cfg0.N) (h0 : ¬ t.val % 9 = 0) (acc : Vec Ideal S8x2048x128 .f32 × Vec Ideal S2048x1024 .bf16)
    (ha : acc.2 = hidOf m c (t.val / 9)) :
    stAt0 m c t.val t.isLt acc = stateOf m c t.val t.isLt := by
  rw [stAt0_B m c t acc h0, out_B, scr_B, ha]
  rfl

theorem state_at (t : Fin cfg0.N) (ht : t.val < 144) (acc : Vec Ideal S8x2048x128 .f32 × Vec Ideal S2048x1024 .bf16)
    (ha : ¬ t.val % 9 = 0 → acc.2 = hidOf m c (t.val / 9)) : stAt0 m c t.val t.isLt acc = stateOf m c t.val t.isLt := by
  by_cases h0 : t.val % 9 = 0
  · exact state_A m c t ht h0 acc
  · exact state_B m c t h0 acc (ha h0)

theorem state (n : ℕ) (h : 0 + n < cfg0.N) :
    Pipeline.accAt (fun n h => stAt0 m c n h junk0) (stAt0 m c) 0 n h = stateOf m c n (by omega) := by
  have hN : cfg0.N = 144 := N_0
  induction n with
  | zero => exact state_at m c ⟨0, h⟩ (by show 0 < 144; omega) junk0 (fun hn => absurd rfl hn)
  | succ n ih =>
    rw [Pipeline.accAt_succ, ih (by omega)]
    refine (state_at m c ⟨0 + (n + 1), h⟩ (by show 0 + (n + 1) < 144; omega) _ fun hn => ?_).trans (stateOf_congr m c (Nat.zero_add _) _ _)
    replace hn : ¬ (0 + (n + 1)) % 9 = 0 := hn
    show hidOf m c (n / 9) = hidOf m c ((0 + (n + 1)) / 9)
    refine congrArg _ ?_
    omega

theorem G4_eq (a : Fin 72) (n : Fin 32768) (l : Fin 128) :
    G4 m c (ix3 a n l) = pick (fun j => (∑ k, hidAt (argX m c) (argM m c) ⟨n.val / 8192, by omega⟩ ⟨n.val % 8192, by omega⟩ k
      * argW m c (ix3 0 k j)) + argB m c (ix2 0 j)) ⟨a.val * 128 + l.val, by omega⟩ := by
  have hN : cfg0.N = 144 := N_0
  have hp : pt4Of (ix3 a n l) = a.val / 8 + 9 * (n.val / 2048) := by
    show 1 * (a.val / 8 - 0) + 9 * (n.val / 2048 - 0) + 144 * (l.val / 128 - 0) = _; omega
  have hlt : a.val / 8 + 9 * (n.val / 2048) < 144 := by omega
  unfold G4
  rw [dif_pos (by rw [hp]; omega), fold0_congr m c _ _ (a.val / 8 + 9 * (n.val / 2048)) (by omega) hp, state m c _ (by omega)]
  have hloc : loc4Of (ix3 a n l) = ix3 ⟨a.val % 8, by omega⟩ ⟨n.val % 2048, by omega⟩ l := by
    funext a; apply Fin.ext
    match a with
    | ⟨0, _⟩ => rfl
    | ⟨1, _⟩ => rfl
    | ⟨2, _⟩ => show l.val % 128 = l.val; omega
  rw [hloc]
  obtain ⟨t, hn⟩ : ∃ t, t = a.val / 8 + 9 * (n.val / 2048) := ⟨_, rfl⟩
  have htN : t < cfg0.N := by omega
  rw [stateOf_congr m c hn.symm _ htN]
  rw [← hn] at hlt
  show k0_pay6 (F := Ideal) (hidOf m c (t / 9)) (iblk m c 2 ⟨t, htN⟩) (iblk m c 3 ⟨t, htN⟩)
    (ix2 ⟨n.val % 2048, by omega⟩ ⟨128 * (a.val % 8) + l.val, by omega⟩) = _
  rw [pay6_apply]
  have hq : (⟨1024 * (t % 9) + (128 * (a.val % 8) + l.val), by omega⟩ : Fin 9216) = ⟨a.val * 128 + l.val, by omega⟩ :=
    Fin.ext (by show 1024 * (t % 9) + (128 * (a.val % 8) + l.val) = a.val * 128 + l.val; omega)
  have hw : ∀ k, (iblk m c 2 ⟨t, htN⟩ : Vec Ideal S1024x1024 .bf16) (ix2 k ⟨128 * (a.val % 8) + l.val, by omega⟩)
      = pick (fun j => argW m c (ix3 0 k j)) ⟨a.val * 128 + l.val, by omega⟩ := by
    intro k
    rw [iblk2 m c ⟨t, htN⟩ hlt, V_w, laidW_apply, ← hq]
    simp only [shortW_apply]
  have hb : (iblk m c 3 ⟨t, htN⟩ : Vec Ideal S1x1024 .f32) (ix2 0 ⟨128 * (a.val % 8) + l.val, by omega⟩)
      = pick (fun j => argB m c (ix2 0 j)) ⟨a.val * 128 + l.val, by omega⟩ := by
    rw [iblk3 m c ⟨t, htN⟩ hlt, V_b, laidB_apply, ← hq]
    simp only [flatB_apply]
  have hh : ∀ k, hidOf m c (t / 9) (ix2 ⟨n.val % 2048, by omega⟩ k)
      = hidAt (argX m c) (argM m c) ⟨n.val / 8192, by omega⟩ ⟨n.val % 8192, by omega⟩ k := by
    intro k
    have e1 : (⟨t / 9 / 4 % 4, Nat.mod_lt _ (by omega)⟩ : Fin 4) = ⟨n.val / 8192, by omega⟩ := Fin.ext (by show t / 9 / 4 % 4 = n.val / 8192; omega)
    have e2 : (⟨(2048 * (t / 9) + n.val % 2048) % 8192, Nat.mod_lt _ (by omega)⟩ : Fin 8192) = ⟨n.val % 8192, by omega⟩ :=
      Fin.ext (by show (2048 * (t / 9) + n.val % 2048) % 8192 = n.val % 8192; omega)
    show hidAt (argX m c) (argM m c) ⟨t / 9 / 4 % 4, _⟩ ⟨(2048 * (t / 9) + n.val % 2048) % 8192, _⟩ k = _
    rw [e1, e2]
  refine Eq.trans ?_ (pick_proj _ (fun k j => argW m c (ix3 0 k j)) (fun j => argB m c (ix2 0 j)) _)
  exact congrArg₂ (· + ·) (Finset.sum_congr rfl fun k _ => congrArg₂ (· * ·) (hh k) (hw k)) hb

end Cert.Inproj

end
-- ==== Proof.Inproj.Terms.lean ====
/-
  The reference's input projection under names of its own: the normalised rows, the projection, and its layout in
  slabs of 128 columns.
-/
module

public import proofs.«01_k».proof.Proof.Gen.Reference2Ideal.Run
public import proofs.«01_k».proof.Proof.Inproj.Row

@[expose] public section

set_option maxRecDepth 16384

noncomputable section

namespace Cert.InprojRef

open Idealize.ShloMosaic Idealize.ShloMosaic.TcCoe Idealize.SL.Sem Cert.Reference2Ideal Cert.Reference2Ideal.Gen
  Cert.Reference2Ideal.Value Cert.Inproj

variable (X : FVec Ideal S4x8192x1024 .f32) (M : FVec Ideal S4x6x1024 .f32) (W : FVec Ideal S1x1024x8728 .f32)
  (B : FVec Ideal S1x8728 .f32)

/-- The mean over the last axis. -/
def meanR (X : FVec Ideal S4x8192x1024 .f32) : FVec Ideal S4x8192x1 .f32 :=
  Host.divf (broadcastInDim S4x8192x1 ![0, 1] bcast_S4x8192_S4x8192x1_0_1
    (Host.reduceAdd X (constant S_ .f32 0x00000000#32) reducesTo_S4x8192x1024_S4x8192_d2 h_S_))
    (broadcastInDim S4x8192x1 ![] bcast_S_S4x8192x1 (constant S_ .f32 0x44800000#32))

/-- The rows with their mean taken off. -/
def centred : FVec Ideal S4x8192x1024 .f32 :=
  subf X (broadcastInDim S4x8192x1024 ![0, 1, 2] bcast_S4x8192x1_S4x8192x1024_0_1_2 (meanR X))

/-- The normalised rows, scaled and shifted. -/
def hid : FVec Ideal S4x8192x1024 .f32 :=
  addf (mulf (mulf (centred X) (broadcastInDim S4x8192x1024 ![0, 1, 2] bcast_S4x8192x1_S4x8192x1024_0_1_2
      (Host.rsqrt (addf (meanR (mulf (centred X) (centred X)))
        (broadcastInDim S4x8192x1 ![] bcast_S_S4x8192x1 (constant S_ .f32 0x3727C5AC#32))))))
    (broadcastInDim S4x8192x1024 ![0, 1, 2] bcast_S4x1x1024_S4x8192x1024_0_1_2
      (addf (broadcastInDim S4x1x1024 ![] bcast_S_S4x1x1024 (constant S_ .f32 0x3F800000#32))
        (broadcastInDim S4x1x1024 ![0, 2] bcast_S4x1024_S4x1x1024_0_2
          (shapeCast _ (extractStridedSlice S4x1x1024 ![0, 1, 0] M slices_S4x6x1024_S4x1x1024_0_1_0) shapeCasts_S4x1x1024_S4x1024)))))
    (broadcastInDim S4x8192x1024 ![0, 1, 2] bcast_S4x1x1024_S4x8192x1024_0_1_2
      (broadcastInDim S4x1x1024 ![0, 2] bcast_S4x1024_S4x1x1024_0_2
        (shapeCast _ (extractStridedSlice S4x1x1024 ![0, 0, 0] M slices_S4x6x1024_S4x1x1024_0_0_0) shapeCasts_S4x1x1024_S4x1024)))

/-- The projection of any rows. -/
def proj (H : FVec Ideal S4x8192x1024 .f32) : FVec Ideal S4x8192x8728 .f32 :=
  addf (Host.dotGeneral dot_S4x8192x1024_S1024x8728_S4x8192x8728_2_0_01_1_n_n none H
      (shapeCast _ W shapeCasts_S1x1024x8728_S1024x8728))
    (broadcastInDim S4x8192x8728 ![0, 1, 2] bcast_S1x1x8728_S4x8192x8728_0_1_2
      (broadcastInDim S1x1x8728 ![2] bcast_S8728_S1x1x8728_2 (shapeCast _ B shapeCasts_S1x8728_S8728)))

theorem hid_apply (b : Fin 4) (s : Fin 8192) (l : Fin 1024) : hid X M (ix3 b s l)
    = normed (fun k => X (ix3 b s k)) (fun k => M (ix3 b 0 k)) (fun k => M (ix3 b 1 k)) l := by
  unfold normed mean
  pointwise [hid, centred, meanR]

theorem proj_apply (H : FVec Ideal S4x8192x1024 .f32) (b : Fin 4) (s : Fin 8192) (q : Fin 8728) :
    proj W B H (ix3 b s q) = (∑ k : Fin 1024, H (ix3 b s k) * W (ix3 0 k q)) + B (ix2 0 q) := by
  pointwise [proj]

/-- The projected rows, one after another. -/
def rows (P : FVec Ideal S4x8192x8728 .f32) : FVec Ideal S32768x8728 .f32 := shapeCast _ P shapeCasts_S4x8192x8728_S32768x8728

/-- The rows with their columns laid out. -/
def laid (R : FVec Ideal S32768x8728 .f32) : FVec Ideal S32768x9216 .f32 :=
  concatenate S32768x9216 1 [⟨S32768x6656, extractStridedSlice S32768x6656 ![0, 0] R slices_S32768x8728_S32768x6656_0_0⟩,
    ⟨S32768x12, extractStridedSlice S32768x12 ![0, 6656] R slices_S32768x8728_S32768x12_0_6656⟩,
    ⟨S32768x116, (broadcastInDim S32768x116 ![] bcast_S_S32768x116 (constant S_ .f32 0x00000000#32) : FVec Ideal S32768x116 .f32)⟩,
    ⟨S32768x12, extractStridedSlice S32768x12 ![0, 6668] R slices_S32768x8728_S32768x12_0_6668⟩,
    ⟨S32768x116, (broadcastInDim S32768x116 ![] bcast_S_S32768x116 (constant S_ .f32 0x00000000#32) : FVec Ideal S32768x116 .f32)⟩,
    ⟨S32768x256, (broadcastInDim S32768x256 ![] bcast_S_S32768x256 (constant S_ .f32 0x00000000#32) : FVec Ideal S32768x256 .f32)⟩,
    ⟨S32768x2048, extractStridedSlice S32768x2048 ![0, 6680] R slices_S32768x8728_S32768x2048_0_6680⟩]
    concatenates_S32768x6656_S32768x12_S32768x116_S32768x12_S32768x116_S32768x256_S32768x2048_S32768x9216_d1

/-- The laid-out rows in slabs of 128 columns. -/
def slabs (L : FVec Ideal S32768x9216 .f32) : FVec Ideal S72x32768x128 .f32 :=
  transpose S72x32768x128 [1, 0, 2] (shapeCast _ L shapeCasts_S32768x9216_S32768x72x128) transposes_S32768x72x128_S72x32768x128_1_0_2

theorem rows_apply (P : FVec Ideal S4x8192x8728 .f32) (n : Fin 32768) (q : Fin 8728) :
    rows P (ix2 n q) = P (ix3 ⟨n.val / 8192, by omega⟩ ⟨n.val % 8192, by omega⟩ q) := by
  pointwise [rows]

theorem slabs_apply (L : FVec Ideal S32768x9216 .f32) (a : Fin 72) (n : Fin 32768) (l : Fin 128) :
    slabs L (ix3 a n l) = L (ix2 n ⟨a.val * 128 + l.val, by omega⟩) := by
  pointwise [slabs]

theorem laid_apply (R : FVec Ideal S32768x8728 .f32) (n : Fin 32768) (q : Fin 9216) :
    laid R (ix2 n q) = pick (fun j => R (ix2 n j)) q := by
  rw [pick_pieces (fun j => R (ix2 n j)) q (fun j => R (ix2 n ⟨j.val, by omega⟩)) (fun j => R (ix2 n ⟨6656 + j.val, by omega⟩))
    (fun j => R (ix2 n ⟨6668 + j.val, by omega⟩)) (fun j => R (ix2 n ⟨6680 + j.val, by omega⟩)) (fun _ => rfl) (fun _ => rfl)
    (fun _ => rfl) (fun _ => rfl)]
  pointwise [laid]

variable (m : (ℓ : Loc nD τ sig) → Buf (Elt Ideal) ℓ) (c : Dev nD)

theorem out0_eq : (res_main_v45 m c : FVec Ideal S72x32768x128 .f32)
    = slabs (laid (rows (proj (m ((c.tc : Thread nD τ).loc main_arg2)) (m ((c.tc : Thread nD τ).loc main_arg3))
        (hid (m ((c.tc : Thread nD τ).loc main_arg0)) (m ((c.tc : Thread nD τ).loc main_arg1)))))) := by
  unfold res_main_v45; rfl

end Cert.InprojRef

end
-- ==== Proof.Inproj.Claim.lean ====
/-
  The two programs compute the same input projection: the equation of their results and the claim stated of their runs.
-/
module

public import proofs.«01_k».proof.Defs
public import proofs.«01_k».proof.Proof.Inproj.Kernel
public import proofs.«01_k».proof.Proof.Inproj.Terms
public import Idealize.ShloMosaic.Adequacy
public import Idealize.ShloMosaic.Init

@[expose] public section

set_option maxRecDepth 16384

noncomputable section

namespace Cert.InprojClaim

open Idealize.ShloMosaic Idealize.SL.Sem Cert.Inproj Cert.InprojRef

/-- The reference's result at an entry. -/
theorem ref_apply (X : FVec Ideal (⟨3, ![4, 8192, 1024]⟩ : Shape) .f32) (M : FVec Ideal (⟨3, ![4, 6, 1024]⟩ : Shape) .f32)
    (W : FVec Ideal (⟨3, ![1, 1024, 8728]⟩ : Shape) .f32) (B : FVec Ideal (⟨2, ![1, 8728]⟩ : Shape) .f32)
    (a : Fin 72) (n : Fin 32768) (l : Fin 128) :
    slabs (laid (rows (proj W B (hid X M)))) (ix3 a n l)
      = pick (fun j => (∑ k, hidAt X M ⟨n.val / 8192, by omega⟩ ⟨n.val % 8192, by omega⟩ k * W (ix3 0 k j)) + B (ix2 0 j))
          ⟨a.val * 128 + l.val, by omega⟩ := by
  rw [slabs_apply, laid_apply]
  refine congrArg (fun f => pick f _) (funext fun j => ?_)
  rw [rows_apply, proj_apply]
  refine congrArg (· + B (ix2 0 j)) (Finset.sum_congr rfl fun k _ => ?_)
  rw [hid_apply]
  rfl

theorem algebraic : Cert.algebraic_Kernel2Ideal_Reference2Ideal
    (hKernel2Ideal := Cert.Kernel2Ideal.Gen.facts) (hReference2Ideal := Cert.Reference2Ideal.Gen.facts) := by
  intro m g m' g' _ hagree
  refine ⟨fun c => Cert.Kernel2Ideal.Value.G4 m c, ?_, ?_⟩
  · exact Cert.Kernel2Ideal.Value.run (F := Ideal) m g
  · refine (θ_run Cert.Reference2Ideal.defs _ _).mono (fun r h c => ⟨?_, (h c).2⟩)
      (Cert.Reference2Ideal.Value.run (F := Ideal) m' g')
    refine (h c).1.trans ((out0_eq m' c).trans ?_)
    funext i
    obtain ⟨a, n, l, rfl⟩ : ∃ (a : Fin 72) (n : Fin 32768) (l : Fin 128), i = ix3 a n l := ⟨i 0, i 1, i 2, eq_ix3 i⟩
    rw [(hagree c).1, (hagree c).2.1, (hagree c).2.2.1, (hagree c).2.2.2]
    exact (ref_apply (argX m c) (argM m c) (argW m c) (argB m c) a n l).trans (G4_eq m c a n l).symm

end Cert.InprojClaim

end
-- ==== Proof.Merge.Body.lean ====
/-
  The merge call: what its body leaves at a grid point, its run and its frame. A point works on 512 rows
  in two halves of 256, and keeps the eight column groups of a row as eight rows of 128, with stores that
  step over the rows by eight.
-/
module

public import proofs.«01_k».proof.Proof.Gen.Kernel3Ideal.Frame
public import proofs.«01_k».proof.Proof.Gen.Kernel3Ideal.Skeleton
public import Idealize.ShloMosaic.Lib.Claim

@[expose] public section

set_option maxRecDepth 16384

noncomputable section

namespace Cert.Kernel3Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The places the body reads and writes -/

/-- The upper half of a block of rows, and the lower. -/
abbrev rowsA : Rect S512x1024 := Rect.unit (s := S512x1024) ![0, 0] S256x1024.size inb_S512x1024_S256x1024_0_0
abbrev rowsB : Rect S512x1024 := Rect.unit (s := S512x1024) ![256, 0] S256x1024.size inb_S512x1024_S256x1024_256_0
/-- A whole weight, and a whole row. -/
abbrev square : Rect S1024x1024 := Rect.unit (s := S1024x1024) ![0, 0] S1024x1024.size inb_S1024x1024_S1024x1024_0_0
abbrev line : Rect S1x1024 := Rect.unit (s := S1x1024) ![0, 0] S1x1024.size inb_S1x1024_S1x1024_0_0
/-- The gate, the shift and the scale among the six rows of the modulation. -/
abbrev gateRow : Rect S1x6x1024 := Rect.unit (s := S1x6x1024) ![0, 2, 0] S1x1x1024.size inb_S1x6x1024_S1x1x1024_0_2_0
abbrev shiftRow : Rect S1x6x1024 := Rect.unit (s := S1x6x1024) ![0, 3, 0] S1x1x1024.size inb_S1x6x1024_S1x1x1024_0_3_0
abbrev scaleRow : Rect S1x6x1024 := Rect.unit (s := S1x6x1024) ![0, 4, 0] S1x1x1024.size inb_S1x6x1024_S1x1x1024_0_4_0
/-- The two parts of the router's weight, and its bias. -/
abbrev routerHi : Rect S2x1024x128 := Rect.unit (s := S2x1024x128) ![0, 0, 0] S1x1024x128.size inb_S2x1024x128_S1x1024x128_0_0_0
abbrev routerLo : Rect S2x1024x128 := Rect.unit (s := S2x1024x128) ![1, 0, 0] S1x1024x128.size inb_S2x1024x128_S1x1024x128_1_0_0
abbrev routerBias : Rect S1x128 := Rect.unit (s := S1x128) ![0, 0] S1x128.size inb_S1x128_S1x128_0_0
/-- The halves of a block of logits. -/
abbrev logitsA : Rect S512x128 := Rect.unit (s := S512x128) ![0, 0] S256x128.size inb_S512x128_S256x128_0_0
abbrev logitsB : Rect S512x128 := Rect.unit (s := S512x128) ![256, 0] S256x128.size inb_S512x128_S256x128_256_0
/-- The eight slabs of a gate's block, upper half. -/
abbrev slabA0 : Rect S8x512x128 := Rect.unit (s := S8x512x128) ![0, 0, 0] S1x256x128.size inb_S8x512x128_S1x256x128_0_0_0
abbrev slabA1 : Rect S8x512x128 := Rect.unit (s := S8x512x128) ![1, 0, 0] S1x256x128.size inb_S8x512x128_S1x256x128_1_0_0
abbrev slabA2 : Rect S8x512x128 := Rect.unit (s := S8x512x128) ![2, 0, 0] S1x256x128.size inb_S8x512x128_S1x256x128_2_0_0
abbrev slabA3 : Rect S8x512x128 := Rect.unit (s := S8x512x128) ![3, 0, 0] S1x256x128.size inb_S8x512x128_S1x256x128_3_0_0
abbrev slabA4 : Rect S8x512x128 := Rect.unit (s := S8x512x128) ![4, 0, 0] S1x256x128.size inb_S8x512x128_S1x256x128_4_0_0
abbrev slabA5 : Rect S8x512x128 := Rect.unit (s := S8x512x128) ![5, 0, 0] S1x256x128.size inb_S8x512x128_S1x256x128_5_0_0
abbrev slabA6 : Rect S8x512x128 := Rect.unit (s := S8x512x128) ![6, 0, 0] S1x256x128.size inb_S8x512x128_S1x256x128_6_0_0
abbrev slabA7 : Rect S8x512x128 := Rect.unit (s := S8x512x128) ![7, 0, 0] S1x256x128.size inb_S8x512x128_S1x256x128_7_0_0
/-- The eight slabs of a gate's block, lower half. -/
abbrev slabB0 : Rect S8x512x128 := Rect.unit (s := S8x512x128) ![0, 256, 0] S1x256x128.size inb_S8x512x128_S1x256x128_0_256_0
abbrev slabB1 : Rect S8x512x128 := Rect.unit (s := S8x512x128) ![1, 256, 0] S1x256x128.size inb_S8x512x128_S1x256x128_1_256_0
abbrev slabB2 : Rect S8x512x128 := Rect.unit (s := S8x512x128) ![2, 256, 0] S1x256x128.size inb_S8x512x128_S1x256x128_2_256_0
abbrev slabB3 : Rect S8x512x128 := Rect.unit (s := S8x512x128) ![3, 256, 0] S1x256x128.size inb_S8x512x128_S1x256x128_3_256_0
abbrev slabB4 : Rect S8x512x128 := Rect.unit (s := S8x512x128) ![4, 256, 0] S1x256x128.size inb_S8x512x128_S1x256x128_4_256_0
abbrev slabB5 : Rect S8x512x128 := Rect.unit (s := S8x512x128) ![5, 256, 0] S1x256x128.size inb_S8x512x128_S1x256x128_5_256_0
abbrev slabB6 : Rect S8x512x128 := Rect.unit (s := S8x512x128) ![6, 256, 0] S1x256x128.size inb_S8x512x128_S1x256x128_6_256_0
abbrev slabB7 : Rect S8x512x128 := Rect.unit (s := S8x512x128) ![7, 256, 0] S1x256x128.size inb_S8x512x128_S1x256x128_7_256_0
/-- The rows `o`, `o + 8`, … of a block of tiles: one column group of 256 rows. -/
abbrev strip (o : Nat) (h : ∀ a, S256x128.size a = 0 ∨ (![o, 0] : Fin 2 → Nat) a + (![8, 1] : Fin 2 → Nat) a * (S256x128.size a - 1) < S4096x128.size a) :
    Rect S4096x128 := ⟨⟨![o, 0], S256x128.size, ![8, 1], h⟩, spos_8_1⟩
abbrev stripA0 : Rect S4096x128 := strip 0 inb_S4096x128_S256x128_0_0_s_8_1
abbrev stripA1 : Rect S4096x128 := strip 1 inb_S4096x128_S256x128_1_0_s_8_1
abbrev stripA2 : Rect S4096x128 := strip 2 inb_S4096x128_S256x128_2_0_s_8_1
abbrev stripA3 : Rect S4096x128 := strip 3 inb_S4096x128_S256x128_3_0_s_8_1
abbrev stripA4 : Rect S4096x128 := strip 4 inb_S4096x128_S256x128_4_0_s_8_1
abbrev stripA5 : Rect S4096x128 := strip 5 inb_S4096x128_S256x128_5_0_s_8_1
abbrev stripA6 : Rect S4096x128 := strip 6 inb_S4096x128_S256x128_6_0_s_8_1
abbrev stripA7 : Rect S4096x128 := strip 7 inb_S4096x128_S256x128_7_0_s_8_1
abbrev stripB0 : Rect S4096x128 := strip 2048 inb_S4096x128_S256x128_2048_0_s_8_1
abbrev stripB1 : Rect S4096x128 := strip 2049 inb_S4096x128_S256x128_2049_0_s_8_1
abbrev stripB2 : Rect S4096x128 := strip 2050 inb_S4096x128_S256x128_2050_0_s_8_1
abbrev stripB3 : Rect S4096x128 := strip 2051 inb_S4096x128_S256x128_2051_0_s_8_1
abbrev stripB4 : Rect S4096x128 := strip 2052 inb_S4096x128_S256x128_2052_0_s_8_1
abbrev stripB5 : Rect S4096x128 := strip 2053 inb_S4096x128_S256x128_2053_0_s_8_1
abbrev stripB6 : Rect S4096x128 := strip 2054 inb_S4096x128_S256x128_2054_0_s_8_1
abbrev stripB7 : Rect S4096x128 := strip 2055 inb_S4096x128_S256x128_2055_0_s_8_1

/-! ## What the body computes -/

section
variable (x0 : Vec F S512x1024 .bf16) (x1 : Vec F S512x1024 .bf16) (x2 : Vec F S8x512x128 .f32) (x3 : Vec F S8x512x128 .f32) (x4 : Vec F S512x1024 .f32) (x5 : Vec F S1x6x1024 .f32) (x6 : Vec F S1024x1024 .bf16) (x7 : Vec F S1024x1024 .bf16) (x8 : Vec F S1024x1024 .bf16) (x9 : Vec F S1x1024 .f32) (x10 : Vec F S1x1024 .f32) (x11 : Vec F S2x1024x128 .bf16) (x12 : Vec F S1x128 .f32)

/-- The lower half's gated sum of the two branches. -/
def sumB : FVec F S256x1024 .bf16 :=
  k0_pay26 (k0_pay7 (View.ld x0 rowsB) (View.ld x6 square)) (k0_pay9 (View.ld x1 rowsB) (View.ld x7 square))
    (k0_pay21 (k0_pay14 (View.ld x2 slabB0)) (k0_pay15 (View.ld x2 slabB1)) (k0_pay16 (View.ld x2 slabB2)) (k0_pay17 (View.ld x2 slabB3)) (k0_pay18 (View.ld x2 slabB4)) (k0_pay19 (View.ld x2 slabB5)) (k0_pay20 (View.ld x2 slabB6)) (View.ld x2 slabB7))
    (k0_pay23 (View.ld x3 slabB0)) (k0_pay24 (View.ld x3 slabB1)) (k0_pay25 (View.ld x3 slabB2)) (View.ld x3 slabB3) (View.ld x3 slabB4) (View.ld x3 slabB5) (View.ld x3 slabB6) (View.ld x3 slabB7)

/-- The rows the layer goes on with, upper half and lower. -/
def nextA : FVec F S256x1024 .f32 :=
  k0_pay30 (k0_pay27 (k0_pay6 (View.ld x0 rowsA) (View.ld x6 square)) (k0_pay8 (View.ld x1 rowsA) (View.ld x7 square))
    (k0_pay13 (k0_pay10 (View.ld x2 slabA0)) (k0_pay11 (View.ld x2 slabA1)) (k0_pay12 (View.ld x2 slabA2)) (View.ld x2 slabA3) (View.ld x2 slabA4) (View.ld x2 slabA5) (View.ld x2 slabA6) (View.ld x2 slabA7))
    (k0_pay22 (View.ld x3 slabA0) (View.ld x3 slabA1) (View.ld x3 slabA2) (View.ld x3 slabA3) (View.ld x3 slabA4) (View.ld x3 slabA5) (View.ld x3 slabA6) (View.ld x3 slabA7))
    (View.ld x5 gateRow) (View.ld x8 square)) (View.ld x4 rowsA) (View.ld x9 line) (View.ld x10 line)
def nextB : FVec F S256x1024 .f32 :=
  k0_pay33 (k0_pay31 (sumB x0 x1 x2 x3 x6 x7) (k0_pay28 (View.ld x5 gateRow)) (k0_pay29 (F := F)) (View.ld x8 square) (View.ld x4 rowsB))
    (k0_pay32 (sumB x0 x1 x2 x3 x6 x7) (k0_pay28 (View.ld x5 gateRow)) (k0_pay29 (F := F)) (View.ld x8 square) (View.ld x4 rowsB))
    (View.ld x9 line) (View.ld x10 line)

end

section
variable (v : FVec F S256x1024 .f32) (x5 : Vec F S1x6x1024 .f32) (x11 : Vec F S2x1024x128 .bf16) (x12 : Vec F S1x128 .f32)

/-- The rows the experts read, from the next rows of the upper half and of the lower. -/
def hidA : FVec F S256x1024 .f32 := k0_pay36 (k0_pay34 v) (k0_pay35 (View.ld x5 scaleRow)) (View.ld x5 shiftRow)
def hidB : FVec F S256x1024 .f32 := k0_pay37 v (View.ld x5 scaleRow) (View.ld x5 shiftRow)

/-- The router's logits, from the same. -/
def logA : FVec F S256x128 .f32 :=
  k0_pay43 (k0_pay38 (k0_pay34 v) (k0_pay35 (View.ld x5 scaleRow)) (View.ld x5 shiftRow)) (k0_pay40 (k0_pay34 v) (k0_pay35 (View.ld x5 scaleRow)) (View.ld x5 shiftRow))
    (k0_pay42 (View.ld x11 routerHi)) (View.ld x11 routerLo) (View.ld x11 routerHi) (View.ld x12 routerBias)
def logB : FVec F S256x128 .f32 :=
  k0_pay44 (k0_pay39 v (View.ld x5 scaleRow) (View.ld x5 shiftRow)) (k0_pay41 v (View.ld x5 scaleRow) (View.ld x5 shiftRow))
    (View.ld x11 routerHi) (View.ld x11 routerLo) (View.ld x11 routerHi) (View.ld x12 routerBias)

end

/-! ## What the body leaves -/

/-- The block of next rows, its two halves the later first. -/
def outNext (a b : FVec F S256x1024 .f32) : Vec F S512x1024 .f32 :=
  View.canon [⟨rowsB, b⟩, ⟨rowsA, a⟩]

theorem outNext_cover (p q : Vec F S256x1024 .f32) (y : S512x1024.Idx) :
    ∃ pc ∈ ([⟨rowsB, p⟩, ⟨rowsA, q⟩] : List (View.Piece (Elt F) S512x1024 .f32)), y ∈ pc.1.set :=
  View.cover_of_tiled [⟨rowsB, p⟩, ⟨rowsA, q⟩] S256x1024.size (by rfl) y

/-- The block of tiles, from the two halves of the rows the experts read, the later strips first. -/
def tiles (a b : FVec F S256x1024 .f32) : List (View.Piece (Elt F) S4096x128 .f32) :=
  [⟨stripB7, k0_pay5 b⟩, ⟨stripB6, k0_pay4 b⟩, ⟨stripB5, k0_pay3 b⟩, ⟨stripB4, k0_pay2 b⟩,
    ⟨stripB3, k0_pay1 b⟩, ⟨stripB2, k0_pay55 b⟩, ⟨stripB1, k0_pay54 b⟩, ⟨stripB0, k0_pay53 b⟩,
    ⟨stripA7, k0_pay52 a⟩, ⟨stripA6, k0_pay51 a⟩, ⟨stripA5, k0_pay50 a⟩, ⟨stripA4, k0_pay49 a⟩,
    ⟨stripA3, k0_pay48 a⟩, ⟨stripA2, k0_pay47 a⟩, ⟨stripA1, k0_pay46 a⟩, ⟨stripA0, k0_pay45 a⟩]
def outTiles (a b : FVec F S256x1024 .f32) : Vec F S4096x128 .f32 := View.canon (tiles a b)

/-- A row of a block of tiles lies in the strip of its column group. -/
theorem mem_strip (o : Nat) (h) (y : S4096x128.Idx) (h₁ : o ≤ y 0) (h₂ : ((y 0 : Nat) - o) % 8 = 0) (h₃ : ((y 0 : Nat) - o) / 8 < 256) :
    y ∈ (strip o h).set := by
  refine (LoadRect.mem_set _).mpr fun a => ?_
  fin_cases a
  · refine ⟨((y 0 : Nat) - o) / 8, h₃, ?_⟩
    show (y 0 : Nat) = o + 8 * (((y 0 : Nat) - o) / 8)
    omega
  · refine ⟨(y 1 : Nat), (y 1).isLt, ?_⟩
    show (y 1 : Nat) = 0 + 1 * (y 1 : Nat)
    omega

theorem tiles_cover (a b : FVec F S256x1024 .f32) (y : S4096x128.Idx) : ∃ pc ∈ tiles a b, y ∈ pc.1.set := by
  have hy : (y 0 : Nat) < 4096 := (y 0).isLt
  have hc : (y 0 : Nat) % 8 < 8 := Nat.mod_lt _ (by decide)
  by_cases hh : (y 0 : Nat) < 2048
  · rcases (by omega : (y 0 : Nat) % 8 = 0 ∨ (y 0 : Nat) % 8 = 1 ∨ (y 0 : Nat) % 8 = 2 ∨ (y 0 : Nat) % 8 = 3 ∨ (y 0 : Nat) % 8 = 4
      ∨ (y 0 : Nat) % 8 = 5 ∨ (y 0 : Nat) % 8 = 6 ∨ (y 0 : Nat) % 8 = 7) with h | h | h | h | h | h | h | h
    · exact ⟨⟨stripA0, k0_pay45 a⟩, by simp [tiles], mem_strip 0 _ y (by omega) (by omega) (by omega)⟩
    · exact ⟨⟨stripA1, k0_pay46 a⟩, by simp [tiles], mem_strip 1 _ y (by omega) (by omega) (by omega)⟩
    · exact ⟨⟨stripA2, k0_pay47 a⟩, by simp [tiles], mem_strip 2 _ y (by omega) (by omega) (by omega)⟩
    · exact ⟨⟨stripA3, k0_pay48 a⟩, by simp [tiles], mem_strip 3 _ y (by omega) (by omega) (by omega)⟩
    · exact ⟨⟨stripA4, k0_pay49 a⟩, by simp [tiles], mem_strip 4 _ y (by omega) (by omega) (by omega)⟩
    · exact ⟨⟨stripA5, k0_pay50 a⟩, by simp [tiles], mem_strip 5 _ y (by omega) (by omega) (by omega)⟩
    · exact ⟨⟨stripA6, k0_pay51 a⟩, by simp [tiles], mem_strip 6 _ y (by omega) (by omega) (by omega)⟩
    · exact ⟨⟨stripA7, k0_pay52 a⟩, by simp [tiles], mem_strip 7 _ y (by omega) (by omega) (by omega)⟩
  · rcases (by omega : (y 0 : Nat) % 8 = 0 ∨ (y 0 : Nat) % 8 = 1 ∨ (y 0 : Nat) % 8 = 2 ∨ (y 0 : Nat) % 8 = 3 ∨ (y 0 : Nat) % 8 = 4
      ∨ (y 0 : Nat) % 8 = 5 ∨ (y 0 : Nat) % 8 = 6 ∨ (y 0 : Nat) % 8 = 7) with h | h | h | h | h | h | h | h
    · exact ⟨⟨stripB0, k0_pay53 b⟩, by simp [tiles], mem_strip 2048 _ y (by omega) (by omega) (by omega)⟩
    · exact ⟨⟨stripB1, k0_pay54 b⟩, by simp [tiles], mem_strip 2049 _ y (by omega) (by omega) (by omega)⟩
    · exact ⟨⟨stripB2, k0_pay55 b⟩, by simp [tiles], mem_strip 2050 _ y (by omega) (by omega) (by omega)⟩
    · exact ⟨⟨stripB3, k0_pay1 b⟩, by simp [tiles], mem_strip 2051 _ y (by omega) (by omega) (by omega)⟩
    · exact ⟨⟨stripB4, k0_pay2 b⟩, by simp [tiles], mem_strip 2052 _ y (by omega) (by omega) (by omega)⟩
    · exact ⟨⟨stripB5, k0_pay3 b⟩, by simp [tiles], mem_strip 2053 _ y (by omega) (by omega) (by omega)⟩
    · exact ⟨⟨stripB6, k0_pay4 b⟩, by simp [tiles], mem_strip 2054 _ y (by omega) (by omega) (by omega)⟩
    · exact ⟨⟨stripB7, k0_pay5 b⟩, by simp [tiles], mem_strip 2055 _ y (by omega) (by omega) (by omega)⟩

/-- The block of logits. -/
def outLogits (a b : FVec F S256x128 .f32) : Vec F S512x128 .f32 :=
  View.canon [⟨logitsB, b⟩, ⟨logitsA, a⟩]

theorem outLogits_cover (p q : Vec F S256x128 .f32) (y : S512x128.Idx) :
    ∃ pc ∈ ([⟨logitsB, p⟩, ⟨logitsA, q⟩] : List (View.Piece (Elt F) S512x128 .f32)), y ∈ pc.1.set :=
  View.cover_of_tiled [⟨logitsB, p⟩, ⟨logitsA, q⟩] S256x128.size (by rfl) y

/-! ## The body's triple -/

set_option maxHeartbeats 1600000 in
/-- From its thirteen inputs the body runs to the end, leaves them, and fills its three outputs. -/
theorem body_runs (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S8x512x128 .f32) (harg3 : arg3.IsWhole) (arg4 : Memref sig .tc .vmem S8x512x128 .f32) (harg4 : arg4.IsWhole) (arg5 : Memref sig .tc .vmem S512x1024 .f32) (harg5 : arg5.IsWhole) (arg6 : Memref sig .tc .vmem S1x6x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x1024x128 .bf16) (harg12 : arg12.IsWhole) (arg13 : Memref sig .tc .vmem S1x128 .f32) (harg13 : arg13.IsWhole) (arg14 : Memref sig .tc .vmem S512x1024 .f32) (harg14 : arg14.IsWhole) (arg15 : Memref sig .tc .vmem S4096x128 .f32) (harg15 : arg15.IsWhole) (arg16 : Memref sig .tc .vmem S512x128 .f32) (harg16 : arg16.IsWhole)
    (x0 : Vec F S512x1024 .bf16) (x1 : Vec F S512x1024 .bf16) (x2 : Vec F S8x512x128 .f32) (x3 : Vec F S8x512x128 .f32) (x4 : Vec F S512x1024 .f32) (x5 : Vec F S1x6x1024 .f32) (x6 : Vec F S1024x1024 .bf16) (x7 : Vec F S1024x1024 .bf16) (x8 : Vec F S1024x1024 .bf16) (x9 : Vec F S1x1024 .f32) (x10 : Vec F S1x1024 .f32) (x11 : Vec F S2x1024x128 .bf16) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outNext (nextA x0 x1 x2 x3 x4 x5 x6 x7 x8 x9 x10) (nextB x0 x1 x2 x3 x4 x5 x6 x7 x8 x9 x10)) ∗ owns (c : Thread nD τ) arg15 fullShare (outTiles (hidA (nextA x0 x1 x2 x3 x4 x5 x6 x7 x8 x9 x10) x5) (hidB (nextB x0 x1 x2 x3 x4 x5 x6 x7 x8 x9 x10) x5)) ∗ owns (c : Thread nD τ) arg16 fullShare (outLogits (logA (nextA x0 x1 x2 x3 x4 x5 x6 x7 x8 x9 x10) x5 x11 x12) (logB (nextB x0 x1 x2 x3 x4 x5 x6 x7 x8 x9 x10) x5 x11 x12))) -∗ K ⟨⟩))
      ⊢ wp frame (wpE (defs₀ (F := F)) Variants.none c none) E (cc0_merge_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_merge_outproj_eq_skeleton]; unfold cc0_merge_outproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (outNext_cover _ _)).trans ?_
    rfl
  isplitl [H14]
  · iexists _; isplitr
    swap; · iexact H14
    ipureintro
    refine (View.read_writes_eq_canon _ _ _ (tiles_cover _ _)).trans ?_
    rfl
  iexists _; isplitr
  swap; · iexact H15
  ipureintro
  refine (View.read_writes_eq_canon _ _ _ (outLogits_cover _ _)).trans ?_
  rfl

/-! ## The pipeline's data -/

/-- The next rows of a point's block, upper half and lower. -/
def ptA (c : Dev nD) (t : Fin cfg0.N) : FVec F S256x1024 .f32 := nextA (iblk m c 0 t) (iblk m c 1 t) (iblk m c 2 t) (iblk m c 3 t) (iblk m c 4 t) (iblk m c 5 t) (iblk m c 6 t) (iblk m c 7 t) (iblk m c 8 t) (iblk m c 9 t) (iblk m c 10 t)
def ptB (c : Dev nD) (t : Fin cfg0.N) : FVec F S256x1024 .f32 := nextB (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the body leaves at a point: the inputs' blocks as they were, the outputs' filled. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outNext (ptA m c t) (ptB m c t)
    | ⟨14, _⟩ => outTiles (hidA (ptA m c t) (iblk m c 5 t)) (hidB (ptB m c t) (iblk m c 5 t))
    | ⟨15, _⟩ => outLogits (logA (ptA m c t) (iblk m c 5 t) (iblk m c 11 t) (iblk m c 12 t)) (logB (ptB m c t) (iblk m c 5 t) (iblk m c 11 t) (iblk m c 12 t))
    | ⟨_ + 16, h⟩ => absurd h (Nat.not_lt.2 (Nat.le_add_left _ _))
  Φ _ := Pipeline.ΦA spec0 c
  q w := Pipeline.shareOf spec0 w
  owed _ := 0

theorem arrays (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left13 (c : Dev nD) (t : Fin cfg0.N) : (dats m 0 c).after 13 t = outNext (ptA m c t) (ptB m c t) := by dsimp only [dats]
theorem left14 (c : Dev nD) (t : Fin cfg0.N) : (dats m 0 c).after 14 t = outTiles (hidA (ptA m c t) (iblk m c 5 t)) (hidB (ptB m c t) (iblk m c 5 t)) := by dsimp only [dats]
theorem left15 (c : Dev nD) (t : Fin cfg0.N) : (dats m 0 c).after 15 t = outLogits (logA (ptA m c t) (iblk m c 5 t) (iblk m c 11 t) (iblk m c 12 t)) (logB (ptB m c t) (iblk m c 5 t) (iblk m c 11 t) (iblk m c 12 t)) := by dsimp only [dats]

/-- Before the body an input's buffer holds its block. -/
theorem found0 (c : Dev nD) (t : Fin cfg0.N) (d) : (dats m 0 c).before 0 t d = iblk m c 0 t :=
  before0_0_of m (dats m 0 c) (arrays m c 0) (left0 m c) t d
theorem found1 (c : Dev nD) (t : Fin cfg0.N) (d) : (dats m 0 c).before 1 t d = iblk m c 1 t :=
  before0_1_of m (dats m 0 c) (arrays m c 1) (left1 m c) t d
theorem found2 (c : Dev nD) (t : Fin cfg0.N) (d) : (dats m 0 c).before 2 t d = iblk m c 2 t :=
  before0_2_of m (dats m 0 c) (arrays m c 2) (left2 m c) t d
theorem found3 (c : Dev nD) (t : Fin cfg0.N) (d) : (dats m 0 c).before 3 t d = iblk m c 3 t :=
  before0_3_of m (dats m 0 c) (arrays m c 3) (left3 m c) t d
theorem found4 (c : Dev nD) (t : Fin cfg0.N) (d) : (dats m 0 c).before 4 t d = iblk m c 4 t :=
  before0_4_of m (dats m 0 c) (arrays m c 4) (left4 m c) t d
theorem found5 (c : Dev nD) (t : Fin cfg0.N) (d) : (dats m 0 c).before 5 t d = iblk m c 5 t :=
  before0_5_of m (dats m 0 c) (arrays m c 5) (left5 m c) t d
theorem found6 (c : Dev nD) (t : Fin cfg0.N) (d) : (dats m 0 c).before 6 t d = iblk m c 6 t :=
  before0_6_of m (dats m 0 c) (arrays m c 6) (left6 m c) t d
theorem found7 (c : Dev nD) (t : Fin cfg0.N) (d) : (dats m 0 c).before 7 t d = iblk m c 7 t :=
  before0_7_of m (dats m 0 c) (arrays m c 7) (left7 m c) t d
theorem found8 (c : Dev nD) (t : Fin cfg0.N) (d) : (dats m 0 c).before 8 t d = iblk m c 8 t :=
  before0_8_of m (dats m 0 c) (arrays m c 8) (left8 m c) t d
theorem found9 (c : Dev nD) (t : Fin cfg0.N) (d) : (dats m 0 c).before 9 t d = iblk m c 9 t :=
  before0_9_of m (dats m 0 c) (arrays m c 9) (left9 m c) t d
theorem found10 (c : Dev nD) (t : Fin cfg0.N) (d) : (dats m 0 c).before 10 t d = iblk m c 10 t :=
  before0_10_of m (dats m 0 c) (arrays m c 10) (left10 m c) t d
theorem found11 (c : Dev nD) (t : Fin cfg0.N) (d) : (dats m 0 c).before 11 t d = iblk m c 11 t :=
  before0_11_of m (dats m 0 c) (arrays m c 11) (left11 m c) t d
theorem found12 (c : Dev nD) (t : Fin cfg0.N) (d) : (dats m 0 c).before 12 t d = iblk m c 12 t :=
  before0_12_of m (dats m 0 c) (arrays m c 12) (left12 m c) t d

/-! ## The body at a point -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

theorem body_at (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, found5, found6, found7, found8, found9, found10, found11, found12]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13, left14, left15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_runs c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run and the frame -/

set_option backward.isDefEq.respectTransparency.types false in
set_option maxHeartbeats 800000 in
/-- The launch: every final state has the arrays as the points leave them, and no semaphore is left counting. -/
theorem ends_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hΦ := fun _ _ => rfl)

theorem ends : θ_run defs (onTc (τ := τ) (main (F := F))) (s₀ m ρ) (Pipeline.FramePost cfgs (dats m) 0 (V m)) :=
  (θ_run defs _ _).mono (fun _ h => h.1) (ends_quiet m ρ)

/-- The arguments end as they were launched, and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (arrays m) (ends m ρ)) ((θ_run defs _ _).mono (fun _ h => h.2) (ends_quiet m ρ))

end Cert.Kernel3Ideal.Merge

end
-- ==== Proof.Merge.Row.lean ====
/-
  A row of the merge in plain terms: the two gated branches, their sum through the output weight added to the row, and
  that normalised.
-/
module

public import proofs.«01_k».proof.Proof.Inproj.Row

@[expose] public section

noncomputable section

namespace Cert.Merge

open Idealize.ShloMosaic Cert.Inproj

/-- A row times a square weight. -/
def times (o : Fin 1024 → EReal) (w : Fin 1024 → Fin 1024 → EReal) (l : Fin 1024) : EReal := ∑ k, o k * w k l

/-- The sum of the two branches, each under its gate. -/
def gated (gh gn ah an : Fin 1024 → EReal) (l : Fin 1024) : EReal :=
  Ideal.logistic (gh l) * ah l + Ideal.logistic (gn l) * an l

/-- The row before its normalisation. -/
def resid (x gt y : Fin 1024 → EReal) (l : Fin 1024) : EReal := Ideal.ofBits .f32 0x3F9837F0#32 * x l + (1 + gt l) * y l

/-- A row normalised, then scaled by `g` and shifted by `b`. -/
def scaled (z g b : Fin 1024 → EReal) (l : Fin 1024) : EReal :=
  (z l - mean z) * Ideal.rsqrt (mean (fun k => (z k - mean z) * (z k - mean z)) + Ideal.ofBits .f32 0x3727C5AC#32) * g l + b l

/-- The row the layer goes on with. -/
def next (oh on gh gn x gt : Fin 1024 → EReal) (wh wn wo : Fin 1024 → Fin 1024 → EReal) (g b : Fin 1024 → EReal) : Fin 1024 → EReal :=
  scaled (resid x gt (times (gated gh gn (times oh wh) (times on wn)) wo)) g b

/-- A row in eight pieces of 128. -/
theorem eight (f : Fin 1024 → EReal) (j : Fin 1024) (a0 a1 a2 a3 a4 a5 a6 a7 : Fin 128 → EReal)
    (h0 : ∀ q : Fin 128, a0 q = f ⟨0 + q.val, by omega⟩)
    (h1 : ∀ q : Fin 128, a1 q = f ⟨128 + q.val, by omega⟩)
    (h2 : ∀ q : Fin 128, a2 q = f ⟨256 + q.val, by omega⟩)
    (h3 : ∀ q : Fin 128, a3 q = f ⟨384 + q.val, by omega⟩)
    (h4 : ∀ q : Fin 128, a4 q = f ⟨512 + q.val, by omega⟩)
    (h5 : ∀ q : Fin 128, a5 q = f ⟨640 + q.val, by omega⟩)
    (h6 : ∀ q : Fin 128, a6 q = f ⟨768 + q.val, by omega⟩)
    (h7 : ∀ q : Fin 128, a7 q = f ⟨896 + q.val, by omega⟩) :
    f j = if h : j.val < 128 then a0 ⟨j.val, h⟩
      else if h : j.val - 128 < 128 then a1 ⟨j.val - 128, h⟩
      else if h : j.val - 128 - 128 < 128 then a2 ⟨j.val - 128 - 128, h⟩
      else if h : j.val - 128 - 128 - 128 < 128 then a3 ⟨j.val - 128 - 128 - 128, h⟩
      else if h : j.val - 128 - 128 - 128 - 128 < 128 then a4 ⟨j.val - 128 - 128 - 128 - 128, h⟩
      else if h : j.val - 128 - 128 - 128 - 128 - 128 < 128 then a5 ⟨j.val - 128 - 128 - 128 - 128 - 128, h⟩
      else if h : j.val - 128 - 128 - 128 - 128 - 128 - 128 < 128 then a6 ⟨j.val - 128 - 128 - 128 - 128 - 128 - 128, h⟩
      else a7 ⟨j.val - 128 - 128 - 128 - 128 - 128 - 128 - 128, by omega⟩ := by
  simp only [h0, h1, h2, h3, h4, h5, h6, h7]
  split_ifs <;> (refine congrArg f (Fin.ext ?_); dsimp only; omega)

end Cert.Merge

end
-- ==== Proof.Merge.Payload.lean ====
/-
  The merge's grid point, read at a row and a column: the next rows and the rows the experts read, from the blocks.
-/
module

public import proofs.«01_k».proof.Proof.Gen.Kernel3Ideal.Skeleton
public import proofs.«01_k».proof.Proof.Merge.Row

@[expose] public section

set_option maxRecDepth 16384

noncomputable section

namespace Cert.Merge

open Idealize.ShloMosaic Idealize.ShloMosaic.TcCoe Idealize.SL.Sem Cert.Kernel3Ideal Cert.Kernel3Ideal.Gen Cert.Inproj

theorem pay6_apply (o : Vec Ideal S256x1024 .bf16) (w : Vec Ideal S1024x1024 .bf16) (i : Fin 256) (l : Fin 1024) :
    k0_pay6 (F := Ideal) o w (ix2 i l) = times (fun k => o (ix2 i k)) (fun k l => w (ix2 k l)) l := by
  unfold times
  pointwise [k0_pay6]

theorem pay7_apply (o : Vec Ideal S256x1024 .bf16) (w : Vec Ideal S1024x1024 .bf16) (i : Fin 256) (l : Fin 1024) :
    k0_pay7 (F := Ideal) o w (ix2 i l) = times (fun k => o (ix2 i k)) (fun k l => w (ix2 k l)) l := by
  unfold times
  pointwise [k0_pay7]

theorem pay8_apply (o : Vec Ideal S256x1024 .bf16) (w : Vec Ideal S1024x1024 .bf16) (i : Fin 256) (l : Fin 1024) :
    k0_pay8 (F := Ideal) o w (ix2 i l) = times (fun k => o (ix2 i k)) (fun k l => w (ix2 k l)) l := by
  unfold times
  pointwise [k0_pay8]

theorem pay9_apply (o : Vec Ideal S256x1024 .bf16) (w : Vec Ideal S1024x1024 .bf16) (i : Fin 256) (l : Fin 1024) :
    k0_pay9 (F := Ideal) o w (ix2 i l) = times (fun k => o (ix2 i k)) (fun k l => w (ix2 k l)) l := by
  unfold times
  pointwise [k0_pay9]

theorem pay10_apply (s : Vec Ideal S1x256x128 .f32) (i : Fin 256) (q : Fin 128) :
    k0_pay10 (F := Ideal) s (ix2 i q) = s (ix3 0 i q) := by
  pointwise [k0_pay10]

theorem pay11_apply (s : Vec Ideal S1x256x128 .f32) (i : Fin 256) (q : Fin 128) :
    k0_pay11 (F := Ideal) s (ix2 i q) = s (ix3 0 i q) := by
  pointwise [k0_pay11]

theorem pay12_apply (s : Vec Ideal S1x256x128 .f32) (i : Fin 256) (q : Fin 128) :
    k0_pay12 (F := Ideal) s (ix2 i q) = s (ix3 0 i q) := by
  pointwise [k0_pay12]

theorem pay14_apply (s : Vec Ideal S1x256x128 .f32) (i : Fin 256) (q : Fin 128) :
    k0_pay14 (F := Ideal) s (ix2 i q) = s (ix3 0 i q) := by
  pointwise [k0_pay14]

theorem pay15_apply (s : Vec Ideal S1x256x128 .f32) (i : Fin 256) (q : Fin 128) :
    k0_pay15 (F := Ideal) s (ix2 i q) = s (ix3 0 i q) := by
  pointwise [k0_pay15]

theorem pay16_apply (s : Vec Ideal S1x256x128 .f32) (i : Fin 256) (q : Fin 128) :
    k0_pay16 (F := Ideal) s (ix2 i q) = s (ix3 0 i q) := by
  pointwise [k0_pay16]

theorem pay17_apply (s : Vec Ideal S1x256x128 .f32) (i : Fin 256) (q : Fin 128) :
    k0_pay17 (F := Ideal) s (ix2 i q) = s (ix3 0 i q) := by
  pointwise [k0_pay17]

theorem pay18_apply (s : Vec Ideal S1x256x128 .f32) (i : Fin 256) (q : Fin 128) :
    k0_pay18 (F := Ideal) s (ix2 i q) = s (ix3 0 i q) := by
  pointwise [k0_pay18]

theorem pay19_apply (s : Vec Ideal S1x256x128 .f32) (i : Fin 256) (q : Fin 128) :
    k0_pay19 (F := Ideal) s (ix2 i q) = s (ix3 0 i q) := by
  pointwise [k0_pay19]

theorem pay20_apply (s : Vec Ideal S1x256x128 .f32) (i : Fin 256) (q : Fin 128) :
    k0_pay20 (F := Ideal) s (ix2 i q) = s (ix3 0 i q) := by
  pointwise [k0_pay20]

theorem pay23_apply (s : Vec Ideal S1x256x128 .f32) (i : Fin 256) (q : Fin 128) :
    k0_pay23 (F := Ideal) s (ix2 i q) = s (ix3 0 i q) := by
  pointwise [k0_pay23]

theorem pay24_apply (s : Vec Ideal S1x256x128 .f32) (i : Fin 256) (q : Fin 128) :
    k0_pay24 (F := Ideal) s (ix2 i q) = s (ix3 0 i q) := by
  pointwise [k0_pay24]

theorem pay25_apply (s : Vec Ideal S1x256x128 .f32) (i : Fin 256) (q : Fin 128) :
    k0_pay25 (F := Ideal) s (ix2 i q) = s (ix3 0 i q) := by
  pointwise [k0_pay25]

theorem pay13_apply (s0 s1 s2 : FVec Ideal S256x128 .f32) (s3 s4 s5 s6 s7 : Vec Ideal S1x256x128 .f32) (i : Fin 256) (f : Fin 1024 → EReal)
    (h0 : ∀ q : Fin 128, s0 (ix2 i q) = f ⟨0 + q.val, by omega⟩)
    (h1 : ∀ q : Fin 128, s1 (ix2 i q) = f ⟨128 + q.val, by omega⟩)
    (h2 : ∀ q : Fin 128, s2 (ix2 i q) = f ⟨256 + q.val, by omega⟩)
    (h3 : ∀ q : Fin 128, s3 (ix3 0 i q) = f ⟨384 + q.val, by omega⟩)
    (h4 : ∀ q : Fin 128, s4 (ix3 0 i q) = f ⟨512 + q.val, by omega⟩)
    (h5 : ∀ q : Fin 128, s5 (ix3 0 i q) = f ⟨640 + q.val, by omega⟩)
    (h6 : ∀ q : Fin 128, s6 (ix3 0 i q) = f ⟨768 + q.val, by omega⟩)
    (h7 : ∀ q : Fin 128, s7 (ix3 0 i q) = f ⟨896 + q.val, by omega⟩) (j : Fin 1024) :
    k0_pay13 (F := Ideal) s0 s1 s2 s3 s4 s5 s6 s7 (ix2 i j) = f j := by
  rw [eight f j (fun q => s0 (ix2 i q)) (fun q => s1 (ix2 i q)) (fun q => s2 (ix2 i q)) (fun q => s3 (ix3 0 i q)) (fun q => s4 (ix3 0 i q)) (fun q => s5 (ix3 0 i q)) (fun q => s6 (ix3 0 i q)) (fun q => s7 (ix3 0 i q)) h0 h1 h2 h3 h4 h5 h6 h7]
  pointwise [k0_pay13]

theorem pay21_apply (s0 s1 s2 s3 s4 s5 s6 : FVec Ideal S256x128 .f32) (s7 : Vec Ideal S1x256x128 .f32) (i : Fin 256) (f : Fin 1024 → EReal)
    (h0 : ∀ q : Fin 128, s0 (ix2 i q) = f ⟨0 + q.val, by omega⟩)
    (h1 : ∀ q : Fin 128, s1 (ix2 i q) = f ⟨128 + q.val, by omega⟩)
    (h2 : ∀ q : Fin 128, s2 (ix2 i q) = f ⟨256 + q.val, by omega⟩)
    (h3 : ∀ q : Fin 128, s3 (ix2 i q) = f ⟨384 + q.val, by omega⟩)
    (h4 : ∀ q : Fin 128, s4 (ix2 i q) = f ⟨512 + q.val, by omega⟩)
    (h5 : ∀ q : Fin 128, s5 (ix2 i q) = f ⟨640 + q.val, by omega⟩)
    (h6 : ∀ q : Fin 128, s6 (ix2 i q) = f ⟨768 + q.val, by omega⟩)
    (h7 : ∀ q : Fin 128, s7 (ix3 0 i q) = f ⟨896 + q.val, by omega⟩) (j : Fin 1024) :
    k0_pay21 (F := Ideal) s0 s1 s2 s3 s4 s5 s6 s7 (ix2 i j) = f j := by
  rw [eight f j (fun q => s0 (ix2 i q)) (fun q => s1 (ix2 i q)) (fun q => s2 (ix2 i q)) (fun q => s3 (ix2 i q)) (fun q => s4 (ix2 i q)) (fun q => s5 (ix2 i q)) (fun q => s6 (ix2 i q)) (fun q => s7 (ix3 0 i q)) h0 h1 h2 h3 h4 h5 h6 h7]
  pointwise [k0_pay21]

theorem pay22_apply (s0 s1 s2 s3 s4 s5 s6 s7 : Vec Ideal S1x256x128 .f32) (i : Fin 256) (f : Fin 1024 → EReal)
    (h0 : ∀ q : Fin 128, s0 (ix3 0 i q) = f ⟨0 + q.val, by omega⟩)
    (h1 : ∀ q : Fin 128, s1 (ix3 0 i q) = f ⟨128 + q.val, by omega⟩)
    (h2 : ∀ q : Fin 128, s2 (ix3 0 i q) = f ⟨256 + q.val, by omega⟩)
    (h3 : ∀ q : Fin 128, s3 (ix3 0 i q) = f ⟨384 + q.val, by omega⟩)
    (h4 : ∀ q : Fin 128, s4 (ix3 0 i q) = f ⟨512 + q.val, by omega⟩)
    (h5 : ∀ q : Fin 128, s5 (ix3 0 i q) = f ⟨640 + q.val, by omega⟩)
    (h6 : ∀ q : Fin 128, s6 (ix3 0 i q) = f ⟨768 + q.val, by omega⟩)
    (h7 : ∀ q : Fin 128, s7 (ix3 0 i q) = f ⟨896 + q.val, by omega⟩) (j : Fin 1024) :
    k0_pay22 (F := Ideal) s0 s1 s2 s3 s4 s5 s6 s7 (ix2 i j) = f j := by
  rw [eight f j (fun q => s0 (ix3 0 i q)) (fun q => s1 (ix3 0 i q)) (fun q => s2 (ix3 0 i q)) (fun q => s3 (ix3 0 i q)) (fun q => s4 (ix3 0 i q)) (fun q => s5 (ix3 0 i q)) (fun q => s6 (ix3 0 i q)) (fun q => s7 (ix3 0 i q)) h0 h1 h2 h3 h4 h5 h6 h7]
  pointwise [k0_pay22]

theorem pay26_apply (ah an gh : FVec Ideal S256x1024 .f32) (s0 s1 s2 : FVec Ideal S256x128 .f32) (s3 s4 s5 s6 s7 : Vec Ideal S1x256x128 .f32) (i : Fin 256) (f : Fin 1024 → EReal)
    (h0 : ∀ q : Fin 128, s0 (ix2 i q) = f ⟨0 + q.val, by omega⟩)
    (h1 : ∀ q : Fin 128, s1 (ix2 i q) = f ⟨128 + q.val, by omega⟩)
    (h2 : ∀ q : Fin 128, s2 (ix2 i q) = f ⟨256 + q.val, by omega⟩)
    (h3 : ∀ q : Fin 128, s3 (ix3 0 i q) = f ⟨384 + q.val, by omega⟩)
    (h4 : ∀ q : Fin 128, s4 (ix3 0 i q) = f ⟨512 + q.val, by omega⟩)
    (h5 : ∀ q : Fin 128, s5 (ix3 0 i q) = f ⟨640 + q.val, by omega⟩)
    (h6 : ∀ q : Fin 128, s6 (ix3 0 i q) = f ⟨768 + q.val, by omega⟩)
    (h7 : ∀ q : Fin 128, s7 (ix3 0 i q) = f ⟨896 + q.val, by omega⟩) (j : Fin 1024) :
    k0_pay26 (F := Ideal) ah an gh s0 s1 s2 s3 s4 s5 s6 s7 (ix2 i j)
      = gated (fun k => gh (ix2 i k)) f (fun k => ah (ix2 i k)) (fun k => an (ix2 i k)) j := by
  unfold gated
  rw [eight f j (fun q => s0 (ix2 i q)) (fun q => s1 (ix2 i q)) (fun q => s2 (ix2 i q)) (fun q => s3 (ix3 0 i q)) (fun q => s4 (ix3 0 i q)) (fun q => s5 (ix3 0 i q)) (fun q => s6 (ix3 0 i q)) (fun q => s7 (ix3 0 i q)) h0 h1 h2 h3 h4 h5 h6 h7]
  pointwise [k0_pay26]

theorem pay27_apply (ah an gh gn : FVec Ideal S256x1024 .f32) (gt : Vec Ideal S1x1x1024 .f32) (wo : Vec Ideal S1024x1024 .bf16)
    (i : Fin 256) (l : Fin 1024) :
    k0_pay27 (F := Ideal) ah an gh gn gt wo (ix2 i l)
      = (1 + gt (ix3 0 0 l)) * times (gated (fun k => gh (ix2 i k)) (fun k => gn (ix2 i k)) (fun k => ah (ix2 i k)) (fun k => an (ix2 i k)))
          (fun k l => wo (ix2 k l)) l := by
  unfold times gated
  pointwise [k0_pay27]

theorem pay30_apply (y : FVec Ideal S256x1024 .f32) (x : Vec Ideal S256x1024 .f32) (g b : Vec Ideal S1x1024 .f32) (i : Fin 256) (l : Fin 1024) :
    k0_pay30 (F := Ideal) y x g b (ix2 i l)
      = scaled (fun k => Ideal.ofBits .f32 0x3F9837F0#32 * x (ix2 i k) + y (ix2 i k)) (fun k => g (ix2 0 k)) (fun k => b (ix2 0 k)) l := by
  unfold scaled mean
  pointwise [k0_pay30]

theorem pay31_apply (s : FVec Ideal S256x1024 .bf16) (gt : Vec Ideal S1x1x1024 .f32) (wo : Vec Ideal S1024x1024 .bf16)
    (x : Vec Ideal S256x1024 .f32) (i : Fin 256) (l : Fin 1024) :
    k0_pay31 (F := Ideal) s (k0_pay28 gt) (k0_pay29 (F := Ideal)) wo x (ix2 i l)
      = resid (fun k => x (ix2 i k)) (fun k => gt (ix3 0 0 k)) (times (fun k => s (ix2 i k)) (fun k l => wo (ix2 k l))) l := by
  unfold resid times
  pointwise [k0_pay31, k0_pay28, k0_pay29]

theorem pay32_apply (s : FVec Ideal S256x1024 .bf16) (u v : FVec Ideal S1x1024 .f32) (wo : Vec Ideal S1024x1024 .bf16)
    (x : Vec Ideal S256x1024 .f32) (i : Fin 256) :
    k0_pay32 (F := Ideal) s u v wo x (ix1 i) = ∑ k : Fin 1024, k0_pay31 (F := Ideal) s u v wo x (ix2 i k) := by
  pointwise [k0_pay32]

theorem pay33_apply (z : FVec Ideal S256x1024 .f32) (s : FVec Ideal S256 .f32) (g b : Vec Ideal S1x1024 .f32) (i : Fin 256) (l : Fin 1024)
    (hs : s (ix1 i) = ∑ k : Fin 1024, z (ix2 i k)) :
    k0_pay33 (F := Ideal) z s g b (ix2 i l)
      = scaled (fun k => z (ix2 i k)) (fun k => g (ix2 0 k)) (fun k => b (ix2 0 k)) l := by
  unfold scaled mean
  rw [← hs]
  pointwise [k0_pay33]

theorem pay36_apply (v : FVec Ideal S256x1024 .f32) (sc sh : Vec Ideal S1x1x1024 .f32) (i : Fin 256) (l : Fin 1024) :
    k0_pay36 (F := Ideal) (k0_pay34 v) (k0_pay35 sc) sh (ix2 i l)
      = normed (fun k => v (ix2 i k)) (fun k => sh (ix3 0 0 k)) (fun k => sc (ix3 0 0 k)) l := by
  unfold normed mean
  pointwise [k0_pay36, k0_pay34, k0_pay35]

theorem pay37_apply (v : FVec Ideal S256x1024 .f32) (sc sh : Vec Ideal S1x1x1024 .f32) (i : Fin 256) (l : Fin 1024) :
    k0_pay37 (F := Ideal) v sc sh (ix2 i l)
      = normed (fun k => v (ix2 i k)) (fun k => sh (ix3 0 0 k)) (fun k => sc (ix3 0 0 k)) l := by
  unfold normed mean
  pointwise [k0_pay37]

theorem pay45_apply (v : FVec Ideal S256x1024 .f32) (i : Fin 256) (q : Fin 128) :
    k0_pay45 (F := Ideal) v (ix2 i q) = v (ix2 i ⟨0 + q.val, by omega⟩) := by
  pointwise [k0_pay45]

theorem pay53_apply (v : FVec Ideal S256x1024 .f32) (i : Fin 256) (q : Fin 128) :
    k0_pay53 (F := Ideal) v (ix2 i q) = v (ix2 i ⟨0 + q.val, by omega⟩) := by
  pointwise [k0_pay53]

theorem pay46_apply (v : FVec Ideal S256x1024 .f32) (i : Fin 256) (q : Fin 128) :
    k0_pay46 (F := Ideal) v (ix2 i q) = v (ix2 i ⟨128 + q.val, by omega⟩) := by
  pointwise [k0_pay46]

theorem pay54_apply (v : FVec Ideal S256x1024 .f32) (i : Fin 256) (q : Fin 128) :
    k0_pay54 (F := Ideal) v (ix2 i q) = v (ix2 i ⟨128 + q.val, by omega⟩) := by
  pointwise [k0_pay54]

theorem pay47_apply (v : FVec Ideal S256x1024 .f32) (i : Fin 256) (q : Fin 128) :
    k0_pay47 (F := Ideal) v (ix2 i q) = v (ix2 i ⟨256 + q.val, by omega⟩) := by
  pointwise [k0_pay47]

theorem pay55_apply (v : FVec Ideal S256x1024 .f32) (i : Fin 256) (q : Fin 128) :
    k0_pay55 (F := Ideal) v (ix2 i q) = v (ix2 i ⟨256 + q.val, by omega⟩) := by
  pointwise [k0_pay55]

theorem pay48_apply (v : FVec Ideal S256x1024 .f32) (i : Fin 256) (q : Fin 128) :
    k0_pay48 (F := Ideal) v (ix2 i q) = v (ix2 i ⟨384 + q.val, by omega⟩) := by
  pointwise [k0_pay48]

theorem pay1_apply (v : FVec Ideal S256x1024 .f32) (i : Fin 256) (q : Fin 128) :
    k0_pay1 (F := Ideal) v (ix2 i q) = v (ix2 i ⟨384 + q.val, by omega⟩) := by
  pointwise [k0_pay1]

theorem pay49_apply (v : FVec Ideal S256x1024 .f32) (i : Fin 256) (q : Fin 128) :
    k0_pay49 (F := Ideal) v (ix2 i q) = v (ix2 i ⟨512 + q.val, by omega⟩) := by
  pointwise [k0_pay49]

theorem pay2_apply (v : FVec Ideal S256x1024 .f32) (i : Fin 256) (q : Fin 128) :
    k0_pay2 (F := Ideal) v (ix2 i q) = v (ix2 i ⟨512 + q.val, by omega⟩) := by
  pointwise [k0_pay2]

theorem pay50_apply (v : FVec Ideal S256x1024 .f32) (i : Fin 256) (q : Fin 128) :
    k0_pay50 (F := Ideal) v (ix2 i q) = v (ix2 i ⟨640 + q.val, by omega⟩) := by
  pointwise [k0_pay50]

theorem pay3_apply (v : FVec Ideal S256x1024 .f32) (i : Fin 256) (q : Fin 128) :
    k0_pay3 (F := Ideal) v (ix2 i q) = v (ix2 i ⟨640 + q.val, by omega⟩) := by
  pointwise [k0_pay3]

theorem pay51_apply (v : FVec Ideal S256x1024 .f32) (i : Fin 256) (q : Fin 128) :
    k0_pay51 (F := Ideal) v (ix2 i q) = v (ix2 i ⟨768 + q.val, by omega⟩) := by
  pointwise [k0_pay51]

theorem pay4_apply (v : FVec Ideal S256x1024 .f32) (i : Fin 256) (q : Fin 128) :
    k0_pay4 (F := Ideal) v (ix2 i q) = v (ix2 i ⟨768 + q.val, by omega⟩) := by
  pointwise [k0_pay4]

theorem pay52_apply (v : FVec Ideal S256x1024 .f32) (i : Fin 256) (q : Fin 128) :
    k0_pay52 (F := Ideal) v (ix2 i q) = v (ix2 i ⟨896 + q.val, by omega⟩) := by
  pointwise [k0_pay52]

theorem pay5_apply (v : FVec Ideal S256x1024 .f32) (i : Fin 256) (q : Fin 128) :
    k0_pay5 (F := Ideal) v (ix2 i q) = v (ix2 i ⟨896 + q.val, by omega⟩) := by
  pointwise [k0_pay5]

end Cert.Merge

end
-- ==== Proof.Merge.Blocks.lean ====
/-
  The merge's grid point in plain terms: from its blocks, the next rows and the rows the experts read, and what its two
  outputs hold of them entry by entry.
-/
module

public import proofs.«01_k».proof.Proof.Merge.Payload
public import proofs.«01_k».proof.Proof.Merge.Body
public import Idealize.ShloMosaic.Lib.Pipeline.Value

@[expose] public section

set_option maxRecDepth 16384

noncomputable section

namespace Cert.Merge

open Idealize.ShloMosaic Idealize.ShloMosaic.TcCoe Idealize.SL.Sem Cert.Kernel3Ideal Cert.Kernel3Ideal.Gen Cert.Kernel3Ideal.Merge
  Cert.Inproj

theorem hz : (![0, 0] : Fin 2 → Nat) = fun _ => 0 := funext fun a => by fin_cases a <;> rfl

/-! ## The loads -/

theorem ld_rows {e : EltTy} (x : Vec Ideal S512x1024 e) (o : ℕ) (inb : ∀ a, (![o, 0] : Fin 2 → ℕ) a + S256x1024.size a ≤ S512x1024.size a)
    (i : Fin 256) (k : Fin 1024) (h : o + i.val < 512) :
    View.ld (Val := Elt Ideal) (e' := e) x (Rect.unit (s := S512x1024) ![o, 0] S256x1024.size inb) (ix2 i k) = x (ix2 ⟨o + i.val, h⟩ k) := by
  refine congrArg x (funext fun a => Fin.ext ?_)
  match a with
  | ⟨0, _⟩ => show o + 1 * i.val = o + i.val; omega
  | ⟨1, _⟩ => show 0 + 1 * k.val = k.val; omega

theorem ld_mod (x : Vec Ideal S1x6x1024 .f32) (n : ℕ) (inb : ∀ a, (![0, n, 0] : Fin 3 → ℕ) a + S1x1x1024.size a ≤ S1x6x1024.size a)
    (k : Fin 1024) (h : n < 6) :
    View.ld (Val := Elt Ideal) (e' := .f32) x (Rect.unit (s := S1x6x1024) ![0, n, 0] S1x1x1024.size inb) (ix3 0 0 k) = x (ix3 0 ⟨n, h⟩ k) := by
  refine congrArg x (funext fun a => Fin.ext ?_)
  match a with
  | ⟨0, _⟩ => show 0 + 1 * 0 = 0; omega
  | ⟨1, _⟩ => show n + 1 * 0 = n; omega
  | ⟨2, _⟩ => show 0 + 1 * k.val = k.val; omega

/-- A row of a gate, its eight slabs side by side. -/
def gateAt (x : Vec Ideal S8x512x128 .f32) (r : Fin 512) (k : Fin 1024) : EReal := x (ix3 ⟨k.val / 128, by omega⟩ r ⟨k.val % 128, by omega⟩)

theorem ld_slab (x : Vec Ideal S8x512x128 .f32) (n o : ℕ) (inb : ∀ a, (![n, o, 0] : Fin 3 → ℕ) a + S1x256x128.size a ≤ S8x512x128.size a)
    (i : Fin 256) (q : Fin 128) (hn : n < 8) (h : o + i.val < 512) :
    View.ld (Val := Elt Ideal) (e' := .f32) x (Rect.unit (s := S8x512x128) ![n, o, 0] S1x256x128.size inb) (ix3 0 i q)
      = gateAt x ⟨o + i.val, h⟩ ⟨128 * n + q.val, by omega⟩ := by
  refine congrArg x (funext fun a => Fin.ext ?_)
  match a with
  | ⟨0, _⟩ => show n + 1 * 0 = (128 * n + q.val) / 128; omega
  | ⟨1, _⟩ => show o + 1 * i.val = o + i.val; omega
  | ⟨2, _⟩ => show 0 + 1 * q.val = (128 * n + q.val) % 128; omega

theorem ld_square (w : Vec Ideal S1024x1024 .bf16) : View.ld (Val := Elt Ideal) (e' := .bf16) w square = w :=
  View.ld_unit_zero (S := S1024x1024) hz _ w

theorem ld_line (g : Vec Ideal S1x1024 .f32) : View.ld (Val := Elt Ideal) (e' := .f32) g line = g :=
  View.ld_unit_zero (S := S1x1024) hz _ g

/-! ## The next rows -/

section
variable (x0 x1 : Vec Ideal S512x1024 .bf16) (x2 x3 : Vec Ideal S8x512x128 .f32) (x4 : Vec Ideal S512x1024 .f32)
  (x5 : Vec Ideal S1x6x1024 .f32) (x6 x7 x8 : Vec Ideal S1024x1024 .bf16) (x9 x10 : Vec Ideal S1x1024 .f32)

/-- A row's gated sum. -/
def sumAt (r : Fin 512) : Fin 1024 → EReal :=
  gated (gateAt x2 r) (gateAt x3 r) (times (fun k => x0 (ix2 r k)) (fun k l => x6 (ix2 k l))) (times (fun k => x1 (ix2 r k)) (fun k l => x7 (ix2 k l)))

/-- A next row of the blocks. -/
def rowAt (r : Fin 512) : Fin 1024 → EReal :=
  scaled (resid (fun k => x4 (ix2 r k)) (fun k => x5 (ix3 0 2 k)) (times (sumAt x0 x1 x2 x3 x6 x7 r) (fun k l => x8 (ix2 k l))))
    (fun k => x9 (ix2 0 k)) (fun k => x10 (ix2 0 k))

theorem gateA2 (i : Fin 256) (j : Fin 1024) : k0_pay13 (F := Ideal) (k0_pay10 (View.ld x2 slabA0)) (k0_pay11 (View.ld x2 slabA1)) (k0_pay12 (View.ld x2 slabA2)) (View.ld x2 slabA3) (View.ld x2 slabA4) (View.ld x2 slabA5) (View.ld x2 slabA6) (View.ld x2 slabA7) (ix2 i j)
    = gateAt x2 ⟨0 + i.val, by omega⟩ j :=
  pay13_apply _ _ _ _ _ _ _ _ i (gateAt x2 ⟨0 + i.val, by omega⟩) (fun q => (pay10_apply _ i q).trans (ld_slab x2 0 0 _ i q (by omega) (by omega)))
      (fun q => (pay11_apply _ i q).trans (ld_slab x2 1 0 _ i q (by omega) (by omega)))
      (fun q => (pay12_apply _ i q).trans (ld_slab x2 2 0 _ i q (by omega) (by omega)))
      (fun q => ld_slab x2 3 0 _ i q (by omega) (by omega))
      (fun q => ld_slab x2 4 0 _ i q (by omega) (by omega))
      (fun q => ld_slab x2 5 0 _ i q (by omega) (by omega))
      (fun q => ld_slab x2 6 0 _ i q (by omega) (by omega))
      (fun q => ld_slab x2 7 0 _ i q (by omega) (by omega)) j

theorem gateA3 (i : Fin 256) (j : Fin 1024) : k0_pay22 (F := Ideal) (View.ld x3 slabA0) (View.ld x3 slabA1) (View.ld x3 slabA2) (View.ld x3 slabA3) (View.ld x3 slabA4) (View.ld x3 slabA5) (View.ld x3 slabA6) (View.ld x3 slabA7) (ix2 i j)
    = gateAt x3 ⟨0 + i.val, by omega⟩ j :=
  pay22_apply _ _ _ _ _ _ _ _ i (gateAt x3 ⟨0 + i.val, by omega⟩) (fun q => ld_slab x3 0 0 _ i q (by omega) (by omega))
      (fun q => ld_slab x3 1 0 _ i q (by omega) (by omega))
      (fun q => ld_slab x3 2 0 _ i q (by omega) (by omega))
      (fun q => ld_slab x3 3 0 _ i q (by omega) (by omega))
      (fun q => ld_slab x3 4 0 _ i q (by omega) (by omega))
      (fun q => ld_slab x3 5 0 _ i q (by omega) (by omega))
      (fun q => ld_slab x3 6 0 _ i q (by omega) (by omega))
      (fun q => ld_slab x3 7 0 _ i q (by omega) (by omega)) j

theorem gateB2 (i : Fin 256) (j : Fin 1024) : k0_pay21 (F := Ideal) (k0_pay14 (View.ld x2 slabB0)) (k0_pay15 (View.ld x2 slabB1)) (k0_pay16 (View.ld x2 slabB2)) (k0_pay17 (View.ld x2 slabB3)) (k0_pay18 (View.ld x2 slabB4)) (k0_pay19 (View.ld x2 slabB5)) (k0_pay20 (View.ld x2 slabB6)) (View.ld x2 slabB7) (ix2 i j)
    = gateAt x2 ⟨256 + i.val, by omega⟩ j :=
  pay21_apply _ _ _ _ _ _ _ _ i (gateAt x2 ⟨256 + i.val, by omega⟩) (fun q => (pay14_apply _ i q).trans (ld_slab x2 0 256 _ i q (by omega) (by omega)))
      (fun q => (pay15_apply _ i q).trans (ld_slab x2 1 256 _ i q (by omega) (by omega)))
      (fun q => (pay16_apply _ i q).trans (ld_slab x2 2 256 _ i q (by omega) (by omega)))
      (fun q => (pay17_apply _ i q).trans (ld_slab x2 3 256 _ i q (by omega) (by omega)))
      (fun q => (pay18_apply _ i q).trans (ld_slab x2 4 256 _ i q (by omega) (by omega)))
      (fun q => (pay19_apply _ i q).trans (ld_slab x2 5 256 _ i q (by omega) (by omega)))
      (fun q => (pay20_apply _ i q).trans (ld_slab x2 6 256 _ i q (by omega) (by omega)))
      (fun q => ld_slab x2 7 256 _ i q (by omega) (by omega)) j

theorem nextA_apply (i : Fin 256) (l : Fin 1024) :
    nextA (F := Ideal) x0 x1 x2 x3 x4 x5 x6 x7 x8 x9 x10 (ix2 i l) = rowAt x0 x1 x2 x3 x4 x5 x6 x7 x8 x9 x10 ⟨0 + i.val, by omega⟩ l := by
  unfold nextA
  rw [ld_line x9, ld_line x10, pay30_apply]
  have e0 : ∀ k, View.ld (Val := Elt Ideal) (e' := .bf16) x0 rowsA (ix2 i k) = x0 (ix2 ⟨0 + i.val, by omega⟩ k) := fun k => ld_rows x0 0 _ i k (by omega)
  have e1 : ∀ k, View.ld (Val := Elt Ideal) (e' := .bf16) x1 rowsA (ix2 i k) = x1 (ix2 ⟨0 + i.val, by omega⟩ k) := fun k => ld_rows x1 0 _ i k (by omega)
  have e4 : ∀ k, View.ld (Val := Elt Ideal) (e' := .f32) x4 rowsA (ix2 i k) = x4 (ix2 ⟨0 + i.val, by omega⟩ k) := fun k => ld_rows x4 0 _ i k (by omega)
  have e5 : ∀ k, View.ld (Val := Elt Ideal) (e' := .f32) x5 gateRow (ix3 0 0 k) = x5 (ix3 0 2 k) := fun k => ld_mod x5 2 _ k (by omega)
  simp only [pay27_apply, pay6_apply, pay8_apply, gateA2, gateA3, ld_square, e0, e1, e4, e5]
  rfl

theorem sumB_apply (i : Fin 256) (j : Fin 1024) :
    sumB (F := Ideal) x0 x1 x2 x3 x6 x7 (ix2 i j) = sumAt x0 x1 x2 x3 x6 x7 ⟨256 + i.val, by omega⟩ j := by
  unfold sumB
  have e0 : ∀ k, View.ld (Val := Elt Ideal) (e' := .bf16) x0 rowsB (ix2 i k) = x0 (ix2 ⟨256 + i.val, by omega⟩ k) := fun k => ld_rows x0 256 _ i k (by omega)
  have e1 : ∀ k, View.ld (Val := Elt Ideal) (e' := .bf16) x1 rowsB (ix2 i k) = x1 (ix2 ⟨256 + i.val, by omega⟩ k) := fun k => ld_rows x1 256 _ i k (by omega)
  refine (pay26_apply _ _ _ _ _ _ _ _ _ _ _ i (gateAt x3 ⟨256 + i.val, by omega⟩) (fun q => (pay23_apply _ i q).trans (ld_slab x3 0 256 _ i q (by omega) (by omega)))
      (fun q => (pay24_apply _ i q).trans (ld_slab x3 1 256 _ i q (by omega) (by omega)))
      (fun q => (pay25_apply _ i q).trans (ld_slab x3 2 256 _ i q (by omega) (by omega)))
      (fun q => ld_slab x3 3 256 _ i q (by omega) (by omega))
      (fun q => ld_slab x3 4 256 _ i q (by omega) (by omega))
      (fun q => ld_slab x3 5 256 _ i q (by omega) (by omega))
      (fun q => ld_slab x3 6 256 _ i q (by omega) (by omega))
      (fun q => ld_slab x3 7 256 _ i q (by omega) (by omega)) j).trans ?_
  simp only [pay7_apply, pay9_apply, gateB2, ld_square, e0, e1]
  rfl

theorem nextB_apply (i : Fin 256) (l : Fin 1024) :
    nextB (F := Ideal) x0 x1 x2 x3 x4 x5 x6 x7 x8 x9 x10 (ix2 i l) = rowAt x0 x1 x2 x3 x4 x5 x6 x7 x8 x9 x10 ⟨256 + i.val, by omega⟩ l := by
  unfold nextB
  rw [ld_line x9, ld_line x10, pay33_apply _ _ _ _ _ _ (pay32_apply _ _ _ _ _ _)]
  have e4 : ∀ k, View.ld (Val := Elt Ideal) (e' := .f32) x4 rowsB (ix2 i k) = x4 (ix2 ⟨256 + i.val, by omega⟩ k) := fun k => ld_rows x4 256 _ i k (by omega)
  have e5 : ∀ k, View.ld (Val := Elt Ideal) (e' := .f32) x5 gateRow (ix3 0 0 k) = x5 (ix3 0 2 k) := fun k => ld_mod x5 2 _ k (by omega)
  simp only [pay31_apply, sumB_apply, ld_square, e4, e5]
  rfl

end

/-! ## The rows the experts read -/

theorem hidA_apply (v : FVec Ideal S256x1024 .f32) (x5 : Vec Ideal S1x6x1024 .f32) (i : Fin 256) (l : Fin 1024) :
    hidA (F := Ideal) v x5 (ix2 i l) = normed (fun k => v (ix2 i k)) (fun k => x5 (ix3 0 3 k)) (fun k => x5 (ix3 0 4 k)) l := by
  unfold hidA
  rw [pay36_apply]
  have e3 : ∀ k, View.ld (Val := Elt Ideal) (e' := .f32) x5 shiftRow (ix3 0 0 k) = x5 (ix3 0 3 k) := fun k => ld_mod x5 3 _ k (by omega)
  have e4 : ∀ k, View.ld (Val := Elt Ideal) (e' := .f32) x5 scaleRow (ix3 0 0 k) = x5 (ix3 0 4 k) := fun k => ld_mod x5 4 _ k (by omega)
  simp only [e3, e4]

theorem hidB_apply (v : FVec Ideal S256x1024 .f32) (x5 : Vec Ideal S1x6x1024 .f32) (i : Fin 256) (l : Fin 1024) :
    hidB (F := Ideal) v x5 (ix2 i l) = normed (fun k => v (ix2 i k)) (fun k => x5 (ix3 0 3 k)) (fun k => x5 (ix3 0 4 k)) l := by
  unfold hidB
  rw [pay37_apply]
  have e3 : ∀ k, View.ld (Val := Elt Ideal) (e' := .f32) x5 shiftRow (ix3 0 0 k) = x5 (ix3 0 3 k) := fun k => ld_mod x5 3 _ k (by omega)
  have e4 : ∀ k, View.ld (Val := Elt Ideal) (e' := .f32) x5 scaleRow (ix3 0 0 k) = x5 (ix3 0 4 k) := fun k => ld_mod x5 4 _ k (by omega)
  simp only [e3, e4]

/-! ## The outputs -/

section
variable (a b : FVec Ideal S256x1024 .f32) (f : Fin 512 → Fin 1024 → EReal)
  (ha : ∀ (i : Fin 256) (l : Fin 1024), a (ix2 i l) = f ⟨0 + i.val, by omega⟩ l)
  (hb : ∀ (i : Fin 256) (l : Fin 1024), b (ix2 i l) = f ⟨256 + i.val, by omega⟩ l)

theorem half_piece (o : ℕ) (ho : o ≤ 256) (inb : ∀ a, (![o, 0] : Fin 2 → ℕ) a + S256x1024.size a ≤ S512x1024.size a)
    (P : Vec Ideal S256x1024 .f32) (hP : ∀ (i : Fin 256) (l : Fin 1024), P (ix2 i l) = f ⟨o + i.val, by omega⟩ l) (x : S256x1024.Idx) :
    P x = (fun y : S512x1024.Idx => f ⟨(y 0).val, (y 0).isLt⟩ ⟨(y 1).val, (y 1).isLt⟩)
      ((Rect.unit (s := S512x1024) ![o, 0] S256x1024.size inb).emb x) := by
  obtain ⟨i, l, rfl⟩ : ∃ (i : Fin 256) (l : Fin 1024), x = ix2 i l := ⟨x 0, x 1, eq_ix2 x⟩
  refine (hP i l).trans (congrArg₂ f (Fin.ext ?_) (Fin.ext ?_))
  · show o + i.val = o + 1 * i.val; omega
  · show l.val = 0 + 1 * l.val; omega

include ha hb in
theorem outNext_apply (r : Fin 512) (l : Fin 1024) : outNext (F := Ideal) a b (ix2 r l) = f r l := by
  have hL : ∀ p ∈ ([⟨rowsB, b⟩, ⟨rowsA, a⟩] : List (View.Piece (Elt Ideal) S512x1024 .f32)), ∀ x : p.1.shape.Idx,
      p.2 x = (fun y : S512x1024.Idx => f ⟨(y 0).val, (y 0).isLt⟩ ⟨(y 1).val, (y 1).isLt⟩) (p.1.emb x) := by
    simp only [List.forall_mem_cons]
    exact ⟨half_piece f 256 (by omega) _ b hb, half_piece f 0 (by omega) _ a ha, fun _ h => absurd h List.not_mem_nil⟩
  have hv := View.canon_apply_of_pieces (Val := Elt Ideal) (e := .f32) (fun y : S512x1024.Idx => f ⟨(y 0).val, (y 0).isLt⟩ ⟨(y 1).val, (y 1).isLt⟩) _ hL (ix2 r l) (outNext_cover (F := Ideal) b a (ix2 r l))
  exact hv

theorem strip_piece (o : ℕ) (h) (base c : ℕ) (ho : o = 8 * base + c) (hbase : base ≤ 256) (hc : c < 8) (P : Vec Ideal S256x128 .f32)
    (hP : ∀ (i : Fin 256) (q : Fin 128), P (ix2 i q) = f ⟨base + i.val, by omega⟩ ⟨128 * c + q.val, by omega⟩) (x : S256x128.Idx) :
    P x = (fun y : S4096x128.Idx => f ⟨(y 0).val / 8, by have : (y 0).val < 4096 := (y 0).isLt; omega⟩
        ⟨(y 0).val % 8 * 128 + (y 1).val, by have : (y 1).val < 128 := (y 1).isLt; omega⟩) ((strip o h).emb x) := by
  obtain ⟨i, q, rfl⟩ : ∃ (i : Fin 256) (q : Fin 128), x = ix2 i q := ⟨x 0, x 1, eq_ix2 x⟩
  refine (hP i q).trans (congrArg₂ f (Fin.ext ?_) (Fin.ext ?_))
  · show base + i.val = (o + 8 * i.val) / 8; omega
  · show 128 * c + q.val = (o + 8 * i.val) % 8 * 128 + (0 + 1 * q.val); omega

include ha hb in
theorem outTiles_apply (r : Fin 4096) (q : Fin 128) :
    outTiles (F := Ideal) a b (ix2 r q) = f ⟨r.val / 8, by omega⟩ ⟨r.val % 8 * 128 + q.val, by omega⟩ := by
  unfold outTiles
  refine (View.canon_apply_of_pieces (fun y : S4096x128.Idx => f ⟨(y 0).val / 8, by have : (y 0).val < 4096 := (y 0).isLt; omega⟩
        ⟨(y 0).val % 8 * 128 + (y 1).val, by have : (y 1).val < 128 := (y 1).isLt; omega⟩) _ ?_ (ix2 r q)
    (tiles_cover a b (ix2 r q))).trans rfl
  unfold tiles
  simp only [List.forall_mem_cons]
  exact ⟨strip_piece f 2055 _ 256 7 (by omega) (by omega) (by omega) _ (fun i q => (pay5_apply b i q).trans (hb i _)),
    strip_piece f 2054 _ 256 6 (by omega) (by omega) (by omega) _ (fun i q => (pay4_apply b i q).trans (hb i _)),
    strip_piece f 2053 _ 256 5 (by omega) (by omega) (by omega) _ (fun i q => (pay3_apply b i q).trans (hb i _)),
    strip_piece f 2052 _ 256 4 (by omega) (by omega) (by omega) _ (fun i q => (pay2_apply b i q).trans (hb i _)),
    strip_piece f 2051 _ 256 3 (by omega) (by omega) (by omega) _ (fun i q => (pay1_apply b i q).trans (hb i _)),
    strip_piece f 2050 _ 256 2 (by omega) (by omega) (by omega) _ (fun i q => (pay55_apply b i q).trans (hb i _)),
    strip_piece f 2049 _ 256 1 (by omega) (by omega) (by omega) _ (fun i q => (pay54_apply b i q).trans (hb i _)),
    strip_piece f 2048 _ 256 0 (by omega) (by omega) (by omega) _ (fun i q => (pay53_apply b i q).trans (hb i _)),
    strip_piece f 7 _ 0 7 (by omega) (by omega) (by omega) _ (fun i q => (pay52_apply a i q).trans (ha i _)),
    strip_piece f 6 _ 0 6 (by omega) (by omega) (by omega) _ (fun i q => (pay51_apply a i q).trans (ha i _)),
    strip_piece f 5 _ 0 5 (by omega) (by omega) (by omega) _ (fun i q => (pay50_apply a i q).trans (ha i _)),
    strip_piece f 4 _ 0 4 (by omega) (by omega) (by omega) _ (fun i q => (pay49_apply a i q).trans (ha i _)),
    strip_piece f 3 _ 0 3 (by omega) (by omega) (by omega) _ (fun i q => (pay48_apply a i q).trans (ha i _)),
    strip_piece f 2 _ 0 2 (by omega) (by omega) (by omega) _ (fun i q => (pay47_apply a i q).trans (ha i _)),
    strip_piece f 1 _ 0 1 (by omega) (by omega) (by omega) _ (fun i q => (pay46_apply a i q).trans (ha i _)),
    strip_piece f 0 _ 0 0 (by omega) (by omega) (by omega) _ (fun i q => (pay45_apply a i q).trans (ha i _)),
    fun _ h => absurd h List.not_mem_nil⟩

end

end Cert.Merge

end
-- ==== Proof.Merge.Host.lean ====
/-
  The arrays the merge's host code prepares, at an entry.
-/
module

public import proofs.«01_k».proof.Proof.Merge.Row
public import proofs.«01_k».proof.Proof.Gen.Kernel3Ideal.Frame

@[expose] public section

set_option maxRecDepth 16384

noncomputable section

namespace Cert.Merge

open Idealize.ShloMosaic Idealize.ShloMosaic.TcCoe Idealize.SL.Sem Cert.Kernel3Ideal Cert.Kernel3Ideal.Gen

/-- The rows one after another. -/
def rowsX (X : FVec Ideal S4x8192x1024 .f32) : FVec Ideal S32768x1024 .f32 := shapeCast _ X shapeCasts_S4x8192x1024_S32768x1024

/-- A branch in the short format. -/
def shortO (O : FVec Ideal S32768x1024 .f32) : FVec Ideal S32768x1024 .bf16 := truncf .bf16 O bitsLt_bf16_f32

/-- A weight in the short format. -/
def shortW (W : FVec Ideal S1x1024x1024 .f32) : FVec Ideal S1024x1024 .bf16 :=
  truncf .bf16 (shapeCast _ W shapeCasts_S1x1024x1024_S1024x1024) bitsLt_bf16_f32

/-- A scale or a shift as a row. -/
def rowG (G : FVec Ideal S1x1024 .f32) : FVec Ideal S1x1024 .f32 :=
  broadcastInDim S1x1024 ![1] bcast_S1024_S1x1024_1 (shapeCast S1024 G shapeCasts_S1x1024_S1024)

theorem rowsX_apply (X : FVec Ideal S4x8192x1024 .f32) (n : Fin 32768) (k : Fin 1024) :
    rowsX X (ix2 n k) = X (ix3 ⟨n.val / 8192, by omega⟩ ⟨n.val % 8192, by omega⟩ k) := by
  pointwise [rowsX]

theorem shortO_apply (O : FVec Ideal S32768x1024 .f32) (n : Fin 32768) (k : Fin 1024) : shortO O (ix2 n k) = O (ix2 n k) := by
  pointwise [shortO]

theorem shortW_apply (W : FVec Ideal S1x1024x1024 .f32) (k q : Fin 1024) : shortW W (ix2 k q) = W (ix3 0 k q) := by
  pointwise [shortW]

theorem rowG_apply (G : FVec Ideal S1x1024 .f32) (q : Fin 1024) : rowG G (ix2 0 q) = G (ix2 0 q) := by
  pointwise [rowG]

variable (m : (ℓ : Loc nD τ sig) → Buf (Elt Ideal) ℓ) (c : Dev nD)

theorem V_x : (V m c main_v0 : FVec Ideal S32768x1024 .f32) = rowsX (m ((c : Thread nD τ).loc main_arg3)) := by
  unfold V
  after_results_simp <;> (try dsimp only [Matrix.cons_val]) <;> (try after_results_simp) <;> rfl

theorem V_oh : (V m c main_v23 : FVec Ideal S32768x1024 .bf16) = shortO (m ((c : Thread nD τ).loc main_arg0)) := by
  unfold V
  after_results_simp <;> (try dsimp only [Matrix.cons_val]) <;> (try after_results_simp) <;> rfl

theorem V_on : (V m c main_v24 : FVec Ideal S32768x1024 .bf16) = shortO (m ((c : Thread nD τ).loc main_arg1)) := by
  unfold V
  after_results_simp <;> (try dsimp only [Matrix.cons_val]) <;> (try after_results_simp) <;> rfl

theorem V_wh : (V m c main_v26 : FVec Ideal S1024x1024 .bf16) = shortW (m ((c : Thread nD τ).loc main_arg5)) := by
  unfold V
  after_results_simp <;> (try dsimp only [Matrix.cons_val]) <;> (try after_results_simp) <;> rfl

theorem V_wn : (V m c main_v28 : FVec Ideal S1024x1024 .bf16) = shortW (m ((c : Thread nD τ).loc main_arg6)) := by
  unfold V
  after_results_simp <;> (try dsimp only [Matrix.cons_val]) <;> (try after_results_simp) <;> rfl

theorem V_wo : (V m c main_v30 : FVec Ideal S1024x1024 .bf16) = shortW (m ((c : Thread nD τ).loc main_arg7)) := by
  unfold V
  after_results_simp <;> (try dsimp only [Matrix.cons_val]) <;> (try after_results_simp) <;> rfl

theorem V_g : (V m c main_v32 : FVec Ideal S1x1024 .f32) = rowG (m ((c : Thread nD τ).loc main_arg8)) := by
  unfold V
  after_results_simp <;> (try dsimp only [Matrix.cons_val]) <;> (try after_results_simp) <;> rfl

theorem V_b : (V m c main_v34 : FVec Ideal S1x1024 .f32) = rowG (m ((c : Thread nD τ).loc main_arg9)) := by
  unfold V
  after_results_simp <;> (try dsimp only [Matrix.cons_val]) <;> (try after_results_simp) <;> rfl

end Cert.Merge

end
-- ==== Proof.Merge.Terms.lean ====
/-
  The reference's merge under names of its own: the gates, the branches, the next rows and the rows the experts read.
-/
module

public import proofs.«01_k».proof.Proof.Gen.Reference3Ideal.Run
public import proofs.«01_k».proof.Proof.Merge.Row

@[expose] public section

set_option maxRecDepth 16384

noncomputable section

namespace Cert.MergeRef

open Idealize.ShloMosaic Idealize.ShloMosaic.TcCoe Idealize.SL.Sem Cert.Reference3Ideal Cert.Reference3Ideal.Gen
  Cert.Reference3Ideal.Value Cert.Inproj Cert.Merge Idealize.ShloMosaic.StableHlo

/-- A gate, from its slabs. -/
def sigm (A : FVec Ideal S4x8192x1024 .f32) : FVec Ideal S4x8192x1024 .f32 :=
  Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf A)))

def gateH (P : FVec Ideal S72x32768x128 .f32) : FVec Ideal S4x8192x1024 .f32 :=
  shapeCast _ (transpose S32768x8x128 [1, 0, 2] (extractStridedSlice S8x32768x128 ![56, 0, 0] P slices_S72x32768x128_S8x32768x128_56_0_0)
    transposes_S8x32768x128_S32768x8x128_1_0_2) shapeCasts_S32768x8x128_S4x8192x1024

def gateN (P : FVec Ideal S72x32768x128 .f32) : FVec Ideal S4x8192x1024 .f32 :=
  shapeCast _ (transpose S32768x8x128 [1, 0, 2] (extractStridedSlice S8x32768x128 ![64, 0, 0] P slices_S72x32768x128_S8x32768x128_64_0_0)
    transposes_S8x32768x128_S32768x8x128_1_0_2) shapeCasts_S32768x8x128_S4x8192x1024

/-- A branch times its weight. -/
def prod (A : FVec Ideal S4x8192x1024 .f32) (W : FVec Ideal S1x1024x1024 .f32) : FVec Ideal S4x8192x1024 .f32 :=
  Host.dotGeneral dot_S4x8192x1024_S1024x1024_S4x8192x1024_2_0_01_1_n_n none A (shapeCast _ W shapeCasts_S1x1024x1024_S1024x1024)

/-- Rows by batch. -/
def split (O : FVec Ideal S32768x1024 .f32) : FVec Ideal S4x8192x1024 .f32 := shapeCast _ O shapeCasts_S32768x1024_S4x8192x1024

/-- The gated sum of the branches. -/
def both (GH GN AH AN : FVec Ideal S4x8192x1024 .f32) : FVec Ideal S4x8192x1024 .f32 := addf (mulf (sigm GH) AH) (mulf (sigm GN) AN)

/-- The rows before their normalisation. -/
def sumR (X : FVec Ideal S4x8192x1024 .f32) (M : FVec Ideal S4x6x1024 .f32) (Y : FVec Ideal S4x8192x1024 .f32) : FVec Ideal S4x8192x1024 .f32 :=
  addf (mulf (broadcastInDim S4x8192x1024 ![] bcast_S_S4x8192x1024 (constant S_ .f32 0x3F9837F0#32)) X)
    (mulf (broadcastInDim S4x8192x1024 ![0, 1, 2] bcast_S4x1x1024_S4x8192x1024_0_1_2
      (addf (broadcastInDim S4x1x1024 ![] bcast_S_S4x1x1024 (constant S_ .f32 0x3F800000#32))
        (broadcastInDim S4x1x1024 ![0, 2] bcast_S4x1024_S4x1x1024_0_2
          (shapeCast _ (extractStridedSlice S4x1x1024 ![0, 2, 0] M slices_S4x6x1024_S4x1x1024_0_2_0) shapeCasts_S4x1x1024_S4x1024)))) Y)

/-- The mean over the last axis. -/
def meanR (X : FVec Ideal S4x8192x1024 .f32) : FVec Ideal S4x8192x1 .f32 :=
  Host.divf (broadcastInDim S4x8192x1 ![0, 1] bcast_S4x8192_S4x8192x1_0_1
    (Host.reduceAdd X (constant S_ .f32 0x00000000#32) reducesTo_S4x8192x1024_S4x8192_d2 h_S_))
    (broadcastInDim S4x8192x1 ![] bcast_S_S4x8192x1 (constant S_ .f32 0x44800000#32))

/-- The rows with their mean taken off, -/
def centred (X : FVec Ideal S4x8192x1024 .f32) : FVec Ideal S4x8192x1024 .f32 :=
  subf X (broadcastInDim S4x8192x1024 ![0, 1, 2] bcast_S4x8192x1_S4x8192x1024_0_1_2 (meanR X))

/-- and over their deviation. -/
def overDev (X : FVec Ideal S4x8192x1024 .f32) : FVec Ideal S4x8192x1024 .f32 :=
  mulf (centred X) (broadcastInDim S4x8192x1024 ![0, 1, 2] bcast_S4x8192x1_S4x8192x1024_0_1_2
      (Host.rsqrt (addf (meanR (mulf (centred X) (centred X)))
        (broadcastInDim S4x8192x1 ![] bcast_S_S4x8192x1 (constant S_ .f32 0x3727C5AC#32)))))

/-- The next rows. -/
def nextR (Z : FVec Ideal S4x8192x1024 .f32) (G B : FVec Ideal S1x1024 .f32) : FVec Ideal S4x8192x1024 .f32 :=
  addf (mulf (overDev Z) (broadcastInDim S4x8192x1024 ![0, 1, 2] bcast_S1x1x1024_S4x8192x1024_0_1_2
      (broadcastInDim S1x1x1024 ![2] bcast_S1024_S1x1x1024_2 (shapeCast _ G shapeCasts_S1x1024_S1024))))
    (broadcastInDim S4x8192x1024 ![0, 1, 2] bcast_S1x1x1024_S4x8192x1024_0_1_2
      (broadcastInDim S1x1x1024 ![2] bcast_S1024_S1x1x1024_2 (shapeCast _ B shapeCasts_S1x1024_S1024)))

/-- The rows the experts read, by batch. -/
def hidR (Z : FVec Ideal S4x8192x1024 .f32) (M : FVec Ideal S4x6x1024 .f32) : FVec Ideal S4x8192x1024 .f32 :=
  addf (mulf (overDev Z) (broadcastInDim S4x8192x1024 ![0, 1, 2] bcast_S4x1x1024_S4x8192x1024_0_1_2
      (addf (broadcastInDim S4x1x1024 ![] bcast_S_S4x1x1024 (constant S_ .f32 0x3F800000#32))
        (broadcastInDim S4x1x1024 ![0, 2] bcast_S4x1024_S4x1x1024_0_2
          (shapeCast _ (extractStridedSlice S4x1x1024 ![0, 4, 0] M slices_S4x6x1024_S4x1x1024_0_4_0) shapeCasts_S4x1x1024_S4x1024)))))
    (broadcastInDim S4x8192x1024 ![0, 1, 2] bcast_S4x1x1024_S4x8192x1024_0_1_2
      (broadcastInDim S4x1x1024 ![0, 2] bcast_S4x1024_S4x1x1024_0_2
        (shapeCast _ (extractStridedSlice S4x1x1024 ![0, 3, 0] M slices_S4x6x1024_S4x1x1024_0_3_0) shapeCasts_S4x1x1024_S4x1024)))

/-- Rows one after another, -/
def flat (X : FVec Ideal S4x8192x1024 .f32) : FVec Ideal S32768x1024 .f32 := shapeCast _ X shapeCasts_S4x8192x1024_S32768x1024

/-- and each as eight rows of 128. -/
def tiled (R : FVec Ideal S32768x1024 .f32) : FVec Ideal S262144x128 .f32 := shapeCast _ R shapeCasts_S32768x1024_S262144x128

theorem sigm_apply (A : FVec Ideal S4x8192x1024 .f32) (b : Fin 4) (s : Fin 8192) (l : Fin 1024) :
    sigm A (ix3 b s l) = Ideal.logistic (A (ix3 b s l)) := by
  unfold Ideal.logistic
  pointwise [sigm]

theorem gateH_apply (P : FVec Ideal S72x32768x128 .f32) (b : Fin 4) (s : Fin 8192) (l : Fin 1024) :
    gateH P (ix3 b s l) = P (ix3 ⟨56 + l.val / 128, by omega⟩ ⟨b.val * 8192 + s.val, by omega⟩ ⟨l.val % 128, by omega⟩) := by
  pointwise [gateH]

theorem gateN_apply (P : FVec Ideal S72x32768x128 .f32) (b : Fin 4) (s : Fin 8192) (l : Fin 1024) :
    gateN P (ix3 b s l) = P (ix3 ⟨64 + l.val / 128, by omega⟩ ⟨b.val * 8192 + s.val, by omega⟩ ⟨l.val % 128, by omega⟩) := by
  pointwise [gateN]

theorem prod_apply (A : FVec Ideal S4x8192x1024 .f32) (W : FVec Ideal S1x1024x1024 .f32) (b : Fin 4) (s : Fin 8192) (l : Fin 1024) :
    prod A W (ix3 b s l) = times (fun k => A (ix3 b s k)) (fun k l => W (ix3 0 k l)) l := by
  unfold times
  pointwise [prod]

theorem split_apply (O : FVec Ideal S32768x1024 .f32) (b : Fin 4) (s : Fin 8192) (l : Fin 1024) :
    split O (ix3 b s l) = O (ix2 ⟨b.val * 8192 + s.val, by omega⟩ l) := by
  pointwise [split]

theorem both_apply (GH GN AH AN : FVec Ideal S4x8192x1024 .f32) (b : Fin 4) (s : Fin 8192) (l : Fin 1024) :
    both GH GN AH AN (ix3 b s l)
      = gated (fun k => GH (ix3 b s k)) (fun k => GN (ix3 b s k)) (fun k => AH (ix3 b s k)) (fun k => AN (ix3 b s k)) l := by
  unfold gated
  rw [← sigm_apply, ← sigm_apply]
  pointwise [both]

theorem sumR_apply (X : FVec Ideal S4x8192x1024 .f32) (M : FVec Ideal S4x6x1024 .f32) (Y : FVec Ideal S4x8192x1024 .f32)
    (b : Fin 4) (s : Fin 8192) (l : Fin 1024) :
    sumR X M Y (ix3 b s l) = resid (fun k => X (ix3 b s k)) (fun k => M (ix3 b 2 k)) (fun k => Y (ix3 b s k)) l := by
  unfold resid
  pointwise [sumR]

theorem nextR_apply (Z : FVec Ideal S4x8192x1024 .f32) (G B : FVec Ideal S1x1024 .f32) (b : Fin 4) (s : Fin 8192) (l : Fin 1024) :
    nextR Z G B (ix3 b s l) = scaled (fun k => Z (ix3 b s k)) (fun k => G (ix2 0 k)) (fun k => B (ix2 0 k)) l := by
  unfold scaled mean
  pointwise [nextR, overDev, centred, meanR]

theorem hidR_apply (Z : FVec Ideal S4x8192x1024 .f32) (M : FVec Ideal S4x6x1024 .f32) (b : Fin 4) (s : Fin 8192) (l : Fin 1024) :
    hidR Z M (ix3 b s l) = normed (fun k => Z (ix3 b s k)) (fun k => M (ix3 b 3 k)) (fun k => M (ix3 b 4 k)) l := by
  unfold normed mean
  pointwise [hidR, overDev, centred, meanR]

theorem flat_apply (X : FVec Ideal S4x8192x1024 .f32) (n : Fin 32768) (l : Fin 1024) :
    flat X (ix2 n l) = X (ix3 ⟨n.val / 8192, by omega⟩ ⟨n.val % 8192, by omega⟩ l) := by
  pointwise [flat]

theorem tiled_apply (R : FVec Ideal S32768x1024 .f32) (r : Fin 262144) (q : Fin 128) :
    tiled R (ix2 r q) = R (ix2 ⟨r.val / 8, by omega⟩ ⟨r.val % 8 * 128 + q.val, by omega⟩) := by
  pointwise [tiled]

variable (m : (ℓ : Loc nD τ sig) → Buf (Elt Ideal) ℓ) (c : Dev nD)

/-- The next rows of the arguments, by batch. -/
def x1Of (OH ON : FVec Ideal S32768x1024 .f32) (P : FVec Ideal S72x32768x128 .f32) (X : FVec Ideal S4x8192x1024 .f32)
    (M : FVec Ideal S4x6x1024 .f32) (WH WN WO : FVec Ideal S1x1024x1024 .f32) (G B : FVec Ideal S1x1024 .f32) : FVec Ideal S4x8192x1024 .f32 :=
  nextR (sumR X M (prod (both (gateH P) (gateN P) (prod (split OH) WH) (prod (split ON) WN)) WO)) G B

/-- A next row of the arguments. -/
def rowOf (OH ON : FVec Ideal S32768x1024 .f32) (P : FVec Ideal S72x32768x128 .f32) (X : FVec Ideal S4x8192x1024 .f32)
    (M : FVec Ideal S4x6x1024 .f32) (WH WN WO : FVec Ideal S1x1024x1024 .f32) (G B : FVec Ideal S1x1024 .f32)
    (n : Fin 32768) : Fin 1024 → EReal :=
  next (fun k => OH (ix2 n k)) (fun k => ON (ix2 n k)) (fun k => P (ix3 ⟨56 + k.val / 128, by omega⟩ n ⟨k.val % 128, by omega⟩))
    (fun k => P (ix3 ⟨64 + k.val / 128, by omega⟩ n ⟨k.val % 128, by omega⟩))
    (fun k => X (ix3 ⟨n.val / 8192, by omega⟩ ⟨n.val % 8192, by omega⟩ k)) (fun k => M (ix3 ⟨n.val / 8192, by omega⟩ 2 k))
    (fun k l => WH (ix3 0 k l)) (fun k l => WN (ix3 0 k l)) (fun k l => WO (ix3 0 k l)) (fun k => G (ix2 0 k)) (fun k => B (ix2 0 k))

theorem x1Of_apply (OH ON : FVec Ideal S32768x1024 .f32) (P : FVec Ideal S72x32768x128 .f32) (X : FVec Ideal S4x8192x1024 .f32)
    (M : FVec Ideal S4x6x1024 .f32) (WH WN WO : FVec Ideal S1x1024x1024 .f32) (G B : FVec Ideal S1x1024 .f32)
    (n : Fin 32768) (l : Fin 1024) :
    x1Of OH ON P X M WH WN WO G B (ix3 ⟨n.val / 8192, by omega⟩ ⟨n.val % 8192, by omega⟩ l) = rowOf OH ON P X M WH WN WO G B n l := by
  have e : (⟨n.val / 8192 * 8192 + n.val % 8192, by omega⟩ : Fin 32768) = n := Fin.ext (Nat.div_add_mod' n.val 8192)
  unfold x1Of rowOf next
  simp only [nextR_apply, sumR_apply, prod_apply, both_apply, split_apply, gateH_apply, gateN_apply, e]

/-- The rows the experts read, at an entry. -/
theorem out1_apply (Z : FVec Ideal S4x8192x1024 .f32) (M : FVec Ideal S4x6x1024 .f32) (r : Fin 262144) (q : Fin 128) :
    tiled (flat (hidR Z M)) (ix2 r q)
      = normed (fun k => Z (ix3 ⟨r.val / 8 / 8192, by omega⟩ ⟨r.val / 8 % 8192, by omega⟩ k))
          (fun k => M (ix3 ⟨r.val / 8 / 8192, by omega⟩ 3 k)) (fun k => M (ix3 ⟨r.val / 8 / 8192, by omega⟩ 4 k))
          ⟨r.val % 8 * 128 + q.val, by omega⟩ := by
  rw [tiled_apply, flat_apply, hidR_apply]

theorem res_x1 : (res_main_v68 (launchContents m c) : FVec Ideal S4x8192x1024 .f32)
    = x1Of (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold res_main_v68 res_main_v48 res_main_v46 res_main_v42; rfl

theorem res_hid : (res_main_v95 (launchContents m c) : FVec Ideal S32768x1024 .f32)
    = flat (hidR (res_main_v68 (launchContents m c)) (m ((c.tc : Thread nD τ).loc main_arg4))) := by
  unfold res_main_v95 res_main_v74 res_main_v72; rfl

end Cert.MergeRef

end
-- ==== Proof.Merge.Kernel.lean ====
/-
  The merge's results entry by entry: the next rows and the rows the experts read, from the arguments.
-/
module

public import proofs.«01_k».proof.Proof.Merge.Blocks
public import proofs.«01_k».proof.Proof.Merge.Host
public import proofs.«01_k».proof.Proof.Merge.Terms

@[expose] public section

set_option maxRecDepth 16384

noncomputable section

namespace Cert.Merge

open Idealize.ShloMosaic Idealize.ShloMosaic.TcCoe Idealize.SL.Sem Cert.Kernel3Ideal Cert.Kernel3Ideal.Gen Cert.Kernel3Ideal.Merge
  Cert.Inproj Cert.MergeRef

variable (m : (ℓ : Loc nD τ sig) → Buf (Elt Ideal) ℓ) (c : Dev nD)

/-- The arguments the run starts from. -/
abbrev argOH : FVec Ideal S32768x1024 .f32 := m ((c : Thread nD τ).loc main_arg0)
abbrev argON : FVec Ideal S32768x1024 .f32 := m ((c : Thread nD τ).loc main_arg1)
abbrev argP : FVec Ideal S72x32768x128 .f32 := m ((c : Thread nD τ).loc main_arg2)
abbrev argX : FVec Ideal S4x8192x1024 .f32 := m ((c : Thread nD τ).loc main_arg3)
abbrev argM : FVec Ideal S4x6x1024 .f32 := m ((c : Thread nD τ).loc main_arg4)
abbrev argWH : FVec Ideal S1x1024x1024 .f32 := m ((c : Thread nD τ).loc main_arg5)
abbrev argWN : FVec Ideal S1x1024x1024 .f32 := m ((c : Thread nD τ).loc main_arg6)
abbrev argWO : FVec Ideal S1x1024x1024 .f32 := m ((c : Thread nD τ).loc main_arg7)
abbrev argG : FVec Ideal S1x1024 .f32 := m ((c : Thread nD τ).loc main_arg8)
abbrev argB : FVec Ideal S1x1024 .f32 := m ((c : Thread nD τ).loc main_arg9)

/-- A next row of the arguments, -/
def rowM (n : Fin 32768) : Fin 1024 → EReal :=
  rowOf (argOH m c) (argON m c) (argP m c) (argX m c) (argM m c) (argWH m c) (argWN m c) (argWO m c) (argG m c) (argB m c) n

/-- and the row the experts read. -/
def hidM (n : Fin 32768) : Fin 1024 → EReal :=
  normed (rowM m c n) (fun k => argM m c (ix3 ⟨n.val / 8192, by omega⟩ 3 k)) (fun k => argM m c (ix3 ⟨n.val / 8192, by omega⟩ 4 k))

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = 7 ∧ win0_2.index t 1 = t.val ∧ win0_2.index t 2 = 0 := (by decide +kernel : ∀ t : Fin grid0.N, _)
theorem index3 : ∀ t : Fin cfg0.N, win0_3.index t 0 = 8 ∧ win0_3.index t 1 = t.val ∧ win0_3.index t 2 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val / 16 ∧ win0_5.index t 1 = 0 ∧ win0_5.index t 2 = 0 := (by decide +kernel : ∀ t : Fin grid0.N, _)
theorem index6 : ∀ t : Fin cfg0.N, win0_6.index t 0 = 0 ∧ win0_6.index t 1 = 0 := (by decide +kernel : ∀ t : Fin grid0.N, _)
theorem index7 : ∀ t : Fin cfg0.N, win0_7.index t 0 = 0 ∧ win0_7.index t 1 = 0 := (by decide +kernel : ∀ t : Fin grid0.N, _)
theorem index8 : ∀ t : Fin cfg0.N, win0_8.index t 0 = 0 ∧ win0_8.index t 1 = 0 := (by decide +kernel : ∀ t : Fin grid0.N, _)
theorem index9 : ∀ t : Fin cfg0.N, win0_9.index t 0 = 0 ∧ win0_9.index t 1 = 0 := (by decide +kernel : ∀ t : Fin grid0.N, _)
theorem index10 : ∀ t : Fin cfg0.N, win0_10.index t 0 = 0 ∧ win0_10.index t 1 = 0 := (by decide +kernel : ∀ t : Fin grid0.N, _)
theorem index13 : ∀ t : Fin cfg0.N, win0_13.index t 0 = t.val ∧ win0_13.index t 1 = 0 := (by decide +kernel : ∀ t : Fin grid0.N, _)
theorem index14 : ∀ t : Fin cfg0.N, win0_14.index t 0 = t.val ∧ win0_14.index t 1 = 0 := (by decide +kernel : ∀ t : Fin grid0.N, _)

theorem iblk0 (t : Fin cfg0.N) (ht : t.val < 64) (r : Fin 512) (k : Fin 1024) :
    (iblk m c 0 t : Vec Ideal S512x1024 .bf16) (ix2 r k)
      = argOH m c (ix2 ⟨512 * t.val + r.val, by omega⟩ k) := by
  unfold iblk
  rw [View.read_apply]
  show (V m c main_v23 : FVec Ideal S32768x1024 .bf16) _ = _
  rw [V_oh]
  refine (congrArg (shortO (argOH m c)) (funext fun a => Fin.ext ?_)).trans (shortO_apply (argOH m c) ⟨512 * t.val + r.val, by omega⟩ k)
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem iblk1 (t : Fin cfg0.N) (ht : t.val < 64) (r : Fin 512) (k : Fin 1024) :
    (iblk m c 1 t : Vec Ideal S512x1024 .bf16) (ix2 r k)
      = argON m c (ix2 ⟨512 * t.val + r.val, by omega⟩ k) := by
  unfold iblk
  rw [View.read_apply]
  show (V m c main_v24 : FVec Ideal S32768x1024 .bf16) _ = _
  rw [V_on]
  refine (congrArg (shortO (argON m c)) (funext fun a => Fin.ext ?_)).trans (shortO_apply (argON m c) ⟨512 * t.val + r.val, by omega⟩ k)
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

theorem iblk2 (t : Fin cfg0.N) (ht : t.val < 64) (a : Fin 8) (r : Fin 512) (q : Fin 128) :
    (iblk m c 2 t : Vec Ideal S8x512x128 .f32) (ix3 a r q)
      = argP m c (ix3 ⟨56 + a.val, by omega⟩ ⟨512 * t.val + r.val, by omega⟩ q) := by
  unfold iblk
  rw [View.read_apply]
  show (V m c main_arg2 : FVec Ideal S72x32768x128 .f32) _ = _
  rw [V_main_arg2]
  refine congrArg (argP m c) (funext fun d => Fin.ext ?_)
  match d with
  | ⟨0, _⟩ => show win0_2.index t 0 * 8 + 1 * a.val = 56 + a.val; rw [(index2 t).1]; omega
  | ⟨1, _⟩ => show win0_2.index t 1 * 512 + 1 * r.val = 512 * t.val + r.val; rw [(index2 t).2.1]; omega
  | ⟨2, _⟩ => show win0_2.index t 2 * 128 + 1 * q.val = q.val; rw [(index2 t).2.2]; omega

theorem iblk3 (t : Fin cfg0.N) (ht : t.val < 64) (a : Fin 8) (r : Fin 512) (q : Fin 128) :
    (iblk m c 3 t : Vec Ideal S8x512x128 .f32) (ix3 a r q)
      = argP m c (ix3 ⟨64 + a.val, by omega⟩ ⟨512 * t.val + r.val, by omega⟩ q) := by
  unfold iblk
  rw [View.read_apply]
  show (V m c main_arg2 : FVec Ideal S72x32768x128 .f32) _ = _
  rw [V_main_arg2]
  refine congrArg (argP m c) (funext fun d => Fin.ext ?_)
  match d with
  | ⟨0, _⟩ => show win0_3.index t 0 * 8 + 1 * a.val = 64 + a.val; rw [(index3 t).1]; omega
  | ⟨1, _⟩ => show win0_3.index t 1 * 512 + 1 * r.val = 512 * t.val + r.val; rw [(index3 t).2.1]; omega
  | ⟨2, _⟩ => show win0_3.index t 2 * 128 + 1 * q.val = q.val; rw [(index3 t).2.2]; omega

theorem iblk4 (t : Fin cfg0.N) (ht : t.val < 64) (r : Fin 512) (k : Fin 1024) :
    (iblk m c 4 t : Vec Ideal S512x1024 .f32) (ix2 r k)
      = argX m c (ix3 ⟨(512 * t.val + r.val) / 8192, by omega⟩ ⟨(512 * t.val + r.val) % 8192, by omega⟩ k) := by
  unfold iblk
  rw [View.read_apply]
  show (V m c main_v0 : FVec Ideal S32768x1024 .f32) _ = _
  rw [V_x]
  refine (congrArg (rowsX (argX m c)) (funext fun a => Fin.ext ?_)).trans (rowsX_apply (argX m c) ⟨512 * t.val + r.val, by omega⟩ k)
  match a with
  | ⟨0, _⟩ => show win0_4.index t 0 * 512 + 1 * r.val = 512 * t.val + r.val; rw [(index4 t).1]; omega
  | ⟨1, _⟩ => show win0_4.index t 1 * 1024 + 1 * k.val = k.val; rw [(index4 t).2]; omega

theorem iblk5 (t : Fin cfg0.N) (ht : t.val < 64) (r : Fin 512) (j : Fin 6) (k : Fin 1024) :
    (iblk m c 5 t : Vec Ideal S1x6x1024 .f32) (ix3 0 j k)
      = argM m c (ix3 ⟨(512 * t.val + r.val) / 8192, by omega⟩ j k) := by
  unfold iblk
  rw [View.read_apply]
  show (V m c main_arg4 : FVec Ideal S4x6x1024 .f32) _ = _
  rw [V_main_arg4]
  refine congrArg (argM m c) (funext fun a => Fin.ext ?_)
  match a with
  | ⟨0, _⟩ => show win0_5.index t 0 * 1 + 1 * 0 = (512 * t.val + r.val) / 8192; rw [(index5 t).1]; omega
  | ⟨1, _⟩ => show win0_5.index t 1 * 6 + 1 * j.val = j.val; rw [(index5 t).2.1]; omega
  | ⟨2, _⟩ => show win0_5.index t 2 * 1024 + 1 * k.val = k.val; rw [(index5 t).2.2]; omega

theorem iblk6 (t : Fin cfg0.N) (ht : t.val < 64) (k l : Fin 1024) :
    (iblk m c 6 t : Vec Ideal S1024x1024 .bf16) (ix2 k l)
      = argWH m c (ix3 0 k l) := by
  unfold iblk
  rw [View.read_apply]
  show (V m c main_v26 : FVec Ideal S1024x1024 .bf16) _ = _
  rw [V_wh]
  refine (congrArg (shortW (argWH m c)) (funext fun a => Fin.ext ?_)).trans (shortW_apply (argWH m c) k l)
  match a with
  | ⟨0, _⟩ => show win0_6.index t 0 * 1024 + 1 * k.val = k.val; rw [(index6 t).1]; omega
  | ⟨1, _⟩ => show win0_6.index t 1 * 1024 + 1 * l.val = l.val; rw [(index6 t).2]; omega

theorem iblk7 (t : Fin cfg0.N) (ht : t.val < 64) (k l : Fin 1024) :
    (iblk m c 7 t : Vec Ideal S1024x1024 .bf16) (ix2 k l)
      = argWN m c (ix3 0 k l) := by
  unfold iblk
  rw [View.read_apply]
  show (V m c main_v28 : FVec Ideal S1024x1024 .bf16) _ = _
  rw [V_wn]
  refine (congrArg (shortW (argWN m c)) (funext fun a => Fin.ext ?_)).trans (shortW_apply (argWN m c) k l)
  match a with
  | ⟨0, _⟩ => show win0_7.index t 0 * 1024 + 1 * k.val = k.val; rw [(index7 t).1]; omega
  | ⟨1, _⟩ => show win0_7.index t 1 * 1024 + 1 * l.val = l.val; rw [(index7 t).2]; omega

theorem iblk8 (t : Fin cfg0.N) (ht : t.val < 64) (k l : Fin 1024) :
    (iblk m c 8 t : Vec Ideal S1024x1024 .bf16) (ix2 k l)
      = argWO m c (ix3 0 k l) := by
  unfold iblk
  rw [View.read_apply]
  show (V m c main_v30 : FVec Ideal S1024x1024 .bf16) _ = _
  rw [V_wo]
  refine (congrArg (shortW (argWO m c)) (funext fun a => Fin.ext ?_)).trans (shortW_apply (argWO m c) k l)
  match a with
  | ⟨0, _⟩ => show win0_8.index t 0 * 1024 + 1 * k.val = k.val; rw [(index8 t).1]; omega
  | ⟨1, _⟩ => show win0_8.index t 1 * 1024 + 1 * l.val = l.val; rw [(index8 t).2]; omega

theorem iblk9 (t : Fin cfg0.N) (ht : t.val < 64) (k : Fin 1024) :
    (iblk m c 9 t : Vec Ideal S1x1024 .f32) (ix2 0 k)
      = argG m c (ix2 0 k) := by
  unfold iblk
  rw [View.read_apply]
  show (V m c main_v32 : FVec Ideal S1x1024 .f32) _ = _
  rw [V_g]
  refine (congrArg (rowG (argG m c)) (funext fun a => Fin.ext ?_)).trans (rowG_apply (argG m c) k)
  match a with
  | ⟨0, _⟩ => show win0_9.index t 0 * 1 + 1 * 0 = 0; rw [(index9 t).1]
  | ⟨1, _⟩ => show win0_9.index t 1 * 1024 + 1 * k.val = k.val; rw [(index9 t).2]; omega

theorem iblk10 (t : Fin cfg0.N) (ht : t.val < 64) (k : Fin 1024) :
    (iblk m c 10 t : Vec Ideal S1x1024 .f32) (ix2 0 k)
      = argB m c (ix2 0 k) := by
  unfold iblk
  rw [View.read_apply]
  show (V m c main_v34 : FVec Ideal S1x1024 .f32) _ = _
  rw [V_b]
  refine (congrArg (rowG (argB m c)) (funext fun a => Fin.ext ?_)).trans (rowG_apply (argB m c) k)
  match a with
  | ⟨0, _⟩ => show win0_10.index t 0 * 1 + 1 * 0 = 0; rw [(index10 t).1]
  | ⟨1, _⟩ => show win0_10.index t 1 * 1024 + 1 * k.val = k.val; rw [(index10 t).2]; omega

/-- A next row of a point's blocks is the arguments'. -/
theorem rowAt_eq (t : Fin cfg0.N) (ht : t.val < 64) (r : Fin 512) :
    rowAt (iblk m c 0 t) (iblk m c 1 t) (iblk m c 2 t) (iblk m c 3 t) (iblk m c 4 t) (iblk m c 5 t) (iblk m c 6 t) (iblk m c 7 t)
      (iblk m c 8 t) (iblk m c 9 t) (iblk m c 10 t) r = rowM m c ⟨512 * t.val + r.val, by omega⟩ := by
  have g2 : gateAt (iblk m c 2 t) r = fun k => argP m c (ix3 ⟨56 + k.val / 128, by omega⟩ ⟨512 * t.val + r.val, by omega⟩ ⟨k.val % 128, by omega⟩) :=
    funext fun k => iblk2 m c t ht _ r _
  have g3 : gateAt (iblk m c 3 t) r = fun k => argP m c (ix3 ⟨64 + k.val / 128, by omega⟩ ⟨512 * t.val + r.val, by omega⟩ ⟨k.val % 128, by omega⟩) :=
    funext fun k => iblk3 m c t ht _ r _
  have h0 := funext fun k => iblk0 m c t ht r k
  have h1 := funext fun k => iblk1 m c t ht r k
  have h4 := funext fun k => iblk4 m c t ht r k
  have h5 := funext fun k => iblk5 m c t ht r 2 k
  have h6 := funext fun k => funext fun l => iblk6 m c t ht k l
  have h7 := funext fun k => funext fun l => iblk7 m c t ht k l
  have h8 := funext fun k => funext fun l => iblk8 m c t ht k l
  have h9 := funext fun k => iblk9 m c t ht k
  have h10 := funext fun k => iblk10 m c t ht k
  unfold rowAt sumAt rowM rowOf next
  rw [g2, g3, h0, h1, h4, h5, h6, h7, h8, h9, h10]

theorem ptA_apply (t : Fin cfg0.N) (ht : t.val < 64) (i : Fin 256) (l : Fin 1024) :
    ptA m c t (ix2 i l) = rowM m c ⟨512 * t.val + (0 + i.val), by omega⟩ l :=
  (nextA_apply _ _ _ _ _ _ _ _ _ _ _ i l).trans (congrFun (rowAt_eq m c t ht ⟨0 + i.val, by omega⟩) l)

theorem ptB_apply (t : Fin cfg0.N) (ht : t.val < 64) (i : Fin 256) (l : Fin 1024) :
    ptB m c t (ix2 i l) = rowM m c ⟨512 * t.val + (256 + i.val), by omega⟩ l :=
  (nextB_apply _ _ _ _ _ _ _ _ _ _ _ i l).trans (congrFun (rowAt_eq m c t ht ⟨256 + i.val, by omega⟩) l)

theorem hidA_eq (t : Fin cfg0.N) (ht : t.val < 64) (i : Fin 256) (l : Fin 1024) :
    hidA (F := Ideal) (ptA m c t) (iblk m c 5 t) (ix2 i l) = hidM m c ⟨512 * t.val + (0 + i.val), by omega⟩ l := by
  refine (hidA_apply _ _ i l).trans ?_
  rw [funext fun k => ptA_apply m c t ht i k, funext fun k => iblk5 m c t ht ⟨0 + i.val, by omega⟩ 3 k,
    funext fun k => iblk5 m c t ht ⟨0 + i.val, by omega⟩ 4 k]
  rfl

theorem hidB_eq (t : Fin cfg0.N) (ht : t.val < 64) (i : Fin 256) (l : Fin 1024) :
    hidB (F := Ideal) (ptB m c t) (iblk m c 5 t) (ix2 i l) = hidM m c ⟨512 * t.val + (256 + i.val), by omega⟩ l := by
  refine (hidB_apply _ _ i l).trans ?_
  rw [funext fun k => ptB_apply m c t ht i k, funext fun k => iblk5 m c t ht ⟨256 + i.val, by omega⟩ 3 k,
    funext fun k => iblk5 m c t ht ⟨256 + i.val, by omega⟩ 4 k]
  rfl

theorem index_inj13 : ∀ t t' : Fin cfg0.N, win0_13.index t = win0_13.index t' → t = t' :=
  (by decide +kernel : ∀ t t' : Fin grid0.N, win0_13.index t = win0_13.index t' → t = t')

theorem flush13 : ∀ t : Fin cfg0.N, (cfg0.win 13).flush t = true := (by decide +kernel : ∀ t : Fin grid0.N, win0_13.flush t = true)

theorem blocks13 (t : Fin cfg0.N) :
    ((cfg0.win 13).blk t).view.read (Elt Ideal) ((dats m 0 c).arrAt 13 cfg0.N) = (cfg0.win 13).cut (grid0.coords t) ((dats m 0 c).after 13 t) :=
  (dats m 0 c).read_blk_arrAt_eq_flushed 13
    (fun t t' _ _ hne => (cfg0.win 13).disjoint_blk fun h => hne (index_inj13 t t' h)) cfg0.N t t.isLt (flush13 t)

theorem index_inj14 : ∀ t t' : Fin cfg0.N, win0_14.index t = win0_14.index t' → t = t' :=
  (by decide +kernel : ∀ t t' : Fin grid0.N, win0_14.index t = win0_14.index t' → t = t')

theorem flush14 : ∀ t : Fin cfg0.N, (cfg0.win 14).flush t = true := (by decide +kernel : ∀ t : Fin grid0.N, win0_14.flush t = true)

theorem blocks14 (t : Fin cfg0.N) :
    ((cfg0.win 14).blk t).view.read (Elt Ideal) ((dats m 0 c).arrAt 14 cfg0.N) = (cfg0.win 14).cut (grid0.coords t) ((dats m 0 c).after 14 t) :=
  (dats m 0 c).read_blk_arrAt_eq_flushed 14
    (fun t t' _ _ hne => (cfg0.win 14).disjoint_blk fun h => hne (index_inj14 t t' h)) cfg0.N t t.isLt (flush14 t)

/-- The next rows, entry by entry. -/
theorem final13 (n : Fin 32768) (l : Fin 1024) :
    ((dats m 0 c).arrAt 13 cfg0.N : FVec Ideal S32768x1024 .f32) (ix2 n l) = rowM m c n l := by
  have hN : cfg0.N = 64 := N_0
  obtain ⟨t, ht, hv⟩ : ∃ t : Fin cfg0.N, t.val < 64 ∧ t.val = n.val / 512 :=
    ⟨⟨n.val / 512, by omega⟩, by show n.val / 512 < 64; omega, rfl⟩
  have h := congrFun (blocks13 m c t) (ix2 (⟨n.val % 512, by omega⟩ : Fin 512) l : S512x1024.Idx)
  rw [View.read_apply] at h
  refine Eq.trans ?_ (Eq.trans h ?_)
  · show _ = ((dats m 0 c).arrAt 13 cfg0.N : FVec Ideal S32768x1024 .f32) _
    refine congrArg ((dats m 0 c).arrAt 13 cfg0.N : FVec Ideal S32768x1024 .f32) (funext fun a => Fin.ext ?_)
    match a with
    | ⟨0, _⟩ => show n.val = win0_13.index t 0 * 512 + 1 * (n.val % 512); rw [(index13 t).1]; omega
    | ⟨1, _⟩ => show l.val = win0_13.index t 1 * 1024 + 1 * l.val; rw [(index13 t).2]; omega
  · rw [left13]
    refine (outNext_apply (ptA m c t) (ptB m c t) (fun r => rowM m c ⟨512 * t.val + r.val, by omega⟩)
      (fun i l => ptA_apply m c t ht i l) (fun i l => ptB_apply m c t ht i l) ⟨n.val % 512, by omega⟩ l).trans ?_
    refine congrArg (fun n => rowM m c n l) (Fin.ext ?_)
    show 512 * t.val + n.val % 512 = n.val
    omega

/-- The rows the experts read, entry by entry. -/
theorem final14 (r : Fin 262144) (q : Fin 128) :
    ((dats m 0 c).arrAt 14 cfg0.N : FVec Ideal S262144x128 .f32) (ix2 r q)
      = hidM m c ⟨r.val / 8, by omega⟩ ⟨r.val % 8 * 128 + q.val, by omega⟩ := by
  have hN : cfg0.N = 64 := N_0
  obtain ⟨t, ht, hv⟩ : ∃ t : Fin cfg0.N, t.val < 64 ∧ t.val = r.val / 4096 :=
    ⟨⟨r.val / 4096, by omega⟩, by show r.val / 4096 < 64; omega, rfl⟩
  have h := congrFun (blocks14 m c t) (ix2 (⟨r.val % 4096, by omega⟩ : Fin 4096) q : S4096x128.Idx)
  rw [View.read_apply] at h
  refine Eq.trans ?_ (Eq.trans h ?_)
  · show _ = ((dats m 0 c).arrAt 14 cfg0.N : FVec Ideal S262144x128 .f32) _
    refine congrArg ((dats m 0 c).arrAt 14 cfg0.N : FVec Ideal S262144x128 .f32) (funext fun a => Fin.ext ?_)
    match a with
    | ⟨0, _⟩ => show r.val = win0_14.index t 0 * 4096 + 1 * (r.val % 4096); rw [(index14 t).1]; omega
    | ⟨1, _⟩ => show q.val = win0_14.index t 1 * 128 + 1 * q.val; rw [(index14 t).2]; omega
  · rw [left14]
    refine (outTiles_apply (hidA (ptA m c t) (iblk m c 5 t)) (hidB (ptB m c t) (iblk m c 5 t)) (fun r => hidM m c ⟨512 * t.val + r.val, by omega⟩)
      (fun i l => hidA_eq m c t ht i l) (fun i l => hidB_eq m c t ht i l) ⟨r.val % 4096, by omega⟩ q).trans ?_
    refine congrArg₂ (fun n j => hidM m c n j) (Fin.ext ?_) (Fin.ext ?_)
    · show 512 * t.val + r.val % 4096 / 8 = r.val / 8
      omega
    · show r.val % 4096 % 8 * 128 + q.val = r.val % 8 * 128 + q.val
      omega

end Cert.Merge

end
-- ==== Proof.Merge.Claim.lean ====
/-
  The two programs compute the same next rows and the same rows for the experts: the equation of their results and the claim
  stated of their runs.
-/
module

public import proofs.«01_k».proof.Defs
public import proofs.«01_k».proof.Proof.Merge.Kernel
public import proofs.«01_k».proof.Proof.Merge.Terms
public import Idealize.ShloMosaic.Adequacy
public import Idealize.ShloMosaic.Init
public import Idealize.ShloMosaic.Lib.Claim

@[expose] public section

set_option maxRecDepth 16384

noncomputable section

namespace Cert.MergeClaim

open Idealize.ShloMosaic Idealize.SL.Sem Cert.Inproj Cert.Merge Cert.MergeRef

/-- The shapes that the mask's operations take. -/
instance maskFacts : Cert.On_hidden_rows.Facts where
  bcast_S_S32768x1024 := by decide
  bcast_S_S262144x128 := by decide
  bcast_S_S32768x128 := by decide

/-- The mask leaves the logits out. -/
theorem no_logits (a0 : FVec Ideal (⟨2, ![32768, 1024]⟩ : Shape) .f32) (a1 : FVec Ideal (⟨2, ![32768, 1024]⟩ : Shape) .f32)
    (a2 : FVec Ideal (⟨3, ![72, 32768, 128]⟩ : Shape) .f32) (a3 : FVec Ideal (⟨3, ![4, 8192, 1024]⟩ : Shape) .f32)
    (a4 : FVec Ideal (⟨3, ![4, 6, 1024]⟩ : Shape) .f32) (a5 a6 a7 : FVec Ideal (⟨3, ![1, 1024, 1024]⟩ : Shape) .f32)
    (a8 a9 : FVec Ideal (⟨2, ![1, 1024]⟩ : Shape) .f32) (a10 : FVec Ideal (⟨3, ![1, 1024, 4]⟩ : Shape) .f32)
    (a11 : FVec Ideal (⟨2, ![1, 4]⟩ : Shape) .f32) (a12 : FVec Ideal (⟨3, ![1, 1024, 32]⟩ : Shape) .f32)
    (a13 : FVec Ideal (⟨2, ![1, 32]⟩ : Shape) .f32) (i : (⟨2, ![32768, 128]⟩ : Shape).Idx) :
    ¬ (Cert.On_hidden_rows.fn (F := Ideal) a0 a1 a2 a3 a4 a5 a6 a7 a8 a9 a10 a11 a12 a13).2.2 i = 1#1 := by
  intro h
  have h0 : (0#1 : BitVec 1) = 1#1 := h
  exact absurd h0 (by decide)

section
open Cert.Reference3Ideal Cert.Reference3Ideal.Gen Cert.Reference3Ideal.Value Idealize.ShloMosaic.StableHlo
variable (m : (ℓ : Loc nD τ sig) → Buf (Elt Ideal) ℓ) (c : Dev nD)

/-- The reference's next rows, entry by entry, -/
theorem ref0 (n : Fin 32768) (l : Fin 1024) :
    flat (res_main_v68 (launchContents m c)) (ix2 n l)
      = rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) n l := by
  rw [flat_apply, res_x1, x1Of_apply]

/-- and the rows its experts read. -/
theorem ref1 (r : Fin 262144) (q : Fin 128) :
    tiled (res_main_v95 (launchContents m c)) (ix2 r q)
      = normed (rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ⟨r.val / 8, by omega⟩)
          (fun k => (m ((c.tc : Thread nD τ).loc main_arg4) : FVec Ideal S4x6x1024 .f32) (ix3 ⟨r.val / 8 / 8192, by omega⟩ 3 k))
          (fun k => (m ((c.tc : Thread nD τ).loc main_arg4) : FVec Ideal S4x6x1024 .f32) (ix3 ⟨r.val / 8 / 8192, by omega⟩ 4 k))
          ⟨r.val % 8 * 128 + q.val, by omega⟩ := by
  rw [res_hid, out1_apply, res_x1]
  rw [funext fun k => x1Of_apply _ _ _ _ _ _ _ _ _ _ ⟨r.val / 8, by omega⟩ k]

end

/-- Equal arguments have equal rows. -/
theorem rowOf_congr {OH OH' ON ON' : FVec Ideal (⟨2, ![32768, 1024]⟩ : Shape) .f32} {P P' : FVec Ideal (⟨3, ![72, 32768, 128]⟩ : Shape) .f32}
    {X X' : FVec Ideal (⟨3, ![4, 8192, 1024]⟩ : Shape) .f32} {M M' : FVec Ideal (⟨3, ![4, 6, 1024]⟩ : Shape) .f32}
    {WH WH' WN WN' WO WO' : FVec Ideal (⟨3, ![1, 1024, 1024]⟩ : Shape) .f32} {G G' B B' : FVec Ideal (⟨2, ![1, 1024]⟩ : Shape) .f32}
    (h0 : OH = OH') (h1 : ON = ON') (h2 : P = P') (h3 : X = X') (h4 : M = M') (h5 : WH = WH') (h6 : WN = WN') (h7 : WO = WO')
    (h8 : G = G') (h9 : B = B') : rowOf OH ON P X M WH WN WO G B = rowOf OH' ON' P' X' M' WH' WN' WO' G' B' := by
  subst h0 h1 h2 h3 h4 h5 h6 h7 h8 h9
  rfl

/-- Rows from equal parts are equal. -/
theorem normed_congr {v v' s s' t t' : Fin 1024 → EReal} (hv : v = v') (hs : s = s') (ht : t = t') (l : Fin 1024) :
    normed v s t l = normed v' s' t' l := by
  subst hv hs ht
  rfl

set_option maxHeartbeats 2000000 in
theorem algebraic : Cert.algebraic_Kernel3Ideal_Reference3Ideal_on_hidden_rows
    (hKernel3Ideal := Cert.Kernel3Ideal.Gen.facts) (hReference3Ideal := Cert.Reference3Ideal.Gen.facts)
    (hOn_hidden_rows := maskFacts) := by
  intro m g m' g' _ hagree
  refine ⟨fun c => (Cert.Kernel3Ideal.Merge.dats m 0 c).arrAt 13 Cert.Kernel3Ideal.cfg0.N,
    fun c => (Cert.Kernel3Ideal.Merge.dats m 0 c).arrAt 14 Cert.Kernel3Ideal.cfg0.N,
    fun c => (Cert.Kernel3Ideal.Merge.dats m 0 c).arrAt 15 Cert.Kernel3Ideal.cfg0.N, ?_, ?_⟩
  · exact (θ_run Cert.Kernel3Ideal.defs _ _).mono
      (fun _ h c => ⟨fun i _ => congrFun ((h.1 c).1 13) i, fun i _ => congrFun ((h.1 c).1 14) i,
        fun i _ => congrFun ((h.1 c).1 15) i, h.2.1 c⟩)
      (θ_run_and (Cert.Kernel3Ideal.Merge.ends m g) (Cert.Kernel3Ideal.Merge.frame m g))
  · refine (θ_run Cert.Reference3Ideal.defs _ _).mono
      (fun _ h c => ⟨fun i _ => ?_, fun i _ => ?_, fun i hi => absurd hi (no_logits _ _ _ _ _ _ _ _ _ _ _ _ _ _ i), (h c).2.2.2⟩)
      (Cert.Reference3Ideal.Value.run (F := Ideal) m' g')
    · obtain ⟨n, l, rfl⟩ : ∃ (n : Fin 32768) (l : Fin 1024), i = ix2 n l := ⟨i 0, i 1, eq_ix2 i⟩
      obtain ⟨e0, e1, e2, e3, e4, e5, e6, e7, e8, e9, -⟩ := hagree c
      refine (congrFun (h c).1 (ix2 n l)).trans ((ref0 m' c n l).trans (Eq.trans ?_ (final13 m c n l).symm))
      exact congrFun (congrFun (rowOf_congr e0 e1 e2 e3 e4 e5 e6 e7 e8 e9) n) l
    · obtain ⟨r, q, rfl⟩ : ∃ (r : Fin 262144) (q : Fin 128), i = ix2 r q := ⟨i 0, i 1, eq_ix2 i⟩
      obtain ⟨e0, e1, e2, e3, e4, e5, e6, e7, e8, e9, -⟩ := hagree c
      refine (congrFun (h c).2.1 (ix2 r q)).trans ((ref1 m' c r q).trans (Eq.trans ?_ (final14 m c r q).symm))
      exact normed_congr (congrFun (rowOf_congr e0 e1 e2 e3 e4 e5 e6 e7 e8 e9) _) (funext fun k => congrFun e4 _)
        (funext fun k => congrFun e4 _) _

end Cert.MergeClaim

end
-- ==== Proof.Experts.Body.lean ====
/-
  The experts' call: what its body does at a grid point. A point works on 512 rows of 1024, each kept as
  eight rows of 128 in the block of tiles it reads and in the one it writes. It takes the weights of the
  expert the table gives the point, and converts them only when that expert is another than the point
  before had; past the last used block it writes zeros.
-/
module

public import proofs.«01_k».proof.Proof.Gen.Kernel4Ideal.Launch
public import proofs.«01_k».proof.Proof.Gen.Kernel4Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel4Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal.Gen

variable {F : FTy → Type} [FloatOps F]

local notation "𝕄" => MT nD τ sig Unit (Elt F) ℕ (UR sig nD τ) ℕ

/-! ## The buffers, and the places the body reads and writes -/

/-- The table of experts and the number of used blocks, where the body reads them. -/
abbrev tabE : Memref sig .tc .smem S160 .i32 := Memref.whole main_arg0
abbrev tabN : Memref sig .tc .smem S1 .i32 := Memref.whole main_arg1
/-- The three buffers of converted weights. -/
abbrev keep0 : Memref sig .tc .vmem S1024x512 .bf16 := Memref.whole cc0_scratch0
abbrev keep1 : Memref sig .tc .vmem S1024x512 .bf16 := Memref.whole cc0_scratch1
abbrev keep2 : Memref sig .tc .vmem S512x1024 .bf16 := Memref.whole cc0_scratch2

/-- The rows `o`, `o + 8`, … of a block of tiles: one column group of 512 rows. -/
abbrev strip (o : Nat) (h : ∀ a, S512x128.size a = 0 ∨ (![o, 0] : Fin 2 → Nat) a + (![8, 1] : Fin 2 → Nat) a * (S512x128.size a - 1) < S4096x128.size a) :
    Rect S4096x128 := ⟨⟨![o, 0], S512x128.size, ![8, 1], h⟩, spos_8_1⟩
abbrev strip0 : Rect S4096x128 := strip 0 inb_S4096x128_S512x128_0_0_s_8_1
abbrev strip1 : Rect S4096x128 := strip 1 inb_S4096x128_S512x128_1_0_s_8_1
abbrev strip2 : Rect S4096x128 := strip 2 inb_S4096x128_S512x128_2_0_s_8_1
abbrev strip3 : Rect S4096x128 := strip 3 inb_S4096x128_S512x128_3_0_s_8_1
abbrev strip4 : Rect S4096x128 := strip 4 inb_S4096x128_S512x128_4_0_s_8_1
abbrev strip5 : Rect S4096x128 := strip 5 inb_S4096x128_S512x128_5_0_s_8_1
abbrev strip6 : Rect S4096x128 := strip 6 inb_S4096x128_S512x128_6_0_s_8_1
abbrev strip7 : Rect S4096x128 := strip 7 inb_S4096x128_S512x128_7_0_s_8_1
/-- A whole kept weight, a whole weight block, and a whole block of tiles. -/
abbrev wide : Rect S1024x512 := Rect.unit (s := S1024x512) ![0, 0] S1024x512.size inb_S1024x512_S1024x512_0_0
abbrev tall : Rect S512x1024 := Rect.unit (s := S512x1024) ![0, 0] S512x1024.size inb_S512x1024_S512x1024_0_0
abbrev wideB : Rect S1x1024x512 := Rect.unit (s := S1x1024x512) ![0, 0, 0] S1x1024x512.size inb_S1x1024x512_S1x1024x512_0_0_0
abbrev tallB : Rect S1x512x1024 := Rect.unit (s := S1x512x1024) ![0, 0, 0] S1x512x1024.size inb_S1x512x1024_S1x512x1024_0_0_0
abbrev board : Rect S4096x128 := Rect.unit (s := S4096x128) ![0, 0] S4096x128.size inb_S4096x128_S4096x128_0_0

theorem zero2 : (![0, 0] : Fin 2 → Nat) = fun _ => 0 := funext fun a => by fin_cases a <;> rfl
theorem zero3 : (![0, 0, 0] : Fin 3 → Nat) = fun _ => 0 := funext fun a => by fin_cases a <;> rfl

/-! ## The words the body decides by -/

/-- The number of used blocks, the point's expert, and the expert of the point before (at the first point its own). -/
abbrev wordN (T1 : S1.Idx → Elt F .i32) : BitVec 32 :=
  View.readAt (Elt F) (tabN).view (Rect.unit (s := S1) ![0] S1.size inb_S1_S1_0).toLoadRect T1 (Shape.Idx.first (numel1_S1.symm ▸ Nat.one_pos))
abbrev wordE (T0 : S160.Idx → Elt F .i32) (i : grid0.Coords) : BitVec 32 :=
  View.readAt (Elt F) (tabE).view (Rect.unit (s := S160) (k0_off1 i) S1.size (k0_off1_inb i)).toLoadRect T0 (Shape.Idx.first (numel1_S1.symm ▸ Nat.one_pos))
abbrev wordP (T0 : S160.Idx → Elt F .i32) (i : grid0.Coords) : BitVec 32 :=
  View.readAt (Elt F) (tabE).view (Rect.unit (s := S160) (k0_off2 i) S1.size (k0_off2_inb i)).toLoadRect T0 (Shape.Idx.first (numel1_S1.symm ▸ Nat.one_pos))

/-- Whether the weights are converted at a point. -/
abbrev Loads (i : grid0.Coords) (n e p : BitVec 32) : Prop :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32 = 1#1

/-! ## What the body leaves -/

/-- The product of a used block: its tiles put together to rows, through the three weights. -/
def prod (x : Vec F S4096x128 .f32) (s0 s1 : Vec F S1024x512 .bf16) (s2 : Vec F S512x1024 .bf16) : FVec F S512x1024 .f32 :=
  k0_pay10 (View.ld x strip0) (View.ld x strip1) (View.ld x strip2) (View.ld x strip3) (View.ld x strip4) (View.ld x strip5)
    (View.ld x strip6) (View.ld x strip7) s0 s1 s2

/-- A column group of a product. -/
def group0 (v : FVec F S512x1024 .f32) : FVec F S512x128 .f32 := extractStridedSlice S512x128 ![0, 0] v slices_S512x1024_o0_0_S512x128
def group1 (v : FVec F S512x1024 .f32) : FVec F S512x128 .f32 := extractStridedSlice S512x128 ![0, 128] v slices_S512x1024_o0_128_S512x128
def group2 (v : FVec F S512x1024 .f32) : FVec F S512x128 .f32 := extractStridedSlice S512x128 ![0, 256] v slices_S512x1024_o0_256_S512x128

/-- The tiles of a product, the later strips first. -/
def tiles (v : FVec F S512x1024 .f32) : List (View.Piece (Elt F) S4096x128 .f32) :=
  [⟨strip7, k0_pay8 v⟩, ⟨strip6, k0_pay7 v⟩, ⟨strip5, k0_pay6 v⟩, ⟨strip4, k0_pay5 v⟩,
    ⟨strip3, k0_pay4 v⟩, ⟨strip2, group2 v⟩, ⟨strip1, group1 v⟩, ⟨strip0, group0 v⟩]
def outTiles (v : FVec F S512x1024 .f32) : Vec F S4096x128 .f32 := View.canon (tiles v)

/-- A row of a block of tiles lies in the strip of its column group. -/
theorem mem_strip (o : Nat) (h) (y : S4096x128.Idx) (h₁ : (y 0 : Nat) % 8 = o) : y ∈ (strip o h).set := by
  have hy : (y 0 : Nat) < 4096 := (y 0).isLt
  refine (LoadRect.mem_set _).mpr fun a => ?_
  fin_cases a
  · refine ⟨(y 0 : Nat) / 8, (by omega : (y 0 : Nat) / 8 < 512), ?_⟩
    show (y 0 : Nat) = o + 8 * ((y 0 : Nat) / 8)
    omega
  · refine ⟨(y 1 : Nat), (y 1).isLt, ?_⟩
    show (y 1 : Nat) = 0 + 1 * (y 1 : Nat)
    omega

theorem tiles_cover (v : FVec F S512x1024 .f32) (y : S4096x128.Idx) : ∃ pc ∈ tiles v, y ∈ pc.1.set := by
  rcases (by omega : (y 0 : Nat) % 8 = 0 ∨ (y 0 : Nat) % 8 = 1 ∨ (y 0 : Nat) % 8 = 2 ∨ (y 0 : Nat) % 8 = 3 ∨ (y 0 : Nat) % 8 = 4
    ∨ (y 0 : Nat) % 8 = 5 ∨ (y 0 : Nat) % 8 = 6 ∨ (y 0 : Nat) % 8 = 7) with h | h | h | h | h | h | h | h
  · exact ⟨⟨strip0, group0 v⟩, by simp [tiles], mem_strip 0 _ y h⟩
  · exact ⟨⟨strip1, group1 v⟩, by simp [tiles], mem_strip 1 _ y h⟩
  · exact ⟨⟨strip2, group2 v⟩, by simp [tiles], mem_strip 2 _ y h⟩
  · exact ⟨⟨strip3, k0_pay4 v⟩, by simp [tiles], mem_strip 3 _ y h⟩
  · exact ⟨⟨strip4, k0_pay5 v⟩, by simp [tiles], mem_strip 4 _ y h⟩
  · exact ⟨⟨strip5, k0_pay6 v⟩, by simp [tiles], mem_strip 5 _ y h⟩
  · exact ⟨⟨strip6, k0_pay7 v⟩, by simp [tiles], mem_strip 6 _ y h⟩
  · exact ⟨⟨strip7, k0_pay8 v⟩, by simp [tiles], mem_strip 7 _ y h⟩

/-- The first three column groups, of the product as the body has it. -/
theorem group0_eq (a b c d e f g h : Vec F S512x128 .f32) (s0 s1 : Vec F S1024x512 .bf16) (s2 : Vec F S512x1024 .bf16) :
    k0_pay11 a b c d e f g h s0 s1 s2 = group0 (k0_pay10 a b c d e f g h s0 s1 s2) := rfl
theorem group1_eq (a b c d e f g h : Vec F S512x128 .f32) (s0 s1 : Vec F S1024x512 .bf16) (s2 : Vec F S512x1024 .bf16) :
    k0_pay12 a b c d e f g h s0 s1 s2 = group1 (k0_pay10 a b c d e f g h s0 s1 s2) := rfl
theorem group2_eq (a b c d e f g h : Vec F S512x128 .f32) (s0 s1 : Vec F S1024x512 .bf16) (s2 : Vec F S512x1024 .bf16) :
    k0_pay13 a b c d e f g h s0 s1 s2 = group2 (k0_pay10 a b c d e f g h s0 s1 s2) := rfl

/-- The tiles written over anything leave the block of tiles. -/
theorem read_tiles (v : View sig .tc .vmem S4096x128 .f32) (f : v.ty.Contents (Elt F)) (p : FVec F S512x1024 .f32) :
    v.read (Elt F) (v.writes (Elt F) f (tiles p)) = outTiles p := View.read_writes_eq_canon _ _ _ (tiles_cover p)

/-! ## The body's run, in its three cases -/

set_option maxHeartbeats 1000000 in
/-- Past the last used block the body writes zeros and keeps the weights. -/
theorem run_zero (c : Dev nD) (E : Set ℕ) (i : grid0.Coords) (arg3 : Memref sig .tc .vmem S4096x128 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4096x128 .f32) (harg7 : arg7.IsWhole)
    (T0 : S160.Idx → Elt F .i32) (T1 : S1.Idx → Elt F .i32)
    (x0 : Vec F S4096x128 .f32) (x1 x2 : Vec F S1x1024x512 .f32) (x3 : Vec F S1x512x1024 .f32) (s0 s1 : Vec F S1024x512 .bf16) (s2 : Vec F S512x1024 .bf16)
    (hc : ¬Loads i (wordN T1) (wordE T0 i) (wordP T0 i)) (h2 : ¬(k0_cond2 i (wordN T1) = 1#1)) (h3 : k0_cond3 i (wordN T1) = 1#1) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ (∃ d, owns (c : Thread nD τ) arg7 fullShare d) ∗ owns (c : Thread nD τ) keep0 fullShare s0 ∗ owns (c : Thread nD τ) keep1 fullShare s1 ∗ owns (c : Thread nD τ) keep2 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ owns (c : Thread nD τ) arg7 fullShare (k0_pay9 (F := F)) ∗ owns (c : Thread nD τ) keep0 fullShare s0 ∗ owns (c : Thread nD τ) keep1 fullShare s1 ∗ owns (c : Thread nD τ) keep2 fullShare s2) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 keep0 (Memref.isWhole_whole _) keep1 (Memref.isWhole_whole _) keep2 (Memref.isWhole_whole _)) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, H4⟩, ⟨%g0, %hg0, S0⟩, ⟨%g1, %hg1, S1⟩, ⟨%g2, %hg2, S2⟩, Hk⟩
  subst hf0 hf1 hf2 hf3 hg0 hg1 hg2
  have hS0 : keep0.IsWhole := Memref.isWhole_whole _
  have hS1 : keep1.IsWhole := Memref.isWhole_whole _
  have hS2 : keep2.IsWhole := Memref.isWhole_whole _
  have hT0 : tabE.IsWhole := Memref.isWhole_whole _
  have hT1 : tabN.IsWhole := Memref.isWhole_whole _
  sl_exec (disch := first | exact hc | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HT0]; · iexact HT0
  isplitl [HT1]; · iexact HT1
  isplitl [H4]
  · iexists _; isplitr
    swap; · iexact H4
    ipureintro
    sl_unfold_words
    exact View.read_writes_full (s := S4096x128) arg7.view _ _ _ _
  isplitl [S0]
  · iexists g0; isplitr; · ipureintro; rfl
    iexact S0
  isplitl [S1]
  · iexists g1; isplitr; · ipureintro; rfl
    iexact S1
  iexists g2; isplitr; · ipureintro; rfl
  iexact S2

set_option maxHeartbeats 1000000 in
/-- At a used block of the same expert as the point before the body works with the weights it has. -/
theorem run_keep (c : Dev nD) (E : Set ℕ) (i : grid0.Coords) (arg3 : Memref sig .tc .vmem S4096x128 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4096x128 .f32) (harg7 : arg7.IsWhole)
    (T0 : S160.Idx → Elt F .i32) (T1 : S1.Idx → Elt F .i32)
    (x0 : Vec F S4096x128 .f32) (x1 x2 : Vec F S1x1024x512 .f32) (x3 : Vec F S1x512x1024 .f32) (s0 s1 : Vec F S1024x512 .bf16) (s2 : Vec F S512x1024 .bf16)
    (hc : ¬Loads i (wordN T1) (wordE T0 i) (wordP T0 i)) (h2 : k0_cond2 i (wordN T1) = 1#1) (h3 : ¬(k0_cond3 i (wordN T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ (∃ d, owns (c : Thread nD τ) arg7 fullShare d) ∗ owns (c : Thread nD τ) keep0 fullShare s0 ∗ owns (c : Thread nD τ) keep1 fullShare s1 ∗ owns (c : Thread nD τ) keep2 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ owns (c : Thread nD τ) arg7 fullShare (outTiles (prod x0 s0 s1 s2)) ∗ owns (c : Thread nD τ) keep0 fullShare s0 ∗ owns (c : Thread nD τ) keep1 fullShare s1 ∗ owns (c : Thread nD τ) keep2 fullShare s2) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 keep0 (Memref.isWhole_whole _) keep1 (Memref.isWhole_whole _) keep2 (Memref.isWhole_whole _)) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, H4⟩, ⟨%g0, %hg0, S0⟩, ⟨%g1, %hg1, S1⟩, ⟨%g2, %hg2, S2⟩, Hk⟩
  subst hf0 hf1 hf2 hf3 hg0 hg1 hg2
  have hS0 : keep0.IsWhole := Memref.isWhole_whole _
  have hS1 : keep1.IsWhole := Memref.isWhole_whole _
  have hS2 : keep2.IsWhole := Memref.isWhole_whole _
  have hT0 : tabE.IsWhole := Memref.isWhole_whole _
  have hT1 : tabN.IsWhole := Memref.isWhole_whole _
  sl_exec (disch := first | exact hc | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HT0]; · iexact HT0
  isplitl [HT1]; · iexact HT1
  isplitl [H4]
  · iexists _; isplitr
    swap; · iexact H4
    ipureintro
    refine Eq.trans ?_ (read_tiles arg7.view f4 _)
    refine congrArg (fun L => arg7.view.read (Elt F) (arg7.view.writes (Elt F) f4 L)) ?_
    sl_unfold_words
    simp only [group0_eq, group1_eq, group2_eq]
    generalize hv : k0_pay10 (F := F) _ _ _ _ _ _ _ _ _ _ _ = v
    have hp : prod (View.read (Elt F) arg3.view f0) (View.read (Elt F) keep0.view g0) (View.read (Elt F) keep1.view g1) (View.read (Elt F) keep2.view g2) = v := by
      rw [← hv, View.readAt_full (s := S1024x512), View.readAt_full (s := S1024x512), View.readAt_full (s := S512x1024)]
      rfl
    rw [hp]
    rfl
  isplitl [S0]
  · iexists g0; isplitr; · ipureintro; rfl
    iexact S0
  isplitl [S1]
  · iexists g1; isplitr; · ipureintro; rfl
    iexact S1
  iexists g2; isplitr; · ipureintro; rfl
  iexact S2

set_option maxHeartbeats 1000000 in
/-- At a used block of another expert the body converts the weights and works with them. -/
theorem run_load (c : Dev nD) (E : Set ℕ) (i : grid0.Coords) (arg3 : Memref sig .tc .vmem S4096x128 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4096x128 .f32) (harg7 : arg7.IsWhole)
    (T0 : S160.Idx → Elt F .i32) (T1 : S1.Idx → Elt F .i32)
    (x0 : Vec F S4096x128 .f32) (x1 x2 : Vec F S1x1024x512 .f32) (x3 : Vec F S1x512x1024 .f32) (s0 s1 : Vec F S1024x512 .bf16) (s2 : Vec F S512x1024 .bf16)
    (hc : Loads i (wordN T1) (wordE T0 i) (wordP T0 i)) (h2 : k0_cond2 i (wordN T1) = 1#1) (h3 : ¬(k0_cond3 i (wordN T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ (∃ d, owns (c : Thread nD τ) arg7 fullShare d) ∗ owns (c : Thread nD τ) keep0 fullShare s0 ∗ owns (c : Thread nD τ) keep1 fullShare s1 ∗ owns (c : Thread nD τ) keep2 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ owns (c : Thread nD τ) arg7 fullShare (outTiles (prod x0 (k0_pay1 x1) (k0_pay2 x2) (k0_pay3 x3))) ∗ owns (c : Thread nD τ) keep0 fullShare (k0_pay1 x1) ∗ owns (c : Thread nD τ) keep1 fullShare (k0_pay2 x2) ∗ owns (c : Thread nD τ) keep2 fullShare (k0_pay3 x3)) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 keep0 (Memref.isWhole_whole _) keep1 (Memref.isWhole_whole _) keep2 (Memref.isWhole_whole _)) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, H4⟩, ⟨%g0, %hg0, S0⟩, ⟨%g1, %hg1, S1⟩, ⟨%g2, %hg2, S2⟩, Hk⟩
  subst hf0 hf1 hf2 hf3 hg0 hg1 hg2
  have hS0 : keep0.IsWhole := Memref.isWhole_whole _
  have hS1 : keep1.IsWhole := Memref.isWhole_whole _
  have hS2 : keep2.IsWhole := Memref.isWhole_whole _
  have hT0 : tabE.IsWhole := Memref.isWhole_whole _
  have hT1 : tabN.IsWhole := Memref.isWhole_whole _
  sl_exec (disch := first | exact hc | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HT0]; · iexact HT0
  isplitl [HT1]; · iexact HT1
  isplitl [H4]
  · iexists _; isplitr
    swap; · iexact H4
    ipureintro
    refine Eq.trans ?_ (read_tiles arg7.view f4 _)
    refine congrArg (fun L => arg7.view.read (Elt F) (arg7.view.writes (Elt F) f4 L)) ?_
    sl_unfold_words
    simp only [group0_eq, group1_eq, group2_eq]
    generalize hv : k0_pay10 (F := F) _ _ _ _ _ _ _ _ _ _ _ = v
    have hp : prod (View.read (Elt F) arg3.view f0) (k0_pay1 (View.read (Elt F) arg4.view f1)) (k0_pay2 (View.read (Elt F) arg5.view f2)) (k0_pay3 (View.read (Elt F) arg6.view f3)) = v := by
      rw [← hv, View.readCov_full (s := S1024x512), View.readCov_full (s := S1024x512), View.readCov_full (s := S512x1024),
        View.readAt_full (s := S1x1024x512), View.readAt_full (s := S1x1024x512), View.readAt_full (s := S1x512x1024)]
      rfl
    rw [hp]
    rfl
  isplitl [S0]
  · iexists _; isplitr
    swap; · iexact S0
    ipureintro
    sl_unfold_words
    rw [View.read_writes_full (s := S1024x512), View.readAt_full (s := S1x1024x512)]
  isplitl [S1]
  · iexists _; isplitr
    swap; · iexact S1
    ipureintro
    sl_unfold_words
    rw [View.read_writes_full (s := S1024x512), View.readAt_full (s := S1x1024x512)]
  iexists _; isplitr
  swap; · iexact S2
  ipureintro
  sl_unfold_words
  rw [View.read_writes_full (s := S512x1024), View.readAt_full (s := S1x512x1024)]

end Cert.Kernel4Ideal.Experts

end
-- ==== Proof.Experts.Run.lean ====
/-
  The experts' call: its points put together, at whatever experts and number of used blocks the tables
  hold, its run and its frame. What a point leaves follows from its own blocks alone: a point that converts
  nothing has the same expert as the point before, whose weights are still there.
-/
module

public import proofs.«01_k».proof.Proof.Experts.Body
public import Idealize.ShloMosaic.Lib.WordCmp

@[expose] public section

set_option maxRecDepth 16384

noncomputable section

namespace Cert.Kernel4Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal.Gen

variable {F : FTy → Type} [FloatOps F]

local notation "𝕄" => MT nD τ sig Unit (Elt F) ℕ (UR sig nD τ) ℕ

/-! ## The points and their words -/

theorem points (t : Fin grid0.N) : t.val < 160 := lt_of_lt_of_eq t.isLt N_0

theorem first_coord : ∀ t : Fin grid0.N, (grid0.coords t 0).val = t.val := by decide +kernel
theorem own_place : ∀ t : Fin grid0.N, k0_off1 (grid0.coords t) 0 = t.val := by decide +kernel
theorem prev_place : ∀ t : Fin grid0.N, k0_off2 (grid0.coords t) 0 = t.val - 1 := by decide +kernel

theorem word_same (T0 : S160.Idx → Elt F .i32) (i j : grid0.Coords) (h : k0_off2 i 0 = k0_off1 j 0) : wordP (F := F) T0 i = wordE T0 j := by
  show T0 _ = T0 _
  refine congrArg T0 (funext fun d => Fin.ext ?_)
  match d with
  | ⟨0, _⟩ =>
    show k0_off2 i 0 + 1 * _ = k0_off1 j 0 + 1 * _
    rw [h]

theorem wordP_eq (T0 : S160.Idx → Elt F .i32) (t t' : Fin grid0.N) (h : t'.val + 1 = t.val) :
    wordP (F := F) T0 (grid0.coords t) = wordE T0 (grid0.coords t') :=
  word_same T0 _ _ (by rw [prev_place, own_place]; omega)

theorem bit_iff : ∀ b : BitVec 1, (Scalar.cmpi .ne (Scalar.extui b) 0#32 = 1#1) ↔ b = 1#1 := by decide

theorem used_iff (t : Fin grid0.N) (n : BitVec 32) : k0_cond2 (grid0.coords t) n = 1#1 ↔ ((BitVec.ofNat 32 t.val).toInt < n.toInt) := by
  unfold k0_cond2
  dsimp only
  rw [bit_iff, first_coord]
  show BitVec.ofBool (decide _) = 1#1 ↔ _
  by_cases h : (BitVec.ofNat 32 t.val).toInt < n.toInt <;> simp [h]

theorem unused_iff (t : Fin grid0.N) (n : BitVec 32) : k0_cond3 (grid0.coords t) n = 1#1 ↔ ¬(k0_cond2 (grid0.coords t) n = 1#1) := by
  rw [used_iff]
  unfold k0_cond3
  dsimp only
  rw [bit_iff, first_coord]
  show BitVec.ofBool (decide (n.toInt ≤ (BitVec.ofNat 32 t.val).toInt)) = 1#1 ↔ _
  by_cases h : n.toInt ≤ (BitVec.ofNat 32 t.val).toInt <;> simp [h] <;> omega

theorem small_toInt (k : Nat) (h : k < 160) : (BitVec.ofNat 32 k).toInt = (k : Int) := by
  rw [BitVec.toInt_eq_toNat_cond]
  simp only [BitVec.toNat_ofNat]
  rw [Nat.mod_eq_of_lt (by omega)]
  split <;> omega

theorem used_lt (t : Fin grid0.N) (n : BitVec 32) : k0_cond2 (grid0.coords t) n = 1#1 ↔ ((t.val : Int) < n.toInt) := by
  rw [used_iff, small_toInt _ (points t)]

theorem and_or : ∀ a b c : BitVec 1, Scalar.andi a (Scalar.ori b c) = 1#1 ↔ a = 1#1 ∧ (b = 1#1 ∨ c = 1#1) := by decide

theorem loads_iff (t : Fin grid0.N) (n e p : BitVec 32) :
    Loads (grid0.coords t) n e p ↔ k0_cond2 (grid0.coords t) n = 1#1 ∧ (t.val = 0 ∨ e ≠ p) := by
  have hN : t.val < 160 := points t
  unfold Loads k0_cond2
  dsimp only
  rw [bit_iff, bit_iff, and_or]
  refine and_congr_right fun _ => or_congr ?_ ?_
  · rw [first_coord]
    show IntOp.cmpi .eq (BitVec.ofNat 32 t.val) 0#32 = 1#1 ↔ _
    show BitVec.ofBool (decide (BitVec.ofNat 32 t.val = 0#32)) = 1#1 ↔ _
    have hz : BitVec.ofNat 32 t.val = 0#32 ↔ t.val = 0 := by
      rw [← BitVec.toNat_inj]
      simp only [BitVec.toNat_ofNat]
      omega
    by_cases h : t.val = 0 <;> simp [hz, h]
  · show IntOp.cmpi .ne e p = 1#1 ↔ _
    have hx : IntOp.cmpi .ne e p = BitVec.ofBool (decide (e ≠ p)) := WordCmp.cmpi_ne_eq e p
    rw [hx]
    by_cases h : e = p <;> simp [h]

/-! ## The pipeline at given tables -/

variable (a : (pcfg0 (F := F)).Adm)
variable (m : (ℓ : Loc nD τ sig) → Buf (Elt F) ℓ) (ρ : Dev nD → PrngReg)

abbrev cfgA : Pipeline.Cfg sig Λ₀ := cfg0 (F := F) a
abbrev pcs : Fin 1 → Pipeline.Cfg sig Λ₀ := Pipeline.pin (pcfgs (F := F)) fun _ => a

/-- The tables, as functions of the place. -/
abbrev tE : S160.Idx → Elt F .i32 := a.1 0
abbrev tN : S1.Idx → Elt F .i32 := a.1 1

abbrev crd (t : Fin (cfgA a).N) : grid0.Coords := grid0.coords t

abbrev st0 (t : Fin (cfgA a).N) : Memref sig .tc .vmem S4096x128 .f32 := spec0_0.stage ((cfgA a).slots t (0 : Fin 5))
abbrev wh0 (t : Fin (cfgA a).N) : (st0 a t).IsWhole := hstage0_0 (((cfgA a).slots t (0 : Fin 5)).cast nbuf0_0)
abbrev st1 (t : Fin (cfgA a).N) : Memref sig .tc .vmem S1x1024x512 .f32 := spec0_1.stage ((cfgA a).slots t (1 : Fin 5))
abbrev wh1 (t : Fin (cfgA a).N) : (st1 a t).IsWhole := hstage0_1 (((cfgA a).slots t (1 : Fin 5)).cast nbuf0_1)
abbrev st2 (t : Fin (cfgA a).N) : Memref sig .tc .vmem S1x1024x512 .f32 := spec0_2.stage ((cfgA a).slots t (2 : Fin 5))
abbrev wh2 (t : Fin (cfgA a).N) : (st2 a t).IsWhole := hstage0_2 (((cfgA a).slots t (2 : Fin 5)).cast nbuf0_2)
abbrev st3 (t : Fin (cfgA a).N) : Memref sig .tc .vmem S1x512x1024 .f32 := spec0_3.stage ((cfgA a).slots t (3 : Fin 5))
abbrev wh3 (t : Fin (cfgA a).N) : (st3 a t).IsWhole := hstage0_3 (((cfgA a).slots t (3 : Fin 5)).cast nbuf0_3)
abbrev st4 (t : Fin (cfgA a).N) : Memref sig .tc .vmem S4096x128 .f32 := spec0_4.stage ((cfgA a).slots t (4 : Fin 5))
abbrev wh4 (t : Fin (cfgA a).N) : (st4 a t).IsWhole := hstage0_4 (((cfgA a).slots t (4 : Fin 5)).cast nbuf0_4)

/-- A window's block at a point, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) ((s₀ m ρ).mem (((cfgA a).win w).arr.view.loc (c : Thread nD τ)))

abbrev blk0 (c : Dev nD) (t : Fin (cfgA a).N) : Vec F S4096x128 .f32 := iblk a m ρ c (0 : Fin 5) t
abbrev blk1 (c : Dev nD) (t : Fin (cfgA a).N) : Vec F S1x1024x512 .f32 := iblk a m ρ c (1 : Fin 5) t
abbrev blk2 (c : Dev nD) (t : Fin (cfgA a).N) : Vec F S1x1024x512 .f32 := iblk a m ρ c (2 : Fin 5) t
abbrev blk3 (c : Dev nD) (t : Fin (cfgA a).N) : Vec F S1x512x1024 .f32 := iblk a m ρ c (3 : Fin 5) t

theorem place1 (i : grid0.Coords) : ix0 a.1 1 i = ![(wordE (tE a) i).toNat, 0, 0] := rfl
theorem place2 (i : grid0.Coords) : ix0 a.1 2 i = ![(wordE (tE a) i).toNat, 0, 0] := rfl
theorem place3 (i : grid0.Coords) : ix0 a.1 3 i = ![(wordE (tE a) i).toNat, 0, 0] := rfl

/-- Points of one expert have the same weights. -/
theorem blk1_same (c : Dev nD) (t t' : Fin (cfgA a).N) (h : wordE (tE a) (crd a t) = wordE (tE a) (crd a t')) : blk1 a m ρ c t = blk1 a m ρ c t' := by
  have e : ix0 a.1 1 (crd a t) = ix0 a.1 1 (crd a t') := by rw [place1, place1, h]
  funext y
  unfold blk1 iblk
  rw [View.read_apply, View.read_apply]
  refine congrArg (m ((c : Thread nD τ).loc main_arg3)) (funext fun d => Fin.ext ?_)
  show ix0 a.1 1 (crd a t) d * S1x1024x512.size d + 1 * (y d).val = ix0 a.1 1 (crd a t') d * S1x1024x512.size d + 1 * (y d).val
  rw [e]
theorem blk2_same (c : Dev nD) (t t' : Fin (cfgA a).N) (h : wordE (tE a) (crd a t) = wordE (tE a) (crd a t')) : blk2 a m ρ c t = blk2 a m ρ c t' := by
  have e : ix0 a.1 2 (crd a t) = ix0 a.1 2 (crd a t') := by rw [place2, place2, h]
  funext y
  unfold blk2 iblk
  rw [View.read_apply, View.read_apply]
  refine congrArg (m ((c : Thread nD τ).loc main_arg4)) (funext fun d => Fin.ext ?_)
  show ix0 a.1 2 (crd a t) d * S1x1024x512.size d + 1 * (y d).val = ix0 a.1 2 (crd a t') d * S1x1024x512.size d + 1 * (y d).val
  rw [e]
theorem blk3_same (c : Dev nD) (t t' : Fin (cfgA a).N) (h : wordE (tE a) (crd a t) = wordE (tE a) (crd a t')) : blk3 a m ρ c t = blk3 a m ρ c t' := by
  have e : ix0 a.1 3 (crd a t) = ix0 a.1 3 (crd a t') := by rw [place3, place3, h]
  funext y
  unfold blk3 iblk
  rw [View.read_apply, View.read_apply]
  refine congrArg (m ((c : Thread nD τ).loc main_arg5)) (funext fun d => Fin.ext ?_)
  show ix0 a.1 3 (crd a t) d * S1x512x1024.size d + 1 * (y d).val = ix0 a.1 3 (crd a t') d * S1x512x1024.size d + 1 * (y d).val
  rw [e]

/-! ## What the points leave -/

/-- Whether a point works on a used block. -/
abbrev Used (t : Fin (cfgA a).N) : Prop := k0_cond2 (crd a t) (wordN (tN a)) = 1#1

/-- A point's block of tiles. -/
def tilesAt (c : Dev nD) (t : Fin (cfgA a).N) : Vec F S4096x128 .f32 :=
  if Used a t then outTiles (prod (blk0 a m ρ c t) (k0_pay1 (blk1 a m ρ c t)) (k0_pay2 (blk2 a m ρ c t)) (k0_pay3 (blk3 a m ρ c t)))
  else k0_pay9 (F := F)

/-- What the kept weights are known to be before a point: after a used block, those of its expert. -/
def Kept (c : Dev nD) (n : Nat) (s0 s1 : Vec F S1024x512 .bf16) (s2 : Vec F S512x1024 .bf16) : Prop :=
  ∀ t : Fin (cfgA a).N, t.val + 1 = n → Used a t → s0 = k0_pay1 (blk1 a m ρ c t) ∧ s1 = k0_pay2 (blk2 a m ρ c t) ∧ s2 = k0_pay3 (blk3 a m ρ c t)

/-- Between the points: the kept weights, and the body's halves of the tables. -/
def Phi (c : Dev nD) (t : Fin ((cfgA a).N + 1)) : sProp 𝕄 :=
  iprop(∃ s0, ∃ s1, ∃ s2, ⌜Kept a m ρ c t.val s0 s1 s2⌝ ∗ owns (c : Thread nD τ) keep0 fullShare s0 ∗ owns (c : Thread nD τ) keep1 fullShare s1 ∗ owns (c : Thread nD τ) keep2 fullShare s2
    ∗ (tabE.view.loc (c : Thread nD τ) ↦{fullShare.right} tE a) ∗ (tabN.view.loc (c : Thread nD τ) ↦{fullShare.right} tN a))

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => tilesAt a m ρ c t
  Φ t := Phi a m ρ c t
  q _ := fullShare
  owed _ := 0

theorem left0 (c : Dev nD) (t : Fin (cfgA a).N) : (dats a m ρ 0 c).after (0 : Fin 5) t = iblk a m ρ c (0 : Fin 5) t := rfl
theorem left1 (c : Dev nD) (t : Fin (cfgA a).N) : (dats a m ρ 0 c).after (1 : Fin 5) t = iblk a m ρ c (1 : Fin 5) t := rfl
theorem left2 (c : Dev nD) (t : Fin (cfgA a).N) : (dats a m ρ 0 c).after (2 : Fin 5) t = iblk a m ρ c (2 : Fin 5) t := rfl
theorem left3 (c : Dev nD) (t : Fin (cfgA a).N) : (dats a m ρ 0 c).after (3 : Fin 5) t = iblk a m ρ c (3 : Fin 5) t := rfl
theorem left4 (c : Dev nD) (t : Fin (cfgA a).N) : (dats a m ρ 0 c).after (4 : Fin 5) t = tilesAt a m ρ c t := rfl

/-- Before the body an input's buffer holds its block. -/
theorem found0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [left0]; unfold Dat.blockOf iblk; rfl) t d).trans
    (by unfold Dat.fetched Dat.blockOf iblk; rfl)
theorem found1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [left1]; unfold Dat.blockOf iblk; rfl) t d).trans
    (by unfold Dat.fetched Dat.blockOf iblk; rfl)
theorem found2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [left2]; unfold Dat.blockOf iblk; rfl) t d).trans
    (by unfold Dat.fetched Dat.blockOf iblk; rfl)
theorem found3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [left3]; unfold Dat.blockOf iblk; rfl) t d).trans
    (by unfold Dat.fetched Dat.blockOf iblk; rfl)

/-- No point leaves its block of tiles untouched. -/
theorem never_idle (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · simp only [h, beq_self_eq_true, Bool.not_true, Bool.false_and]
  · simp only [(unused_iff t _).mpr h, beq_self_eq_true, Bool.not_true, Bool.and_false]

/-! ## The body at a point -/

abbrev bodyAt (t : Fin (cfgA a).N) : Prog (TpuEff nD τ sig (Elt F) Λ₀ .tc) PUnit :=
  cc0_moe_experts (crd a t) tabE (Memref.isWhole_whole _) tabN (Memref.isWhole_whole _) (st0 a t) (wh0 a t) (st1 a t) (wh1 a t) (st2 a t) (wh2 a t) (st3 a t) (wh3 a t) (st4 a t) (wh4 a t) keep0 (Memref.isWhole_whole _) keep1 (Memref.isWhole_whole _) keep2 (Memref.isWhole_whole _)

/-- From the blocks and the kept weights the body leaves the point's block of tiles, and weights that are kept. -/
theorem body_at (c : Dev nD) (t : Fin (cfgA a).N) (s0 s1 : Vec F S1024x512 .bf16) (s2 : Vec F S512x1024 .bf16) (hk : Kept a m ρ c t.val s0 s1 s2) (K : PUnit → sProp 𝕄) :
    iprop(owns (c : Thread nD τ) (st0 a t) fullShare (blk0 a m ρ c t) ∗ owns (c : Thread nD τ) (st1 a t) fullShare (blk1 a m ρ c t) ∗ owns (c : Thread nD τ) (st2 a t) fullShare (blk2 a m ρ c t) ∗ owns (c : Thread nD τ) (st3 a t) fullShare (blk3 a m ρ c t)
        ∗ (tabE.view.loc (c : Thread nD τ) ↦{fullShare.right} tE a) ∗ (tabN.view.loc (c : Thread nD τ) ↦{fullShare.right} tN a)
        ∗ (∃ d, owns (c : Thread nD τ) (st4 a t) fullShare d)
        ∗ owns (c : Thread nD τ) keep0 fullShare s0 ∗ owns (c : Thread nD τ) keep1 fullShare s1 ∗ owns (c : Thread nD τ) keep2 fullShare s2
        ∗ (iprop(owns (c : Thread nD τ) (st0 a t) fullShare (blk0 a m ρ c t) ∗ owns (c : Thread nD τ) (st1 a t) fullShare (blk1 a m ρ c t) ∗ owns (c : Thread nD τ) (st2 a t) fullShare (blk2 a m ρ c t) ∗ owns (c : Thread nD τ) (st3 a t) fullShare (blk3 a m ρ c t)
            ∗ owns (c : Thread nD τ) (st4 a t) fullShare (tilesAt a m ρ c t) ∗ Phi a m ρ c t.succ) -∗ K ⟨⟩))
      ⊢ wp frame (wpE (defs₀ (F := F)) Variants.none c none) Set.univ (bodyAt a t) K := by
  have same : ∀ t' : Fin (cfgA a).N, t'.val + 1 = t.succ.val → t' = t := fun t' h => Fin.ext (by rw [Fin.val_succ] at h; omega)
  by_cases hu : Used a t
  · have h3 : ¬(k0_cond3 (crd a t) (wordN (tN a)) = 1#1) := fun h => (unused_iff t _).mp h hu
    by_cases hc : Loads (crd a t) (wordN (tN a)) (wordE (tE a) (crd a t)) (wordP (tE a) (crd a t))
    · iintro ⟨H0, H1, H2, H3, HT0, HT1, H4, S0, S1, S2, Hk⟩
      iapply (run_load c Set.univ (crd a t) (st0 a t) (wh0 a t) (st1 a t) (wh1 a t) (st2 a t) (wh2 a t) (st3 a t) (wh3 a t) (st4 a t) (wh4 a t) (tE a) (tN a) (blk0 a m ρ c t) (blk1 a m ρ c t) (blk2 a m ρ c t) (blk3 a m ρ c t) s0 s1 s2 hc hu h3)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [S0]; · iexact S0
      isplitl [S1]; · iexact S1
      isplitl [S2]; · iexact S2
      iintro ⟨H0, H1, H2, H3, HT0, HT1, H4, S0, S1, S2⟩
      iapply Hk
      isplitl [H0]; · iexact H0
      isplitl [H1]; · iexact H1
      isplitl [H2]; · iexact H2
      isplitl [H3]; · iexact H3
      rw [show tilesAt a m ρ c t = outTiles (prod (blk0 a m ρ c t) (k0_pay1 (blk1 a m ρ c t)) (k0_pay2 (blk2 a m ρ c t)) (k0_pay3 (blk3 a m ρ c t))) from if_pos hu]
      isplitl [H4]; · iexact H4
      unfold Phi
      iexists _, _, _
      isplitr
      · ipureintro; intro t' h' _; rw [same t' h']; exact ⟨rfl, rfl, rfl⟩
      isplitl [S0]; · iexact S0
      isplitl [S1]; · iexact S1
      isplitl [S2]; · iexact S2
      isplitl [HT0]; · iexact HT0
      iexact HT1
    · have h0 : t.val ≠ 0 := fun h => hc ((loads_iff t _ _ _).mpr ⟨hu, .inl h⟩)
      have he : wordE (tE a) (crd a t) = wordP (tE a) (crd a t) := not_not.mp fun h => hc ((loads_iff t _ _ _).mpr ⟨hu, .inr h⟩)
      obtain ⟨t', ht'⟩ : ∃ t' : Fin (cfgA a).N, t'.val + 1 = t.val := ⟨⟨t.val - 1, by omega⟩, by show t.val - 1 + 1 = t.val; omega⟩
      have he' : wordE (tE a) (crd a t') = wordE (tE a) (crd a t) := (wordP_eq (tE a) t t' ht').symm.trans he.symm
      have hu' : Used a t' := (used_lt t' _).mpr (by have := (used_lt t _).mp hu; omega)
      obtain ⟨e0, e1, e2⟩ := hk t' ht' hu'
      rw [blk1_same a m ρ c t' t he'] at e0
      rw [blk2_same a m ρ c t' t he'] at e1
      rw [blk3_same a m ρ c t' t he'] at e2
      iintro ⟨H0, H1, H2, H3, HT0, HT1, H4, S0, S1, S2, Hk⟩
      iapply (run_keep c Set.univ (crd a t) (st0 a t) (wh0 a t) (st1 a t) (wh1 a t) (st2 a t) (wh2 a t) (st3 a t) (wh3 a t) (st4 a t) (wh4 a t) (tE a) (tN a) (blk0 a m ρ c t) (blk1 a m ρ c t) (blk2 a m ρ c t) (blk3 a m ρ c t) s0 s1 s2 hc hu h3)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [S0]; · iexact S0
      isplitl [S1]; · iexact S1
      isplitl [S2]; · iexact S2
      iintro ⟨H0, H1, H2, H3, HT0, HT1, H4, S0, S1, S2⟩
      iapply Hk
      isplitl [H0]; · iexact H0
      isplitl [H1]; · iexact H1
      isplitl [H2]; · iexact H2
      isplitl [H3]; · iexact H3
      rw [show tilesAt a m ρ c t = outTiles (prod (blk0 a m ρ c t) s0 s1 s2) from (if_pos hu).trans (by rw [e0, e1, e2])]
      isplitl [H4]; · iexact H4
      unfold Phi
      iexists _, _, _
      isplitr
      · ipureintro; intro t' h' _; rw [same t' h']; exact ⟨e0, e1, e2⟩
      isplitl [S0]; · iexact S0
      isplitl [S1]; · iexact S1
      isplitl [S2]; · iexact S2
      isplitl [HT0]; · iexact HT0
      iexact HT1
  · have h3 : k0_cond3 (crd a t) (wordN (tN a)) = 1#1 := (unused_iff t _).mpr hu
    have hc : ¬Loads (crd a t) (wordN (tN a)) (wordE (tE a) (crd a t)) (wordP (tE a) (crd a t)) := fun h => hu ((loads_iff t _ _ _).mp h).1
    iintro ⟨H0, H1, H2, H3, HT0, HT1, H4, S0, S1, S2, Hk⟩
    iapply (run_zero c Set.univ (crd a t) (st0 a t) (wh0 a t) (st1 a t) (wh1 a t) (st2 a t) (wh2 a t) (st3 a t) (wh3 a t) (st4 a t) (wh4 a t) (tE a) (tN a) (blk0 a m ρ c t) (blk1 a m ρ c t) (blk2 a m ρ c t) (blk3 a m ρ c t) s0 s1 s2 hc hu h3)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [S0]; · iexact S0
    isplitl [S1]; · iexact S1
    isplitl [S2]; · iexact S2
    iintro ⟨H0, H1, H2, H3, HT0, HT1, H4, S0, S1, S2⟩
    iapply Hk
    isplitl [H0]; · iexact H0
    isplitl [H1]; · iexact H1
    isplitl [H2]; · iexact H2
    isplitl [H3]; · iexact H3
    rw [show tilesAt a m ρ c t = k0_pay9 (F := F) from if_neg hu]
    isplitl [H4]; · iexact H4
    unfold Phi
    iexists s0, s1, s2
    isplitr
    · ipureintro; intro t' h' hu'; rw [same t' h'] at hu'; exact absurd hu' hu
    isplitl [S0]; · iexact S0
    isplitl [S1]; · iexact S1
    isplitl [S2]; · iexact S2
    isplitl [HT0]; · iexact HT0
    iexact HT1

set_option maxHeartbeats 4000000 in
theorem body_obligation (c : Dev nD) : BodyObligation (dats a m ρ 0 c) (defs₀ (F := F)) Variants.none () Set.univ := fun t => by
  rw [bigSep_W0, bigSep_W0]
  rewrite [never_idle a t]
  simp only [found0, found1, found2, found3, left0, left1, left2, left3, left4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  rw [show Phi a m ρ c t.castSucc = iprop(∃ s0, ∃ s1, ∃ s2, ⌜Kept a m ρ c t.val s0 s1 s2⌝ ∗ owns (c : Thread nD τ) keep0 fullShare s0 ∗ owns (c : Thread nD τ) keep1 fullShare s1 ∗ owns (c : Thread nD τ) keep2 fullShare s2
    ∗ (tabE.view.loc (c : Thread nD τ) ↦{fullShare.right} tE a) ∗ (tabN.view.loc (c : Thread nD τ) ↦{fullShare.right} tN a)) from rfl]
  iintro ⟨⟨%s0, %s1, %s2, %hk, S0, S1, S2, HT0, HT1⟩, Ho, ⟨%d0, H0⟩, ⟨%d1, H1⟩, ⟨%d2, H2⟩, ⟨%d3, H3⟩, ⟨%d4, H4⟩⟩
  iapply (body_at a m ρ c t s0 s1 s2 hk)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [S0]; · iexact S0
  isplitl [S1]; · iexact S1
  isplitl [S2]; · iexact S2
  iintro ⟨H0, H1, H2, H3, H4, HP⟩
  isplitl [HP]; · iexact HP
  isplitl [Ho]; · iexact Ho
  isplitl [H0]; · iexact H0
  isplitl [H1]; · iexact H1
  isplitl [H2]; · iexact H2
  isplitl [H3]; · iexact H3
  iexact H4

/-! ## The launch -/

abbrev EP : Emb (UR sig nD τ) 𝕄 := emb₁

/-- The launch's own part of the resources. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- A whole buffer is owned at what it holds. -/
theorem hold0 (c : Dev nD) (f : Vec F S1024x512 .bf16) : (((c : Thread nD τ).loc cc0_scratch0) ↦{fullShare} f) ⊢ (owns (c : Thread nD τ) keep0 fullShare f : sProp 𝕄) := by
  unfold owns
  iintro H; iexists f; isplitr
  · ipureintro; rfl
  simp only [View.set_whole]; iexact H
theorem hold1 (c : Dev nD) (f : Vec F S1024x512 .bf16) : (((c : Thread nD τ).loc cc0_scratch1) ↦{fullShare} f) ⊢ (owns (c : Thread nD τ) keep1 fullShare f : sProp 𝕄) := by
  unfold owns
  iintro H; iexists f; isplitr
  · ipureintro; rfl
  simp only [View.set_whole]; iexact H
theorem hold2 (c : Dev nD) (f : Vec F S512x1024 .bf16) : (((c : Thread nD τ).loc cc0_scratch2) ↦{fullShare} f) ⊢ (owns (c : Thread nD τ) keep2 fullShare f : sProp 𝕄) := by
  unfold owns
  iintro H; iexists f; isplitr
  · ipureintro; rfl
  simp only [View.set_whole]; iexact H

/-- An owned whole buffer can be handed back. -/
theorem back0 (c : Dev nD) (s : Vec F S1024x512 .bf16) : (owns (c : Thread nD τ) keep0 fullShare s : sProp 𝕄) ⊢ iprop(∃ f, ((c : Thread nD τ).loc cc0_scratch0) ↦{fullShare} f) := by
  unfold owns
  iintro ⟨%f, -, H⟩; iexists f
  simp only [View.set_whole]; iexact H
theorem back1 (c : Dev nD) (s : Vec F S1024x512 .bf16) : (owns (c : Thread nD τ) keep1 fullShare s : sProp 𝕄) ⊢ iprop(∃ f, ((c : Thread nD τ).loc cc0_scratch1) ↦{fullShare} f) := by
  unfold owns
  iintro ⟨%f, -, H⟩; iexists f
  simp only [View.set_whole]; iexact H
theorem back2 (c : Dev nD) (s : Vec F S512x1024 .bf16) : (owns (c : Thread nD τ) keep2 fullShare s : sProp 𝕄) ⊢ iprop(∃ f, ((c : Thread nD τ).loc cc0_scratch2) ↦{fullShare} f) := by
  unfold owns
  iintro ⟨%f, -, H⟩; iexists f
  simp only [View.set_whole]; iexact H

/-- The first point takes the tables and the buffers of weights; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  iexists a0, a1, a2
  isplitr
  · ipureintro; intro t h _; exact absurd h (Nat.succ_ne_zero _)
  isplitl [HS0]
  · iapply hold0; iexact HS0
  isplitl [HS1]
  · iapply hold1; iexact HS1
  isplitl [HS2]
  · iapply hold2; iexact HS2
  isplitl [HT0]
  · iexact HT0
  iexact HT1

/-- after the last point the buffers are given back. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%s0, %s1, %s2, -, HS0, HS1, HS2, -, -⟩
  isplitr; · iempintro
  isplitl [HS0]
  · iapply back0; iexact HS0
  isplitl [HS1]
  · iapply back1; iexact HS1
  iapply back2; iexact HS2

/-- What a final state holds: every array at what the points leave, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The memory holds these tables. -/
def Tables : Prop := (∀ c : Dev nD, m ((c : Thread nD τ).loc main_arg0) = a.1 0) ∧ ∀ c : Dev nD, m ((c : Thread nD τ).loc main_arg1) = a.1 1

theorem V_pre (hp : Tables a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory that holds these tables, with every counter at zero, every fair execution ends, with each array
    at what the points leave and every counter at zero. -/
theorem run_main_quiescent (hp : Tables a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Tables a m) : θ_run (defs (F := F)) (onTc (τ := τ) (main (F := F))) (s₀ m ρ) (QC a m ρ) :=
  (θ_run defs _ _).mono (fun _ h => h.1) (run_main_quiescent a m ρ hp)

/-- The arguments end as they began. -/
theorem unchanged (hp : Tables a m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The frame, with the counters. -/
theorem frame (hp : Tables a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

/-! ## Tables that name known experts -/

/-- Any table of experts below 32 is one the call can run at. -/
theorem ok_of_known (pf : pre0.Contents (Elt F)) (h : ∀ k : S160.Idx, ((pf 0 : S160.Idx → Elt F .i32) k : BitVec 32).toNat < 32) : ok0 pf := by
  have w : ∀ i : grid0.Coords, (wordE (pf 0) i : BitVec 32).toNat < 32 := fun i => h _
  refine ⟨fun i => ⟨fun d => ?_, .inl rfl⟩, fun i => ⟨fun d => ?_, .inl rfl⟩, fun i => ⟨fun d => ?_, .inl rfl⟩⟩
  all_goals
    match d with
    | ⟨0, _⟩ =>
      show ((wordE (pf 0) i : BitVec 32).toNat + 1) * 1 ≤ 32
      have := w i; omega
    | ⟨1, _⟩ => exact le_of_eq rfl
    | ⟨2, _⟩ => exact le_of_eq rfl

/-- The tables that a memory holds, on its one device. -/
theorem tables_of (h : ∀ (c : Dev nD) (k : S160.Idx), ((m ((c : Thread nD τ).loc main_arg0) : S160.Idx → Elt F .i32) k : BitVec 32).toNat < 32) :
    ∃ a : (pcfg0 (F := F)).Adm, Tables a m := by
  have one : ∀ c : Dev nD, c = (⟨0, Nat.one_pos⟩ : Dev nD) := fun c => Fin.ext (Nat.lt_one_iff.mp c.isLt)
  refine ⟨⟨fun j => m (((⟨0, Nat.one_pos⟩ : Dev nD) : Thread nD τ).loc (pre0.ref j)), ok_of_known _ fun k => h _ k⟩, fun c => ?_, fun c => ?_⟩
  · rw [one c]; rfl
  · rw [one c]; rfl

end Cert.Kernel4Ideal.Experts

end
-- ==== Proof.Experts.Row.lean ====
/-
  A row through an expert in plain terms: the two products into the hidden columns, the gate, and the product back.
-/
module

public import proofs.«01_k».proof.Proof.Merge.Row

@[expose] public section

noncomputable section

namespace Cert.Experts

open Idealize.ShloMosaic

/-- A row into the hidden columns. -/
def up (x : Fin 1024 → EReal) (w : Fin 1024 → Fin 512 → EReal) (j : Fin 512) : EReal := ∑ k, x k * w k j

/-- The hidden columns under their gate. -/
def gate (u v : Fin 512 → EReal) (j : Fin 512) : EReal := u j * Ideal.logistic (u j) * v j

/-- The hidden columns back to a row. -/
def down (a : Fin 512 → EReal) (w : Fin 512 → Fin 1024 → EReal) (l : Fin 1024) : EReal := ∑ j, a j * w j l

/-- A row through an expert. -/
def expert (x : Fin 1024 → EReal) (w1 w3 : Fin 1024 → Fin 512 → EReal) (w2 : Fin 512 → Fin 1024 → EReal) : Fin 1024 → EReal :=
  down (gate (up x w1) (up x w3)) w2

end Cert.Experts

end
-- ==== Proof.Experts.Payload.lean ====
/-
  The experts' grid point, read at a row and a column: the product of a used block, and its tiles.
-/
module

public import proofs.«01_k».proof.Proof.Experts.Body
public import proofs.«01_k».proof.Proof.Experts.Row

@[expose] public section

set_option maxRecDepth 16384

noncomputable section

namespace Cert.Kernel4Ideal.Experts

open Idealize.ShloMosaic Idealize.ShloMosaic.TcCoe Idealize.SL.Sem Cert.Kernel4Ideal Cert.Kernel4Ideal.Gen Cert.Merge Cert.Experts

theorem pay1_apply (w : Vec Ideal S1x1024x512 .f32) (k : Fin 1024) (j : Fin 512) : k0_pay1 (F := Ideal) w (ix2 k j) = w (ix3 0 k j) := by
  pointwise [k0_pay1]
theorem pay2_apply (w : Vec Ideal S1x1024x512 .f32) (k : Fin 1024) (j : Fin 512) : k0_pay2 (F := Ideal) w (ix2 k j) = w (ix3 0 k j) := by
  pointwise [k0_pay2]
theorem pay3_apply (w : Vec Ideal S1x512x1024 .f32) (j : Fin 512) (l : Fin 1024) : k0_pay3 (F := Ideal) w (ix2 j l) = w (ix3 0 j l) := by
  pointwise [k0_pay3]

/-- Eight column groups side by side. -/
def joined (a b c d e f g h : Vec Ideal S512x128 .f32) : FVec Ideal S512x1024 .f32 :=
  concatenate S512x1024 1 [⟨S512x128, a⟩, ⟨S512x128, b⟩, ⟨S512x128, c⟩, ⟨S512x128, d⟩, ⟨S512x128, e⟩, ⟨S512x128, f⟩, ⟨S512x128, g⟩, ⟨S512x128, h⟩]
    concatenates_S512x128_S512x128_S512x128_S512x128_S512x128_S512x128_S512x128_S512x128_S512x1024_d1

/-- A product into the hidden columns. -/
def upB (x : FVec Ideal S512x1024 .f32) (s : FVec Ideal S1024x512 .bf16) : FVec Ideal S512x512 .f32 :=
  matmul dot_S512x1024_S1024x512_S512x512_1_0_0_1_n_n none (truncf .bf16 x bitsLt_bf16_f32 : FVec Ideal S512x1024 .bf16) s (constant S512x512 .f32 0x00000000#32)

/-- The gate, and the product back. -/
def downB (u v : FVec Ideal S512x512 .f32) (s : FVec Ideal S512x1024 .bf16) : FVec Ideal S512x1024 .f32 :=
  matmul dot_S512x512_S512x1024_S512x1024_1_0_0_1_n_n none (truncf .bf16 (mulf (mulf u (logistic u)) v) bitsLt_bf16_f32 : FVec Ideal S512x512 .bf16) s
    (constant S512x1024 .f32 0x00000000#32)

theorem pay10_eq (a b c d e f g h : Vec Ideal S512x128 .f32) (s0 s1 : Vec Ideal S1024x512 .bf16) (s2 : Vec Ideal S512x1024 .bf16) :
    k0_pay10 a b c d e f g h s0 s1 s2 = downB (upB (joined a b c d e f g h) s0) (upB (joined a b c d e f g h) s1) s2 := rfl

theorem upB_apply (x : FVec Ideal S512x1024 .f32) (s : FVec Ideal S1024x512 .bf16) (i : Fin 512) (j : Fin 512) :
    upB x s (ix2 i j) = up (fun k => x (ix2 i k)) (fun k j => s (ix2 k j)) j := by
  unfold up
  pointwise [upB]

theorem downB_apply (u v : FVec Ideal S512x512 .f32) (s : FVec Ideal S512x1024 .bf16) (i : Fin 512) (l : Fin 1024) :
    downB u v s (ix2 i l) = down (gate (fun j => u (ix2 i j)) (fun j => v (ix2 i j))) (fun j l => s (ix2 j l)) l := by
  unfold down gate
  pointwise [downB]

theorem joined_apply (s0 s1 s2 s3 s4 s5 s6 s7 : Vec Ideal S512x128 .f32) (i : Fin 512) (f : Fin 1024 → EReal)
    (h0 : ∀ q : Fin 128, s0 (ix2 i q) = f ⟨0 + q.val, by omega⟩)
    (h1 : ∀ q : Fin 128, s1 (ix2 i q) = f ⟨128 + q.val, by omega⟩)
    (h2 : ∀ q : Fin 128, s2 (ix2 i q) = f ⟨256 + q.val, by omega⟩)
    (h3 : ∀ q : Fin 128, s3 (ix2 i q) = f ⟨384 + q.val, by omega⟩)
    (h4 : ∀ q : Fin 128, s4 (ix2 i q) = f ⟨512 + q.val, by omega⟩)
    (h5 : ∀ q : Fin 128, s5 (ix2 i q) = f ⟨640 + q.val, by omega⟩)
    (h6 : ∀ q : Fin 128, s6 (ix2 i q) = f ⟨768 + q.val, by omega⟩)
    (h7 : ∀ q : Fin 128, s7 (ix2 i q) = f ⟨896 + q.val, by omega⟩) (j : Fin 1024) :
    joined s0 s1 s2 s3 s4 s5 s6 s7 (ix2 i j) = f j := by
  rw [eight f j (fun q => s0 (ix2 i q)) (fun q => s1 (ix2 i q)) (fun q => s2 (ix2 i q)) (fun q => s3 (ix2 i q)) (fun q => s4 (ix2 i q)) (fun q => s5 (ix2 i q)) (fun q => s6 (ix2 i q)) (fun q => s7 (ix2 i q)) h0 h1 h2 h3 h4 h5 h6 h7]
  pointwise [joined]

/-- A block of tiles' row `i` of 1024: its eight tiles. -/
def rowT (x : Vec Ideal S4096x128 .f32) (i : Fin 512) (k : Fin 1024) : EReal := x (ix2 ⟨8 * i.val + k.val / 128, by omega⟩ ⟨k.val % 128, by omega⟩)

theorem ld_strip (x : Vec Ideal S4096x128 .f32) (o : Nat) (ho : o < 8) (h) (i : Fin 512) (q : Fin 128) :
    (View.ld x (strip o h) : Vec Ideal S512x128 .f32) (ix2 i q) = rowT x i ⟨128 * o + q.val, by omega⟩ := by
  show x _ = x _
  refine congrArg x (funext fun d => Fin.ext ?_)
  match d with
  | ⟨0, _⟩ => show o + 8 * i.val = 8 * i.val + (128 * o + q.val) / 128; omega
  | ⟨1, _⟩ => show 0 + 1 * q.val = (128 * o + q.val) % 128; omega

/-- The product of a used block, row by row. -/
theorem prod_apply (x : Vec Ideal S4096x128 .f32) (s0 s1 : Vec Ideal S1024x512 .bf16) (s2 : Vec Ideal S512x1024 .bf16) (i : Fin 512) (l : Fin 1024) :
    prod x s0 s1 s2 (ix2 i l) = expert (rowT x i) (fun k j => s0 (ix2 k j)) (fun k j => s1 (ix2 k j)) (fun j l => s2 (ix2 j l)) l := by
  unfold prod expert
  rw [pay10_eq, downB_apply]
  have hx : ∀ k : Fin 1024, joined (View.ld x strip0) (View.ld x strip1) (View.ld x strip2) (View.ld x strip3) (View.ld x strip4) (View.ld x strip5)
      (View.ld x strip6) (View.ld x strip7) (ix2 i k) = rowT x i k := fun k =>
    joined_apply _ _ _ _ _ _ _ _ i (rowT x i) (fun q => ld_strip x 0 (by omega) _ i q) (fun q => ld_strip x 1 (by omega) _ i q)
      (fun q => ld_strip x 2 (by omega) _ i q) (fun q => ld_strip x 3 (by omega) _ i q) (fun q => ld_strip x 4 (by omega) _ i q)
      (fun q => ld_strip x 5 (by omega) _ i q) (fun q => ld_strip x 6 (by omega) _ i q) (fun q => ld_strip x 7 (by omega) _ i q) k
  simp only [upB_apply, hx]

theorem group0_apply (v : FVec Ideal S512x1024 .f32) (i : Fin 512) (q : Fin 128) : group0 v (ix2 i q) = v (ix2 i ⟨128 * 0 + q.val, by omega⟩) := by
  pointwise [group0]
theorem group1_apply (v : FVec Ideal S512x1024 .f32) (i : Fin 512) (q : Fin 128) : group1 v (ix2 i q) = v (ix2 i ⟨128 * 1 + q.val, by omega⟩) := by
  pointwise [group1]
theorem group2_apply (v : FVec Ideal S512x1024 .f32) (i : Fin 512) (q : Fin 128) : group2 v (ix2 i q) = v (ix2 i ⟨128 * 2 + q.val, by omega⟩) := by
  pointwise [group2]
theorem pay4_apply (v : FVec Ideal S512x1024 .f32) (i : Fin 512) (q : Fin 128) : k0_pay4 v (ix2 i q) = v (ix2 i ⟨128 * 3 + q.val, by omega⟩) := by
  pointwise [k0_pay4]
theorem pay5_apply (v : FVec Ideal S512x1024 .f32) (i : Fin 512) (q : Fin 128) : k0_pay5 v (ix2 i q) = v (ix2 i ⟨128 * 4 + q.val, by omega⟩) := by
  pointwise [k0_pay5]
theorem pay6_apply (v : FVec Ideal S512x1024 .f32) (i : Fin 512) (q : Fin 128) : k0_pay6 v (ix2 i q) = v (ix2 i ⟨128 * 5 + q.val, by omega⟩) := by
  pointwise [k0_pay6]
theorem pay7_apply (v : FVec Ideal S512x1024 .f32) (i : Fin 512) (q : Fin 128) : k0_pay7 v (ix2 i q) = v (ix2 i ⟨128 * 6 + q.val, by omega⟩) := by
  pointwise [k0_pay7]
theorem pay8_apply (v : FVec Ideal S512x1024 .f32) (i : Fin 512) (q : Fin 128) : k0_pay8 v (ix2 i q) = v (ix2 i ⟨128 * 7 + q.val, by omega⟩) := by
  pointwise [k0_pay8]

/-- A strip holds its column group of the rows. -/
theorem strip_piece (v : FVec Ideal S512x1024 .f32) (o : ℕ) (h) (ho : o < 8) (P : FVec Ideal S512x128 .f32)
    (hP : ∀ (i : Fin 512) (q : Fin 128), P (ix2 i q) = v (ix2 i ⟨128 * o + q.val, by omega⟩)) (x : S512x128.Idx) :
    P x = (fun y : S4096x128.Idx => v (ix2 ⟨(y 0).val / 8, by have : (y 0).val < 4096 := (y 0).isLt; omega⟩
        ⟨(y 0).val % 8 * 128 + (y 1).val, by have : (y 1).val < 128 := (y 1).isLt; omega⟩)) ((strip o h).emb x) := by
  obtain ⟨i, q, rfl⟩ : ∃ (i : Fin 512) (q : Fin 128), x = ix2 i q := ⟨x 0, x 1, eq_ix2 x⟩
  refine (hP i q).trans (congrArg₂ (fun i j => v (ix2 i j)) (Fin.ext ?_) (Fin.ext ?_))
  · show i.val = (o + 8 * i.val) / 8; omega
  · show 128 * o + q.val = (o + 8 * i.val) % 8 * 128 + (0 + 1 * q.val); omega

theorem outTiles_apply (v : FVec Ideal S512x1024 .f32) (r : Fin 4096) (q : Fin 128) :
    outTiles v (ix2 r q) = v (ix2 ⟨r.val / 8, by omega⟩ ⟨r.val % 8 * 128 + q.val, by omega⟩) := by
  unfold outTiles
  refine (View.canon_apply_of_pieces (Val := Elt Ideal) (e := .f32) (fun y : S4096x128.Idx => v (ix2 ⟨(y 0).val / 8, by have : (y 0).val < 4096 := (y 0).isLt; omega⟩
        ⟨(y 0).val % 8 * 128 + (y 1).val, by have : (y 1).val < 128 := (y 1).isLt; omega⟩)) _ ?_ (ix2 r q)
    (tiles_cover v (ix2 r q))).trans rfl
  unfold tiles
  simp only [List.forall_mem_cons]
  exact ⟨strip_piece v 7 _ (by omega) _ (pay8_apply v), strip_piece v 6 _ (by omega) _ (pay7_apply v), strip_piece v 5 _ (by omega) _ (pay6_apply v),
    strip_piece v 4 _ (by omega) _ (pay5_apply v), strip_piece v 3 _ (by omega) _ (pay4_apply v), strip_piece v 2 _ (by omega) _ (group2_apply v),
    strip_piece v 1 _ (by omega) _ (group1_apply v), strip_piece v 0 _ (by omega) _ (group0_apply v), fun _ h => absurd h List.not_mem_nil⟩

end Cert.Kernel4Ideal.Experts

end
-- ==== Proof.Experts.Kernel.lean ====
/-
  The experts' result entry by entry: a row of a used block is the row through the expert of its block.
-/
module

public import proofs.«01_k».proof.Proof.Experts.Run
public import proofs.«01_k».proof.Proof.Experts.Payload

@[expose] public section

set_option maxRecDepth 16384

noncomputable section

namespace Cert.Kernel4Ideal.Experts

open Idealize.ShloMosaic Idealize.ShloMosaic.TcCoe Idealize.SL.Sem Cert.Kernel4Ideal.Gen Cert.Experts

variable (a : (pcfg0 (F := Ideal)).Adm)
variable (m : (ℓ : Loc nD τ sig) → Buf (Elt Ideal) ℓ) (ρ : Dev nD → PrngReg) (c : Dev nD)

/-- The arguments the run starts from. -/
abbrev argX : FVec Ideal S655360x128 .f32 := m ((c : Thread nD τ).loc main_arg2)
abbrev argW1 : FVec Ideal S32x1024x512 .f32 := m ((c : Thread nD τ).loc main_arg3)
abbrev argW3 : FVec Ideal S32x1024x512 .f32 := m ((c : Thread nD τ).loc main_arg4)
abbrev argW2 : FVec Ideal S32x512x1024 .f32 := m ((c : Thread nD τ).loc main_arg5)

/-! ## The blocks -/

theorem index0 : ∀ t : Fin grid0.N, cc0_transform_0 (grid0.coords t) 0 = t.val ∧ cc0_transform_0 (grid0.coords t) 1 = 0 := by decide +kernel
theorem index4 : ∀ t : Fin grid0.N, cc0_transform_4 (grid0.coords t) 0 = t.val ∧ cc0_transform_4 (grid0.coords t) 1 = 0 := by decide +kernel

/-- A point's expert is its block's. -/
theorem own_word (t : Fin (cfgA a).N) (n : Fin 160) (h : t.val = n.val) : wordE (tE a) (crd a t) = tE a (ix1 n) := by
  show tE a _ = tE a _
  refine congrArg (tE a) (funext fun d => Fin.ext ?_)
  match d with
  | ⟨0, _⟩ =>
    show k0_off1 (grid0.coords t) 0 + 1 * 0 = n.val
    rw [own_place]
    omega

theorem count_word : wordN (tN a) = tN a (ix1 0) := by
  show tN a _ = tN a _
  refine congrArg (tN a) (funext fun d => Fin.ext ?_)
  match d with
  | ⟨0, _⟩ => rfl

theorem blk0_apply (t : Fin (cfgA a).N) (ht : t.val < 160) (r : Fin 4096) (q : Fin 128) :
    blk0 a m ρ c t (ix2 r q) = argX m c (ix2 ⟨t.val * 4096 + r.val, by omega⟩ q) := by
  unfold blk0 iblk
  rw [View.read_apply]
  refine congrArg (argX m c) (funext fun d => Fin.ext ?_)
  match d with
  | ⟨0, _⟩ => show cc0_transform_0 (grid0.coords t) 0 * 4096 + 1 * r.val = t.val * 4096 + r.val; rw [(index0 t).1]; omega
  | ⟨1, _⟩ => show cc0_transform_0 (grid0.coords t) 1 * 128 + 1 * q.val = q.val; rw [(index0 t).2]; omega

theorem blk1_apply (t : Fin (cfgA a).N) (e : Fin 32) (h : (wordE (tE a) (crd a t) : BitVec 32).toNat = e.val) (k : Fin 1024) (j : Fin 512) :
    blk1 a m ρ c t (ix3 0 k j) = argW1 m c (ix3 e k j) := by
  unfold blk1 iblk
  rw [View.read_apply]
  refine congrArg (argW1 m c) (funext fun d => Fin.ext ?_)
  match d with
  | ⟨0, _⟩ => show (wordE (tE a) (crd a t) : BitVec 32).toNat * 1 + 1 * 0 = e.val; rw [h]; omega
  | ⟨1, _⟩ => show 0 * 1024 + 1 * k.val = k.val; omega
  | ⟨2, _⟩ => show 0 * 512 + 1 * j.val = j.val; omega

theorem blk2_apply (t : Fin (cfgA a).N) (e : Fin 32) (h : (wordE (tE a) (crd a t) : BitVec 32).toNat = e.val) (k : Fin 1024) (j : Fin 512) :
    blk2 a m ρ c t (ix3 0 k j) = argW3 m c (ix3 e k j) := by
  unfold blk2 iblk
  rw [View.read_apply]
  refine congrArg (argW3 m c) (funext fun d => Fin.ext ?_)
  match d with
  | ⟨0, _⟩ => show (wordE (tE a) (crd a t) : BitVec 32).toNat * 1 + 1 * 0 = e.val; rw [h]; omega
  | ⟨1, _⟩ => show 0 * 1024 + 1 * k.val = k.val; omega
  | ⟨2, _⟩ => show 0 * 512 + 1 * j.val = j.val; omega

theorem blk3_apply (t : Fin (cfgA a).N) (e : Fin 32) (h : (wordE (tE a) (crd a t) : BitVec 32).toNat = e.val) (j : Fin 512) (l : Fin 1024) :
    blk3 a m ρ c t (ix3 0 j l) = argW2 m c (ix3 e j l) := by
  unfold blk3 iblk
  rw [View.read_apply]
  refine congrArg (argW2 m c) (funext fun d => Fin.ext ?_)
  match d with
  | ⟨0, _⟩ => show (wordE (tE a) (crd a t) : BitVec 32).toNat * 1 + 1 * 0 = e.val; rw [h]; omega
  | ⟨1, _⟩ => show 0 * 512 + 1 * j.val = j.val; omega
  | ⟨2, _⟩ => show 0 * 1024 + 1 * l.val = l.val; omega

/-! ## The array of results -/

theorem index_inj4 : ∀ t t' : Fin grid0.N, cc0_transform_4 (grid0.coords t) = cc0_transform_4 (grid0.coords t') → t = t' := fun t t' h =>
  Fin.ext (by rw [← (index4 t).1, ← (index4 t').1, h])

theorem flush4 (t : Fin (cfgA a).N) : ((cfgA a).win (4 : Fin 5)).flush t = true :=
  (by decide +kernel : ∀ t : Fin grid0.N, Pipeline.Window.flushOf grid0 true cc0_transform_4 t = true) t

theorem blocks4 (t : Fin (cfgA a).N) :
    (((cfgA a).win (4 : Fin 5)).blk t).view.read (Elt Ideal) ((dats a m ρ 0 c).arrAt (4 : Fin 5) (cfgA a).N)
      = ((cfgA a).win (4 : Fin 5)).cut (grid0.coords t) ((dats a m ρ 0 c).after (4 : Fin 5) t) :=
  (dats a m ρ 0 c).read_blk_arrAt_eq_flushed (4 : Fin 5)
    (fun t t' _ _ hne => ((cfgA a).win (4 : Fin 5)).disjoint_blk fun h => hne (index_inj4 t t' h)) (cfgA a).N t t.isLt (flush4 a t)

/-- A block of an array, entry by entry. -/
theorem read4 (A : FVec Ideal S655360x128 .f32) (t : Fin (cfgA a).N) (ht : t.val < 160) (r : Fin 4096) (q : Fin 128) :
    (((cfgA a).win (4 : Fin 5)).blk t).view.read (Elt Ideal) A (ix2 r q : S4096x128.Idx) = A (ix2 ⟨t.val * 4096 + r.val, by omega⟩ q) := by
  rw [View.read_apply]
  refine congrArg A (funext fun d => Fin.ext ?_)
  match d with
  | ⟨0, _⟩ => show cc0_transform_4 (grid0.coords t) 0 * 4096 + 1 * r.val = t.val * 4096 + r.val; rw [(index4 t).1]; omega
  | ⟨1, _⟩ => show cc0_transform_4 (grid0.coords t) 1 * 128 + 1 * q.val = q.val; rw [(index4 t).2]; omega

/-- A row of a used block, entry by entry. -/
theorem final4 (r : Fin 655360) (q : Fin 128) (e : Fin 32)
    (he : (tE a (ix1 (⟨r.val / 4096, by omega⟩ : Fin 160)) : BitVec 32).toNat = e.val)
    (hu : ((r.val / 4096 : ℕ) : Int) < (tN a (ix1 0) : BitVec 32).toInt) :
    ((dats a m ρ 0 c).arrAt (4 : Fin 5) (cfgA a).N : FVec Ideal S655360x128 .f32) (ix2 r q)
      = expert (fun k => argX m c (ix2 ⟨r.val / 4096 * 4096 + r.val / 8 % 512 * 8 + k.val / 128, by omega⟩ ⟨k.val % 128, by omega⟩))
          (fun k j => argW1 m c (ix3 e k j)) (fun k j => argW3 m c (ix3 e k j)) (fun j l => argW2 m c (ix3 e j l))
          ⟨r.val % 8 * 128 + q.val, by omega⟩ := by
  have hN : (cfgA a).N = 160 := N_0
  obtain ⟨t, ht, hv⟩ : ∃ t : Fin (cfgA a).N, t.val < 160 ∧ t.val = r.val / 4096 :=
    ⟨⟨r.val / 4096, by omega⟩, by show r.val / 4096 < 160; omega, rfl⟩
  have hr : (⟨r.val, r.isLt⟩ : Fin 655360) = ⟨t.val * 4096 + r.val % 4096, by omega⟩ := Fin.ext (by show r.val = t.val * 4096 + r.val % 4096; omega)
  refine (congrArg (fun n => ((dats a m ρ 0 c).arrAt (4 : Fin 5) (cfgA a).N : FVec Ideal S655360x128 .f32) (ix2 n q)) hr).trans
    (((read4 a ((dats a m ρ 0 c).arrAt (4 : Fin 5) (cfgA a).N) t ht ⟨r.val % 4096, by omega⟩ q).symm.trans
      (congrFun (blocks4 a m ρ c t) (ix2 (⟨r.val % 4096, by omega⟩ : Fin 4096) q : S4096x128.Idx))).trans ?_)
  have used : Used a t := (used_lt t _).mpr (by rw [count_word, hv]; exact hu)
  have hw : (wordE (tE a) (crd a t) : BitVec 32).toNat = e.val := by
    rw [own_word a t ⟨r.val / 4096, by omega⟩ hv]; exact he
  rw [left4]
  show tilesAt a m ρ c t (ix2 (⟨r.val % 4096, by omega⟩ : Fin 4096) q) = _
  unfold tilesAt
  rw [if_pos used, outTiles_apply, prod_apply]
  simp only [pay1_apply, pay2_apply, pay3_apply, blk1_apply a m ρ c t e hw, blk2_apply a m ρ c t e hw, blk3_apply a m ρ c t e hw]
  have hx : rowT (blk0 a m ρ c t) ⟨r.val % 4096 / 8, by omega⟩
      = fun k => argX m c (ix2 ⟨r.val / 4096 * 4096 + r.val / 8 % 512 * 8 + k.val / 128, by omega⟩ ⟨k.val % 128, by omega⟩) := by
    funext k
    unfold rowT
    rw [blk0_apply a m ρ c t ht]
    refine congrArg (argX m c) (congrArg₂ ix2 (Fin.ext ?_) rfl)
    show t.val * 4096 + (8 * (r.val % 4096 / 8) + k.val / 128) = r.val / 4096 * 4096 + r.val / 8 % 512 * 8 + k.val / 128
    omega
  rw [hx]
  refine congrArg _ (Fin.ext ?_)
  show r.val % 4096 % 8 * 128 + q.val = r.val % 8 * 128 + q.val
  omega

end Cert.Kernel4Ideal.Experts

end
-- ==== Proof.Experts.Terms.lean ====
/-
  The reference's experts under names of its own: the weights of each block's expert, the products, and the rows,
  read entry by entry where every block names a known expert.
-/
module

public import proofs.«01_k».proof.Proof.Gen.Reference4Ideal.Run
public import proofs.«01_k».proof.Proof.Experts.Row

@[expose] public section

set_option maxRecDepth 16384

noncomputable section

namespace Cert.ExpertsRef

open Idealize.ShloMosaic Idealize.ShloMosaic.TcCoe Idealize.SL.Sem Cert.Reference4Ideal Cert.Reference4Ideal.Gen
  Cert.Reference4Ideal.Value Cert.Experts Idealize.ShloMosaic.StableHlo

/-- The experts' places: a negative one counts from the end. -/
def places (E : IVec S160 32) : IVec S160x1 32 :=
  broadcastInDim S160x1 ![0] bcast_S160_S160x1_0 (select (cmpi .slt E (broadcastInDim S160 ![] bcast_S_S160 (constantI S_ 32 0#32)))
    (addi E (broadcastInDim S160 ![] bcast_S_S160 (constantI S_ 32 32#32))) E)

/-- The weights of each block's expert. -/
def wideOf (W : FVec Ideal S32x1024x512 .f32) (E : IVec S160 32) : FVec Ideal S160x1024x512 .f32 :=
  Host.gather gather_S32x1024x512_S160x1_S160x1024x512_12_0_n_n_0_1_11024512 W (places E)
def tallOf (W : FVec Ideal S32x512x1024 .f32) (E : IVec S160 32) : FVec Ideal S160x512x1024 .f32 :=
  Host.gather gather_S32x512x1024_S160x1_S160x512x1024_12_0_n_n_0_1_15121024 W (places E)

/-- The rows, by block. -/
def rows (X : FVec Ideal S655360x128 .f32) : FVec Ideal S160x512x1024 .f32 := shapeCast _ X shapeCasts_S655360x128_S160x512x1024

/-- The rows into the hidden columns. -/
def upR (X : FVec Ideal S160x512x1024 .f32) (W : FVec Ideal S160x1024x512 .f32) : FVec Ideal S160x512x512 .f32 :=
  Host.dotGeneral dot_S160x512x1024_S160x1024x512_S160x512x512_2_1_1_2_0_0 none X W

/-- The hidden columns under their gate. -/
def gateR (U V : FVec Ideal S160x512x512 .f32) : FVec Ideal S160x512x512 .f32 :=
  mulf (mulf U (Host.divf (broadcastInDim S160x512x512 ![] bcast_S_S160x512x512 (constant S_ .f32 0x3F800000#32))
    (addf (broadcastInDim S160x512x512 ![] bcast_S_S160x512x512 (constant S_ .f32 0x3F800000#32)) (Host.exp (Host.negf U))))) V

/-- The hidden columns back to rows. -/
def downR (A : FVec Ideal S160x512x512 .f32) (W : FVec Ideal S160x512x1024 .f32) : FVec Ideal S160x512x1024 .f32 :=
  Host.dotGeneral dot_S160x512x512_S160x512x1024_S160x512x1024_2_1_1_2_0_0 none A W

/-- The result: each row as eight rows of 128. -/
def result (E : IVec S160 32) (X : FVec Ideal S655360x128 .f32) (W1 W3 : FVec Ideal S32x1024x512 .f32) (W2 : FVec Ideal S32x512x1024 .f32) :
    FVec Ideal S655360x128 .f32 :=
  shapeCast _ (downR (gateR (upR (rows X) (wideOf W1 E)) (upR (rows X) (wideOf W3 E))) (tallOf W2 E)) shapeCasts_S160x512x1024_S655360x128

theorem places_apply (E : IVec S160 32) (n : Fin 160) (h : 0 ≤ (E (ix1 n)).toInt) : places E (ix2 n 0) = E (ix1 n) := by
  have hs : (BitVec.ofBool (decide ((E (ix1 n)).toInt < (0#32 : BitVec 32).toInt))) = 0#1 := by
    rw [show (0#32 : BitVec 32).toInt = 0 from rfl, decide_eq_false (by omega)]
    rfl
  have : places E (ix2 n 0) = (if (IntOp.cmpi .slt (E (ix1 n)) 0#32) = 1#1 then E (ix1 n) + 32#32 else E (ix1 n)) := by
    pointwise [places]
    rfl
  rw [this, show IntOp.cmpi .slt (E (ix1 n)) 0#32 = BitVec.ofBool (decide ((E (ix1 n)).toInt < (0#32 : BitVec 32).toInt)) from rfl, hs]
  rfl

theorem rows_apply (X : FVec Ideal S655360x128 .f32) (n : Fin 160) (i : Fin 512) (k : Fin 1024) :
    rows X (ix3 n i k) = X (ix2 ⟨n.val * 4096 + i.val * 8 + k.val / 128, by omega⟩ ⟨k.val % 128, by omega⟩) := by
  pointwise [rows]

theorem upR_apply (X : FVec Ideal S160x512x1024 .f32) (W : FVec Ideal S160x1024x512 .f32) (n : Fin 160) (i j : Fin 512) :
    upR X W (ix3 n i j) = up (fun k => X (ix3 n i k)) (fun k j => W (ix3 n k j)) j := by
  unfold up
  pointwise [upR]

theorem gateR_apply (U V : FVec Ideal S160x512x512 .f32) (n : Fin 160) (i j : Fin 512) :
    gateR U V (ix3 n i j) = gate (fun j => U (ix3 n i j)) (fun j => V (ix3 n i j)) j := by
  unfold gate Ideal.logistic
  pointwise [gateR]

theorem downR_apply (A : FVec Ideal S160x512x512 .f32) (W : FVec Ideal S160x512x1024 .f32) (n : Fin 160) (i : Fin 512) (l : Fin 1024) :
    downR A W (ix3 n i l) = down (fun j => A (ix3 n i j)) (fun j l => W (ix3 n j l)) l := by
  unfold down
  pointwise [downR]

theorem wideOf_apply (W : FVec Ideal S32x1024x512 .f32) (E : IVec S160 32) (n : Fin 160) (e : Fin 32) (h : (E (ix1 n)).toInt = (e.val : Int))
    (k : Fin 1024) (j : Fin 512) : wideOf W E (ix3 n k j) = W (ix3 e k j) := by
  unfold wideOf Host.gather
  refine congrArg W (funext fun d => Fin.ext ?_)
  show gather_S32x1024x512_S160x1_S160x1024x512_12_0_n_n_0_1_11024512.start (ix3 n k j) (places E) d
    + gather_S32x1024x512_S160x1_S160x1024x512_12_0_n_n_0_1_11024512.batchCoord (ix3 n k j) d
    + gather_S32x1024x512_S160x1_S160x1024x512_12_0_n_n_0_1_11024512.offCoord (ix3 n k j) d = _
  rw [GatherDims.batchCoord_eq_zero _ _ _ List.not_mem_nil]
  match d with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32x1024x512.rank) ∈ gather_S32x1024x512_S160x1_S160x1024x512_12_0_n_n_0_1_11024512.startIndexMap from List.mem_singleton.mpr rfl)]
    rw [show places E _ = E (ix1 n) from Eq.trans (congrArg (places E) (show _ = ix2 n 0 from funext fun b => Fin.ext (by
      match b with
      | ⟨0, _⟩ => rfl
      | ⟨1, _⟩ => rfl))) (places_apply E n (by rw [h]; omega)), h]
    show min ((e.val : Int).toNat) 31 + 0 + 0 = e.val
    omega
  | ⟨1, _⟩ => show 0 + 0 + k.val = k.val; omega
  | ⟨2, _⟩ => show 0 + 0 + j.val = j.val; omega

theorem tallOf_apply (W : FVec Ideal S32x512x1024 .f32) (E : IVec S160 32) (n : Fin 160) (e : Fin 32) (h : (E (ix1 n)).toInt = (e.val : Int))
    (k : Fin 512) (j : Fin 1024) : tallOf W E (ix3 n k j) = W (ix3 e k j) := by
  unfold tallOf Host.gather
  refine congrArg W (funext fun d => Fin.ext ?_)
  show gather_S32x512x1024_S160x1_S160x512x1024_12_0_n_n_0_1_15121024.start (ix3 n k j) (places E) d
    + gather_S32x512x1024_S160x1_S160x512x1024_12_0_n_n_0_1_15121024.batchCoord (ix3 n k j) d
    + gather_S32x512x1024_S160x1_S160x512x1024_12_0_n_n_0_1_15121024.offCoord (ix3 n k j) d = _
  rw [GatherDims.batchCoord_eq_zero _ _ _ List.not_mem_nil]
  match d with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32x512x1024.rank) ∈ gather_S32x512x1024_S160x1_S160x512x1024_12_0_n_n_0_1_15121024.startIndexMap from List.mem_singleton.mpr rfl)]
    rw [show places E _ = E (ix1 n) from Eq.trans (congrArg (places E) (show _ = ix2 n 0 from funext fun b => Fin.ext (by
      match b with
      | ⟨0, _⟩ => rfl
      | ⟨1, _⟩ => rfl))) (places_apply E n (by rw [h]; omega)), h]
    show min ((e.val : Int).toNat) 31 + 0 + 0 = e.val
    omega
  | ⟨1, _⟩ => show 0 + 0 + k.val = k.val; omega
  | ⟨2, _⟩ => show 0 + 0 + j.val = j.val; omega

/-- A row of the result: the row through its block's expert. -/
theorem result_apply (E : IVec S160 32) (X : FVec Ideal S655360x128 .f32) (W1 W3 : FVec Ideal S32x1024x512 .f32) (W2 : FVec Ideal S32x512x1024 .f32)
    (e : Fin 160 → Fin 32) (h : ∀ n, (E (ix1 n)).toInt = ((e n).val : Int)) (r : Fin 655360) (q : Fin 128) :
    result E X W1 W3 W2 (ix2 r q)
      = expert (fun k => X (ix2 ⟨r.val / 4096 * 4096 + r.val / 8 % 512 * 8 + k.val / 128, by omega⟩ ⟨k.val % 128, by omega⟩))
          (fun k j => W1 (ix3 (e ⟨r.val / 4096, by omega⟩) k j)) (fun k j => W3 (ix3 (e ⟨r.val / 4096, by omega⟩) k j))
          (fun j l => W2 (ix3 (e ⟨r.val / 4096, by omega⟩) j l)) ⟨r.val % 8 * 128 + q.val, by omega⟩ := by
  have : result E X W1 W3 W2 (ix2 r q) = downR (gateR (upR (rows X) (wideOf W1 E)) (upR (rows X) (wideOf W3 E))) (tallOf W2 E)
      (ix3 ⟨r.val / 4096, by omega⟩ ⟨r.val / 8 % 512, by omega⟩ ⟨r.val % 8 * 128 + q.val, by omega⟩) := by
    pointwise [result]
  rw [this, downR_apply]
  unfold expert
  simp only [gateR_apply, upR_apply, rows_apply, wideOf_apply W1 E _ _ (h _), wideOf_apply W3 E _ _ (h _), tallOf_apply W2 E _ _ (h _)]

end Cert.ExpertsRef

end
-- ==== Proof.Experts.Claim.lean ====
/-
  The two programs compute the same rows of the used blocks: the equation of their results and the claims stated of
  their runs.
-/
module

public import proofs.«01_k».proof.Defs
public import proofs.«01_k».proof.Proof.Gen.Pre_known_experts
public import proofs.«01_k».proof.Proof.Gen.On_used_blocks
public import proofs.«01_k».proof.Proof.Experts.Kernel
public import proofs.«01_k».proof.Proof.Experts.BitsRun
public import proofs.«01_k».proof.Proof.Experts.Terms
public import Idealize.ShloMosaic.Adequacy
public import Idealize.ShloMosaic.Init
public import Idealize.ShloMosaic.Lib.Claim

@[expose] public section

set_option maxRecDepth 16384

noncomputable section

namespace Cert.ExpertsClaim

open Idealize.ShloMosaic Idealize.SL.Sem Cert.Experts

/-- What the precondition says of a block's expert: its number is one of the 32. -/
theorem known {F : FTy → Type} [FloatOps F] (E : IVec (⟨1, ![160]⟩ : Shape) 32) (N : IVec (⟨1, ![1]⟩ : Shape) 32)
    (X : FVec F (⟨2, ![655360, 128]⟩ : Shape) .f32) (W1 W3 : FVec F (⟨3, ![32, 1024, 512]⟩ : Shape) .f32)
    (W2 : FVec F (⟨3, ![32, 512, 1024]⟩ : Shape) .f32)
    (h : Cert.Pre_known_experts.fn (F := F) E N X W1 W3 W2 = fun _ => 1#1) (k : (⟨1, ![160]⟩ : Shape).Idx) :
    (E k).toNat < 32 ∧ (E k).toInt = ((E k).toNat : Int) := by
  have hk : IntOp.andi (IntOp.cmpi .sge (E k) 0#32) (IntOp.cmpi .slt (E k) 32#32) = 1#1 := congrFun h k
  have both : ∀ a b : BitVec 1, IntOp.andi a b = 1#1 → a = 1#1 ∧ b = 1#1 := by decide
  obtain ⟨h0, h1⟩ := both _ _ hk
  have g0 : BitVec.ofBool (decide ((0#32 : BitVec 32).toInt ≤ (E k).toInt)) = 1#1 := h0
  have g1 : BitVec.ofBool (decide ((E k).toInt < (32#32 : BitVec 32).toInt)) = 1#1 := h1
  have e0 : (0#32 : BitVec 32).toInt ≤ (E k).toInt := by
    by_contra hn; rw [decide_eq_false hn] at g0; exact absurd g0 (by decide)
  have e1 : (E k).toInt < (32#32 : BitVec 32).toInt := by
    by_contra hn; rw [decide_eq_false hn] at g1; exact absurd g1 (by decide)
  rw [show (0#32 : BitVec 32).toInt = 0 from rfl] at e0
  rw [show (32#32 : BitVec 32).toInt = 32 from rfl] at e1
  have := BitVec.toInt_eq_toNat_cond (E k)
  have hlt := (E k).isLt
  split at this <;> constructor <;> omega

/-- What the mask says of a row: its block is used. -/
theorem used_row (E : IVec (⟨1, ![160]⟩ : Shape) 32) (N : IVec (⟨1, ![1]⟩ : Shape) 32)
    (X : FVec Ideal (⟨2, ![655360, 128]⟩ : Shape) .f32) (W1 W3 : FVec Ideal (⟨3, ![32, 1024, 512]⟩ : Shape) .f32)
    (W2 : FVec Ideal (⟨3, ![32, 512, 1024]⟩ : Shape) .f32) (r : Fin 655360) (q : Fin 128)
    (h : Cert.On_used_blocks.fn (F := Ideal) E N X W1 W3 W2 (ix2 r q) = 1#1) :
    ((r.val / 4096 : ℕ) : Int) < (N (ix1 0)).toInt := by
  have e : Cert.On_used_blocks.fn (F := Ideal) E N X W1 W3 W2 (ix2 r q)
      = IntOp.cmpi .slt (BitVec.ofNat 32 (r.val / 4096)) (N (ix1 0)) := by
    pointwise [Cert.On_used_blocks.fn]
  rw [e] at h
  have g : BitVec.ofBool (decide ((BitVec.ofNat 32 (r.val / 4096)).toInt < (N (ix1 0)).toInt)) = 1#1 := h
  have g' : (BitVec.ofNat 32 (r.val / 4096)).toInt < (N (ix1 0)).toInt := by
    by_contra hn; rw [decide_eq_false hn] at g; exact absurd g (by decide)
  rwa [Cert.Kernel4Ideal.Experts.small_toInt _ (by omega)] at g'

/-- The kernel runs to its end, keeps its arguments, and every counter is at zero again. -/
theorem kernel_ends : Cert.quiescent_Kernel4 (hKernel4 := Cert.Kernel4.Gen.facts) (hPre_known_experts := Cert.Pre_known_experts.Gen.facts) := by
  intro m ρ hp
  obtain ⟨a, ha⟩ := Cert.Kernel4.Experts.tables_of m fun c k => (known _ _ _ _ _ _ (hp c) k).1
  exact Cert.Kernel4.Experts.frame a m ρ ha

/-- So does the idealized kernel. -/
theorem kernelIdeal_ends : Cert.quiescent_Kernel4Ideal (hKernel4Ideal := Cert.Kernel4Ideal.Gen.facts)
    (hPre_known_experts := Cert.Pre_known_experts.Gen.facts) := by
  intro m ρ hp
  obtain ⟨a, ha⟩ := Cert.Kernel4Ideal.Experts.tables_of m fun c k => (known _ _ _ _ _ _ (hp c) k).1
  exact Cert.Kernel4Ideal.Experts.frame a m ρ ha

/-- The reference runs to its end, keeps its arguments, and has no semaphore. -/
theorem reference_ends : Cert.quiescent_Reference4Ideal (hReference4Ideal := Cert.Reference4Ideal.Gen.facts)
    (hPre_known_experts := Cert.Pre_known_experts.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

set_option maxHeartbeats 2000000 in
theorem algebraic : Cert.algebraic_Kernel4Ideal_Reference4Ideal_on_used_blocks
    (hKernel4Ideal := Cert.Kernel4Ideal.Gen.facts) (hReference4Ideal := Cert.Reference4Ideal.Gen.facts)
    (hPre_known_experts := Cert.Pre_known_experts.Gen.facts) (hOn_used_blocks := Cert.On_used_blocks.Gen.facts) := by
  intro m g m' g' hp hagree
  obtain ⟨a, ha⟩ := Cert.Kernel4Ideal.Experts.tables_of m fun c k => (known _ _ _ _ _ _ (hp c) k).1
  refine ⟨fun c => (Cert.Kernel4Ideal.Experts.dats a m g 0 c).arrAt (4 : Fin 5) (Cert.Kernel4Ideal.Experts.cfgA a).N, ?_, ?_⟩
  · exact (θ_run Cert.Kernel4Ideal.defs _ _).mono
      (fun _ h c => ⟨fun i _ => congrFun ((h.1 c).1 (4 : Fin 5)) i, h.2 c⟩)
      (θ_run_and (Cert.Kernel4Ideal.Experts.run_main a m g ha) (Cert.Kernel4Ideal.Experts.unchanged a m g ha))
  · refine (θ_run Cert.Reference4Ideal.defs _ _).mono (fun _ h c => ⟨fun i hi => ?_, (h c).2⟩)
      (Cert.Reference4Ideal.Value.run (F := Ideal) m' g')
    obtain ⟨r, q, rfl⟩ : ∃ (r : Fin 655360) (q : Fin 128), i = ix2 r q := ⟨i 0, i 1, eq_ix2 i⟩
    obtain ⟨e0, e1, e2, e3, e4, e5⟩ := hagree c
    have hk := known _ _ _ _ _ _ (hp c)
    have hu := used_row _ _ _ _ _ _ r q hi
    refine (congrFun (h c).1 (ix2 r q)).trans ?_
    rw [e0, e2, e3, e4, e5]
    refine (Cert.ExpertsRef.result_apply _ _ _ _ _ (fun n => ⟨_, (hk (ix1 n)).1⟩) (fun n => (hk (ix1 n)).2) r q).trans ?_
    refine (Cert.Kernel4Ideal.Experts.final4 a m g c r q ⟨_, (hk (ix1 ⟨r.val / 4096, by omega⟩)).1⟩ ?_ ?_).symm
    · show (a.1 0 _ : BitVec 32).toNat = _
      rw [← ha.1 c]
    · show _ < (a.1 1 _ : BitVec 32).toInt
      rw [← ha.2 c]
      exact hu

end Cert.ExpertsClaim

end
-- ==== Proof.lean ====
/-
  The claims of the certificate, put together from the proofs of the four calls.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_logits
public import proofs.«01_k».proof.Proof.Gen.KernelIdeal.Value
public import proofs.«01_k».proof.Proof.Gen.ReferenceIdeal.Run
public import proofs.«01_k».proof.Proof.Route.Claim
public import proofs.«01_k».proof.Proof.Gen.Kernel2.Frame
public import proofs.«01_k».proof.Proof.Gen.Kernel2Ideal.Value
public import proofs.«01_k».proof.Proof.Gen.Reference2Ideal.Run
public import proofs.«01_k».proof.Proof.Inproj.Claim
public import proofs.«01_k».proof.Proof.Gen.Kernel3.Frame
public import proofs.«01_k».proof.Proof.Gen.Kernel3Ideal.Frame
public import proofs.«01_k».proof.Proof.Gen.Reference3Ideal.Run
public import proofs.«01_k».proof.Proof.Merge.Body
public import proofs.«01_k».proof.Proof.Merge.BodyBits
public import proofs.«01_k».proof.Proof.Merge.Claim
public import proofs.«01_k».proof.Proof.Experts.BitsRun
public import proofs.«01_k».proof.Proof.Experts.Run
public import proofs.«01_k».proof.Proof.Experts.Claim
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The reference runs to its end, keeps its argument, and has no semaphore. -/
theorem reference_ends : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The second call's reference runs to its end, keeps its arguments, and has no semaphore. -/
theorem reference2_ends : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The third call's reference runs to its end, keeps its arguments, and has no semaphore. -/
theorem reference3_ends : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Every claim of the statement: the programs end, keeping their arguments, and kernel and reference agree. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_logits.Gen.facts, Cert.Pre_known_experts.Gen.facts,
  Cert.RouteClaim.maskFacts, Cert.MergeClaim.maskFacts, Cert.On_used_blocks.Gen.facts,
  fun m ρ _ => Cert.Kernel.Gen.frame m ρ,
  fun m ρ _ => Cert.KernelIdeal.Gen.frame m ρ,
  fun m ρ _ => Cert.KernelIdeal.Gen.frame m ρ,
  reference_ends,
  fun m ρ _ => reference_ends m ρ trivial,
  fun m ρ _ => Cert.Kernel2.Gen.frame m ρ,
  fun m ρ _ => Cert.Kernel2Ideal.Gen.frame m ρ,
  reference2_ends,
  fun m ρ _ => Cert.Kernel3.Merge.frame m ρ,
  fun m ρ _ => Cert.Kernel3Ideal.Merge.frame m ρ,
  reference3_ends,
  Cert.ExpertsClaim.kernel_ends,
  Cert.ExpertsClaim.kernelIdeal_ends,
  Cert.ExpertsClaim.reference_ends,
  trivial,
  Cert.RouteClaim.algebraic,
  trivial,
  Cert.InprojClaim.algebraic,
  trivial,
  Cert.MergeClaim.algebraic,
  trivial,
  Cert.ExpertsClaim.algebraic⟩

end Cert.Proof

end
